-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_on_latent_rows_pre_finite [hKernelIdeal : Cert.KernelIdeal.Facts] [hReferenceIdeal : Cert.ReferenceIdeal.Facts] [hPre_finite : Cert.Pre_finite.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![33280, 1024]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![33280, 1024]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v29) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_on_latent_rows3 [hKernel3Ideal : Cert.Kernel3Ideal.Facts] [hReference3Ideal : Cert.Reference3Ideal.Facts] [hOn_latent_rows3 : Cert.On_latent_rows3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![33280, 7168]⟩ : Shape).Idx, (Cert.On_latent_rows3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 i = 1#1 → r.2.mem ((c.tc : Thread Cert.Kernel3Ideal.nD Cert.Kernel3Ideal.τ).loc Cert.Kernel3Ideal.main_v1_0) i = v0 c i)
          ∧ (∀ i : (⟨2, ![33280, 6144]⟩ : Shape).Idx, (Cert.On_latent_rows3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2 i = 1#1 → r.2.mem ((c.tc : Thread Cert.Kernel3Ideal.nD Cert.Kernel3Ideal.τ).loc Cert.Kernel3Ideal.main_v1_1) i = v1 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![33280, 7168]⟩ : Shape).Idx, (Cert.On_latent_rows3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 i = 1#1 → r.2.mem ((c.tc : Thread Cert.Reference3Ideal.nD Cert.Reference3Ideal.τ).loc Cert.Reference3Ideal.main_v39) i = v0 c i)
          ∧ (∀ i : (⟨2, ![33280, 6144]⟩ : Shape).Idx, (Cert.On_latent_rows3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2 i = 1#1 → r.2.mem ((c.tc : Thread Cert.Reference3Ideal.nD Cert.Reference3Ideal.τ).loc Cert.Reference3Ideal.main_v40) i = v1 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_on_latent_rows6 [hKernel6Ideal : Cert.Kernel6Ideal.Facts] [hReference6Ideal : Cert.Reference6Ideal.Facts] [hOn_latent_rows6 : Cert.On_latent_rows6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![33280, 2048]⟩ : Shape).Idx, (Cert.On_latent_rows6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) i = 1#1 → r.2.mem ((c.tc : Thread Cert.Kernel6Ideal.nD Cert.Kernel6Ideal.τ).loc Cert.Kernel6Ideal.main_v2) i = v0 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![33280, 2048]⟩ : Shape).Idx, (Cert.On_latent_rows6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) i = 1#1 → r.2.mem ((c.tc : Thread Cert.Reference6Ideal.nD Cert.Reference6Ideal.τ).loc Cert.Reference6Ideal.main_v38) i = v0 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hOn_latent_rows : Cert.On_latent_rows.Facts) (hOn_latent_rows3 : Cert.On_latent_rows3.Facts) (hOn_latent_rows6 : Cert.On_latent_rows6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_on_latent_rows_pre_finite (hKernelIdeal := hKernelIdeal) (hReferenceIdeal := hReferenceIdeal) (hPre_finite := hPre_finite) (hOn_latent_rows := hOn_latent_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_latent_rows3 (hKernel3Ideal := hKernel3Ideal) (hReference3Ideal := hReference3Ideal) (hOn_latent_rows3 := hOn_latent_rows3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_latent_rows6 (hKernel6Ideal := hKernel6Ideal) (hReference6Ideal := hReference6Ideal) (hOn_latent_rows6 := hOn_latent_rows6)
-- ==== On_latent_rows.lean ====
abbrev S2x8x192x16640 : Shape := ⟨4, ![2, 8, 192, 16640]⟩
abbrev S2x8x16640x192 : Shape := ⟨4, ![2, 8, 16640, 192]⟩
abbrev S2x8x128x16640 : Shape := ⟨4, ![2, 8, 128, 16640]⟩
abbrev S33280x1024 : Shape := ⟨2, ![33280, 1024]⟩
abbrev S_ : Shape := ⟨0, ![]⟩

class Facts : Prop where
  bcast_S_S33280x1024 : S_.BroadcastsInDim S33280x1024 (![] : Fin 0 → Fin S33280x1024.rank)

variable [Facts]

def fn {F : FTy → Type} [FloatOps F] (main_arg0 : FVec F S2x8x192x16640 .bf16) (main_arg1 : FVec F S2x8x16640x192 .bf16) (main_arg2 : FVec F S2x8x128x16640 .bf16) : IVec S33280x1024 1 :=
  let main_v0 : IVec S33280x1024 32 := iotaInDim S33280x1024 32 0
  let main_c : IVec S_ 32 := constantI S_ 32 32768#32
  let main_v1 : IVec S33280x1024 32 := broadcastInDim S33280x1024 ![] bcast_S_S33280x1024 main_c
  let main_v2 : IVec S33280x1024 1 := cmpi .slt main_v0 main_v1
  main_v2
-- ==== On_latent_rows3.lean ====
abbrev S32768x2048 : Shape := ⟨2, ![32768, 2048]⟩
abbrev S8x1x12288 : Shape := ⟨3, ![8, 1, 12288]⟩
abbrev S2048 : Shape := ⟨1, ![2048]⟩
abbrev S2048x13312 : Shape := ⟨2, ![2048, 13312]⟩
abbrev S33280x7168 : Shape := ⟨2, ![33280, 7168]⟩
abbrev S_ : Shape := ⟨0, ![]⟩
abbrev S33280x6144 : Shape := ⟨2, ![33280, 6144]⟩

class Facts : Prop where
  bcast_S_S33280x7168 : S_.BroadcastsInDim S33280x7168 (![] : Fin 0 → Fin S33280x7168.rank)
  bcast_S_S33280x6144 : S_.BroadcastsInDim S33280x6144 (![] : Fin 0 → Fin S33280x6144.rank)

variable [Facts]

def fn {F : FTy → Type} [FloatOps F] (main_arg0 : FVec F S32768x2048 .f32) (main_arg1 : FVec F S8x1x12288 .f32) (main_arg2 : FVec F S2048 .f32) (main_arg3 : FVec F S2048x13312 .bf16) : IVec S33280x7168 1 × IVec S33280x6144 1 :=
  let main_v0 : IVec S33280x7168 32 := iotaInDim S33280x7168 32 0
  let main_c : IVec S_ 32 := constantI S_ 32 32768#32
  let main_v1 : IVec S33280x7168 32 := broadcastInDim S33280x7168 ![] bcast_S_S33280x7168 main_c
  let main_v2 : IVec S33280x7168 1 := cmpi .slt main_v0 main_v1
  let main_v3 : IVec S33280x6144 32 := iotaInDim S33280x6144 32 0
  let main_c_0 : IVec S_ 32 := constantI S_ 32 32768#32
  let main_v4 : IVec S33280x6144 32 := broadcastInDim S33280x6144 ![] bcast_S_S33280x6144 main_c_0
  let main_v5 : IVec S33280x6144 1 := cmpi .slt main_v3 main_v4
  (main_v2, main_v5)
-- ==== On_latent_rows6.lean ====
abbrev S33280x2048 : Shape := ⟨2, ![33280, 2048]⟩
abbrev S8x1x12288 : Shape := ⟨3, ![8, 1, 12288]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩

class Facts : Prop where
  bcast_S_S33280x2048 : S_.BroadcastsInDim S33280x2048 (![] : Fin 0 → Fin S33280x2048.rank)

variable [Facts]

def fn {F : FTy → Type} [FloatOps F] (main_arg0 : FVec F S33280x2048 .f32) (main_arg1 : FVec F S8x1x12288 .f32) (main_arg2 : FVec F S2048 .f32) (main_arg3 : FVec F S2048x8192 .bf16) (main_arg4 : FVec F S8192x2048 .bf16) (main_arg5 : FVec F S2048 .f32) : IVec S33280x2048 1 :=
  let main_v0 : IVec S33280x2048 32 := iotaInDim S33280x2048 32 0
  let main_c : IVec S_ 32 := constantI S_ 32 32768#32
  let main_v1 : IVec S33280x2048 32 := broadcastInDim S33280x2048 ![] bcast_S_S33280x2048 main_c
  let main_v2 : IVec S33280x2048 1 := cmpi .slt main_v0 main_v1
  main_v2
-- ==== Pre_finite.lean ====
abbrev S2x8x192x16640 : Shape := ⟨4, ![2, 8, 192, 16640]⟩
abbrev S2x8x16640x192 : Shape := ⟨4, ![2, 8, 16640, 192]⟩
abbrev S2x8x128x16640 : Shape := ⟨4, ![2, 8, 128, 16640]⟩
abbrev S_ : Shape := ⟨0, ![]⟩

class Facts : Prop where
  bitsLt_bf16_f32 : FTy.bits .bf16 < FTy.bits .f32
  bcast_S_S2x8x192x16640 : S_.BroadcastsInDim S2x8x192x16640 (![] : Fin 0 → Fin S2x8x192x16640.rank)
  reducesTo_S2x8x192x16640_S_d0_1_2_3 : S2x8x192x16640.ReducesTo [0, 1, 2, 3] S_
  h_S_ : 0 < S_.numel
  bcast_S_S2x8x16640x192 : S_.BroadcastsInDim S2x8x16640x192 (![] : Fin 0 → Fin S2x8x16640x192.rank)
  reducesTo_S2x8x16640x192_S_d0_1_2_3 : S2x8x16640x192.ReducesTo [0, 1, 2, 3] S_

variable [Facts]

def fn {F : FTy → Type} [FloatOps F] (main_arg0 : FVec F S2x8x192x16640 .bf16) (main_arg1 : FVec F S2x8x16640x192 .bf16) (main_arg2 : FVec F S2x8x128x16640 .bf16) : IVec S_ 1 :=
  let main_v0 : FVec F S2x8x192x16640 .f32 := (extf .f32 · bitsLt_bf16_f32) main_arg0
  let main_v1 : FVec F S2x8x192x16640 .f32 := Host.absf main_v0
  let main_v2 : FVec F S2x8x16640x192 .f32 := (extf .f32 · bitsLt_bf16_f32) main_arg1
  let main_v3 : FVec F S2x8x16640x192 .f32 := Host.absf main_v2
  let main_cst : FVec F S_ .f32 := constant S_ .f32 0x7F800000#32
  let main_v4 : FVec F S2x8x192x16640 .f32 := broadcastInDim S2x8x192x16640 ![] bcast_S_S2x8x192x16640 main_cst
  let main_v5 : IVec S2x8x192x16640 1 := cmpf .olt main_v1 main_v4
  let main_c : IVec S_ 1 := constantI S_ 1 1#1
  let main_v6 : IVec S_ 1 := (fun x v => Host.reduce IntOp.andi x v reducesTo_S2x8x192x16640_S_d0_1_2_3 h_S_) main_v5 main_c
  let main_cst_0 : FVec F S_ .f32 := constant S_ .f32 0x7F800000#32
  let main_v7 : FVec F S2x8x16640x192 .f32 := broadcastInDim S2x8x16640x192 ![] bcast_S_S2x8x16640x192 main_cst_0
  let main_v8 : IVec S2x8x16640x192 1 := cmpf .olt main_v3 main_v7
  let main_c_1 : IVec S_ 1 := constantI S_ 1 1#1
  let main_v9 : IVec S_ 1 := (fun x v => Host.reduce IntOp.andi x v reducesTo_S2x8x16640x192_S_d0_1_2_3 h_S_) main_v8 main_c_1
  let main_v10 : IVec S_ 1 := andi main_v6 main_v9
  main_v10
-- ==== Kernel.lean ====
abbrev S2x8x192x16640 : Shape := ⟨4, ![2, 8, 192, 16640]⟩
abbrev S2x8x16640x192 : Shape := ⟨4, ![2, 8, 16640, 192]⟩
abbrev S2x8x128x16640 : Shape := ⟨4, ![2, 8, 128, 16640]⟩
abbrev S33280x1024 : Shape := ⟨2, ![33280, 1024]⟩
abbrev S1x1x192x1024 : Shape := ⟨4, ![1, 1, 192, 1024]⟩
abbrev S1x1x16640x192 : Shape := ⟨4, ![1, 1, 16640, 192]⟩
abbrev S1x1x128x16640 : Shape := ⟨4, ![1, 1, 128, 16640]⟩
abbrev S1024x128 : Shape := ⟨2, ![1024, 128]⟩
abbrev S2x1280x1024 : Shape := ⟨3, ![2, 1280, 1024]⟩
abbrev S192x1024 : Shape := ⟨2, ![192, 1024]⟩
abbrev S1x1024 : Shape := ⟨2, ![1, 1024]⟩
abbrev S128x1024 : Shape := ⟨2, ![128, 1024]⟩
abbrev S1x1x256x192 : Shape := ⟨4, ![1, 1, 256, 192]⟩
abbrev S256x192 : Shape := ⟨2, ![256, 192]⟩
abbrev S256x1024 : Shape := ⟨2, ![256, 1024]⟩
abbrev S1x256x1024 : Shape := ⟨3, ![1, 256, 1024]⟩
abbrev S1024 : Shape := ⟨1, ![1024]⟩
abbrev S1x1x768x192 : Shape := ⟨4, ![1, 1, 768, 192]⟩
abbrev S768x192 : Shape := ⟨2, ![768, 192]⟩
abbrev S768x1024 : Shape := ⟨2, ![768, 1024]⟩
abbrev S1x768x1024 : Shape := ⟨3, ![1, 768, 1024]⟩
abbrev S1x1x128x256 : Shape := ⟨4, ![1, 1, 128, 256]⟩
abbrev S128x256 : Shape := ⟨2, ![128, 256]⟩
abbrev S1x1x1280x192 : Shape := ⟨4, ![1, 1, 1280, 192]⟩
abbrev S1280x192 : Shape := ⟨2, ![1280, 192]⟩
abbrev S1280x1024 : Shape := ⟨2, ![1280, 1024]⟩
abbrev S1x1280x1024 : Shape := ⟨3, ![1, 1280, 1024]⟩
abbrev S1x1x128x768 : Shape := ⟨4, ![1, 1, 128, 768]⟩
abbrev S128x768 : Shape := ⟨2, ![128, 768]⟩
abbrev S1x1x128x1280 : Shape := ⟨4, ![1, 1, 128, 1280]⟩
abbrev S128x1280 : Shape := ⟨2, ![128, 1280]⟩

abbrev nBuf : Space → Nat
  | .hbm => 4
  | .vmem => 9
  | .smem => 0
  | _ => 0

abbrev bufTy : (tb : Table) → Fin (tcTables nBuf tb) → BufTy
  | .hbm, ⟨0, _⟩ => ⟨S2x8x192x16640, .bf16⟩
  | .hbm, ⟨1, _⟩ => ⟨S2x8x16640x192, .bf16⟩
  | .hbm, ⟨2, _⟩ => ⟨S2x8x128x16640, .bf16⟩
  | .hbm, ⟨3, _⟩ => ⟨S33280x1024, .bf16⟩
  | .local _ .vmem, ⟨0, _⟩ => ⟨S1x1x192x1024, .bf16⟩
  | .local _ .vmem, ⟨1, _⟩ => ⟨S1x1x192x1024, .bf16⟩
  | .local _ .vmem, ⟨2, _⟩ => ⟨S1x1x16640x192, .bf16⟩
  | .local _ .vmem, ⟨3, _⟩ => ⟨S1x1x16640x192, .bf16⟩
  | .local _ .vmem, ⟨4, _⟩ => ⟨S1x1x128x16640, .bf16⟩
  | .local _ .vmem, ⟨5, _⟩ => ⟨S1x1x128x16640, .bf16⟩
  | .local _ .vmem, ⟨6, _⟩ => ⟨S1024x128, .bf16⟩
  | .local _ .vmem, ⟨7, _⟩ => ⟨S1024x128, .bf16⟩
  | .local _ .vmem, ⟨8, _⟩ => ⟨S2x1280x1024, .f32⟩
  | _, _ => ⟨S2x8x192x16640, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32 : BitVec 32 := 0#32
  let c5_i32 : BitVec 32 := 5#32
  let v67 : BitVec 32 := Scalar.addi c0_i32 c5_i32
  let c1_i32 : BitVec 32 := 1#32
  ⟨c0_i32, v67, c1_i32⟩
def k0_mult1 (k0_t1 : Fin k0_t1_loop.trips) : BitVec 32 :=
  let c768_i32 : BitVec 32 := 768#32
  let c2_i32 : BitVec 32 := 2#32
  let c0_i32 : BitVec 32 := 0#32
  let c1_i32 : BitVec 32 := 1#32
  let arg8 : BitVec 32 := Scf.iv c0_i32 c1_i32 k0_t1
  let v147 : BitVec 32 := Scalar.muli c2_i32 arg8
  let c1280_i32 : BitVec 32 := 1280#32
  let v148 : BitVec 32 := Scalar.muli v147 c1280_i32
  let v149 : BitVec 32 := Scalar.addi c768_i32 v148
  v149
def k0_off1 (k0_t1 : Fin k0_t1_loop.trips) (c1280_i32_92 : BitVec 32) : Fin 4 → Nat :=
  let c0_93 : Index := 0#32
  let c0_94 : Index := 0#32
  let c768_i32 : BitVec 32 := 768#32
  let c2_i32 : BitVec 32 := 2#32
  let c0_i32 : BitVec 32 := 0#32
  let c1_i32 : BitVec 32 := 1#32
  let arg8 : BitVec 32 := Scf.iv c0_i32 c1_i32 k0_t1
  let v147 : BitVec 32 := Scalar.muli c2_i32 arg8
  let c1280_i32 : BitVec 32 := 1280#32
  let v148 : BitVec 32 := Scalar.muli v147 c1280_i32
  let v149 : BitVec 32 := Scalar.addi c768_i32 v148
  let v150 : BitVec 32 := v149
  let v151 : BitVec 32 := Scalar.addi v150 c1280_i32_92
  let v152 : Index := Scalar.indexCast v151
  let c0_95 : Index := 0#32
  ![0, 0, v152.toNat, 0]
def k0_off2 (k0_t1 : Fin k0_t1_loop.trips) : Fin 4 → Nat :=
  let c0_104 : Index := 0#32
  let c0_105 : Index := 0#32
  let c0_106 : Index := 0#32
  let c768_i32 : BitVec 32 := 768#32
  let c2_i32 : BitVec 32 := 2#32
  let c0_i32 : BitVec 32 := 0#32
  let c1_i32 : BitVec 32 := 1#32
  let arg8 : BitVec 32 := Scf.iv c0_i32 c1_i32 k0_t1
  let v147 : BitVec 32 := Scalar.muli c2_i32 arg8
  let c1280_i32 : BitVec 32 := 1280#32
  let v148 : BitVec 32 := Scalar.muli v147 c1280_i32
  let v149 : BitVec 32 := Scalar.addi c768_i32 v148
  let v150 : BitVec 32 := v149
  let v169 : Index := Scalar.indexCast v150
  ![0, 0, 0, v169.toNat]
def k0_off3 (k0_t1 : Fin k0_t1_loop.trips) : Fin 4 → Nat :=
  let c0_121 : Index := 0#32
  let c0_122 : Index := 0#32
  let c0_123 : Index := 0#32
  let c768_i32 : BitVec 32 := 768#32
  let c2_i32 : BitVec 32 := 2#32
  let c0_i32 : BitVec 32 := 0#32
  let c1_i32 : BitVec 32 := 1#32
  let arg8 : BitVec 32 := Scf.iv c0_i32 c1_i32 k0_t1
  let v147 : BitVec 32 := Scalar.muli c2_i32 arg8
  let c1280_i32 : BitVec 32 := 1280#32
  let v148 : BitVec 32 := Scalar.muli v147 c1280_i32
  let v149 : BitVec 32 := Scalar.addi c768_i32 v148
  let v150 : BitVec 32 := v149
  let c1280_i32_117 : BitVec 32 := 1280#32
  let v191 : BitVec 32 := Scalar.addi v150 c1280_i32_117
  let v200 : Index := Scalar.indexCast v191
  ![0, 0, 0, v200.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, arg1.toNat, c0_i32_0.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x1x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16640x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x16640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8x192x16640 : Shape := ⟨4, ![2, 8, 192, 16640]⟩
abbrev S2x8x16640x192 : Shape := ⟨4, ![2, 8, 16640, 192]⟩
abbrev S2x8x128x16640 : Shape := ⟨4, ![2, 8, 128, 16640]⟩
abbrev S_ : Shape := ⟨0, ![]⟩
abbrev S2x8x192x16384 : Shape := ⟨4, ![2, 8, 192, 16384]⟩
abbrev S2x8x16384x192 : Shape := ⟨4, ![2, 8, 16384, 192]⟩
abbrev S2x8x16384x16640 : Shape := ⟨4, ![2, 8, 16384, 16640]⟩
abbrev S2x8x16384 : Shape := ⟨3, ![2, 8, 16384]⟩
abbrev S2x8x16384x1 : Shape := ⟨4, ![2, 8, 16384, 1]⟩
abbrev S2x8x16384x128 : Shape := ⟨4, ![2, 8, 16384, 128]⟩
abbrev S2x16384x8x128 : Shape := ⟨4, ![2, 16384, 8, 128]⟩
abbrev S32768x1024 : Shape := ⟨2, ![32768, 1024]⟩
abbrev S512x1024 : Shape := ⟨2, ![512, 1024]⟩
abbrev S33280x1024 : Shape := ⟨2, ![33280, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x8x192x16640, .bf16⟩
  | .hbm, ⟨1, _⟩ => ⟨S2x8x16640x192, .bf16⟩
  | .hbm, ⟨2, _⟩ => ⟨S2x8x128x16640, .bf16⟩
  | .hbm, ⟨3, _⟩ => ⟨S_, .f32⟩
  | .hbm, ⟨4, _⟩ => ⟨S_, .f32⟩
  | .hbm, ⟨5, _⟩ => ⟨S2x8x192x16384, .bf16⟩
  | .hbm, ⟨6, _⟩ => ⟨S2x8x16384x192, .bf16⟩
  | .hbm, ⟨7, _⟩ => ⟨S2x8x16384x192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x8x16384x192, .f32⟩
  | .hbm, ⟨12, _⟩ => ⟨S2x8x16384x192, .f32⟩
  | .hbm, ⟨13, _⟩ => ⟨S2x8x16640x192, .f32⟩
  | .hbm, ⟨14, _⟩ => ⟨S2x8x16384x16640, .f32⟩
  | .hbm, ⟨15, _⟩ => ⟨S2x8x16384x16640, .f32⟩
  | .hbm, ⟨16, _⟩ => ⟨S2x8x16384x16640, .f32⟩
  | .hbm, ⟨17, _⟩ => ⟨S_, .f32⟩
  | .hbm, ⟨18, _⟩ => ⟨S2x8x16384, .f32⟩
  | .hbm, ⟨19, _⟩ => ⟨S_, .f32⟩
  | .hbm, ⟨20, _⟩ => ⟨S2x8x16384, .f32⟩
  | .hbm, ⟨21, _⟩ => ⟨S2x8x16384, .f32⟩
  | .hbm, ⟨22, _⟩ => ⟨S2x8x16384x1, .f32⟩
  | .hbm, ⟨23, _⟩ => ⟨S2x8x16384x16640, .f32⟩
  | .hbm, ⟨24, _⟩ => ⟨S2x8x16384x16640, .f32⟩
  | .hbm, ⟨25, _⟩ => ⟨S2x8x16384x16640, .f32⟩
  | .hbm, ⟨26, _⟩ => ⟨S_, .f32⟩
  | .hbm, ⟨27, _⟩ => ⟨S2x8x16384, .f32⟩
  | .hbm, ⟨28, _⟩ => ⟨S2x8x16384x1, .f32⟩
  | .hbm, ⟨29, _⟩ => ⟨S2x8x16384x16640, .f32⟩
  | .hbm, ⟨30, _⟩ => ⟨S2x8x16384x16640, .f32⟩
  | .hbm, ⟨31, _⟩ => ⟨S2x8x128x16640, .f32⟩
  | .hbm, ⟨32, _⟩ => ⟨S2x8x16384x128, .f32⟩
  | .hbm, ⟨33, _⟩ => ⟨S2x16384x8x128, .f32⟩
  | .hbm, ⟨34, _⟩ => ⟨S32768x1024, .f32⟩
  | .hbm, ⟨35, _⟩ => ⟨S32768x1024, .bf16⟩
  | .hbm, ⟨36, _⟩ => ⟨S_, .bf16⟩
  | .hbm, ⟨37, _⟩ => ⟨S512x1024, .bf16⟩
  | .hbm, ⟨38, _⟩ => ⟨S33280x1024, .bf16⟩
  | _, _ => ⟨S2x8x192x16640, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel2.lean ====
abbrev S32768x2048 : Shape := ⟨2, ![32768, 2048]⟩
abbrev S8x1x12288 : Shape := ⟨3, ![8, 1, 12288]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S1024x2048 : Shape := ⟨2, ![1024, 2048]⟩
abbrev S1x1x12288 : Shape := ⟨3, ![1, 1, 12288]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1x1x2048 : Shape := ⟨3, ![1, 1, 2048]⟩
abbrev S1024x512 : Shape := ⟨2, ![1024, 512]⟩

abbrev nBuf : Space → Nat
  | .hbm => 9
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S8x1x12288, .f32⟩
  | .hbm, ⟨2, _⟩ => ⟨S2048, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x12288, .f32⟩
  | .local _ .vmem, ⟨3, _⟩ => ⟨S1x1x12288, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c32768_i32 : BitVec 32 := 32768#32
  let v2 : BitVec 1 := Scalar.cmpi .slt v1 c32768_i32
  let c16384_i32 : BitVec 32 := 16384#32
  let v3 : BitVec 32 := Scalar.divsi v1 c16384_i32
  let c0_i32_0 : BitVec 32 := 0#32
  let v4 : BitVec 1 := Scalar.cmpi .sgt v1 c0_i32_0
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c0_i32_2 : BitVec 32 := 0#32
  let v9 : BitVec 1 := Scalar.cmpi .sgt c16384_i32 c0_i32_2
  let v10 : BitVec 32 := Scalar.extui v9
  let c0_i32_3 : BitVec 32 := 0#32
  let v11 : BitVec 1 := Scalar.cmpi .slt c16384_i32 c0_i32_3
  let v12 : BitVec 32 := Scalar.extui v11
  let v13 : BitVec 32 := Scalar.subi v10 v12
  let v14 : BitVec 1 := Scalar.cmpi .ne v8 v13
  let v15 : BitVec 32 := Scalar.remsi v1 c16384_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v2 v20 c0_i32_6
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x2048 : Shape := ⟨2, ![32768, 2048]⟩
abbrev S8x1x12288 : Shape := ⟨3, ![8, 1, 12288]⟩
abbrev S2048 : Shape := ⟨1, ![2048]⟩
abbrev S2048x8192 : Shape := ⟨2, ![2048, 8192]⟩
abbrev S8192x2048 : Shape := ⟨2, ![8192, 2048]⟩
abbrev S2x16384x2048 : Shape := ⟨3, ![2, 16384, 2048]⟩
abbrev S2x1x12288 : Shape := ⟨3, ![2, 1, 12288]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x8192 : Shape := ⟨3, ![2, 16384, 8192]⟩

abbrev nBuf : Space → Nat
  | .hbm => 65
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x1x12288, .f32⟩
  | .hbm, ⟨2, _⟩ => ⟨S2048, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S2x16384x2048, .f32⟩
  | .hbm, ⟨7, _⟩ => ⟨S2x1x12288, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x16384x2048, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x2048, .f32⟩
  | .hbm, ⟨26, _⟩ => ⟨S2x16384x2048, .f32⟩
  | .hbm, ⟨27, _⟩ => ⟨S1x1x2048, .f32⟩
  | .hbm, ⟨28, _⟩ => ⟨S2x16384x2048, .f32⟩
  | .hbm, ⟨29, _⟩ => ⟨S2x16384x2048, .f32⟩
  | .hbm, ⟨30, _⟩ => ⟨S_, .f32⟩
  | .hbm, ⟨31, _⟩ => ⟨S2x1x2048, .f32⟩
  | .hbm, ⟨32, _⟩ => ⟨S2x1x2048, .f32⟩
  | .hbm, ⟨33, _⟩ => ⟨S2x16384x2048, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S2048x8192, .f32⟩
  | .hbm, ⟨38, _⟩ => ⟨S2x16384x8192, .f32⟩
  | .hbm, ⟨39, _⟩ => ⟨S_, .f32⟩
  | .hbm, ⟨40, _⟩ => ⟨S2x16384x8192, .f32⟩
  | .hbm, ⟨41, _⟩ => ⟨S2x16384x8192, .f32⟩
  | .hbm, ⟨42, _⟩ => ⟨S2x16384x8192, .f32⟩
  | .hbm, ⟨43, _⟩ => ⟨S8192x2048, .f32⟩
  | .hbm, ⟨44, _⟩ => ⟨S2x16384x2048, .f32⟩
  | .hbm, ⟨45, _⟩ => ⟨S2x16384x2048, .f32⟩
  | .hbm, ⟨46, _⟩ => ⟨S2x16384x2048, .f32⟩
  | .hbm, ⟨47, _⟩ => ⟨S2x16384x2048, .f32⟩
  | .hbm, ⟨48, _⟩ => ⟨S2x16384x2048, .f32⟩
  | .hbm, ⟨49, _⟩ => ⟨S_, .f32⟩
  | .hbm, ⟨50, _⟩ => ⟨S2x16384, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S_, .f32⟩
  | .hbm, ⟨56, _⟩ => ⟨S2x16384x1, .f32⟩
  | .hbm, ⟨57, _⟩ => ⟨S2x16384x1, .f32⟩
  | .hbm, ⟨58, _⟩ => ⟨S2x16384x1, .f32⟩
  | .hbm, ⟨59, _⟩ => ⟨S2x16384x2048, .f32⟩
  | .hbm, ⟨60, _⟩ => ⟨S2x16384x2048, .f32⟩
  | .hbm, ⟨61, _⟩ => ⟨S1x1x2048, .f32⟩
  | .hbm, ⟨62, _⟩ => ⟨S2x16384x2048, .f32⟩
  | .hbm, ⟨63, _⟩ => ⟨S2x16384x2048, .f32⟩
  | .hbm, ⟨64, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel3.lean ====
abbrev S32768x2048 : Shape := ⟨2, ![32768, 2048]⟩
abbrev S8x1x12288 : Shape := ⟨3, ![8, 1, 12288]⟩
abbrev S2048 : Shape := ⟨1, ![2048]⟩
abbrev S2048x13312 : Shape := ⟨2, ![2048, 13312]⟩
abbrev S1x2048 : Shape := ⟨2, ![1, 2048]⟩
abbrev S33280x7168 : Shape := ⟨2, ![33280, 7168]⟩
abbrev S33280x6144 : Shape := ⟨2, ![33280, 6144]⟩
abbrev S1024x2048 : Shape := ⟨2, ![1024, 2048]⟩
abbrev S1x1x12288 : Shape := ⟨3, ![1, 1, 12288]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1x1x2048 : Shape := ⟨3, ![1, 1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S8x1x12288, .f32⟩
  | .hbm, ⟨2, _⟩ => ⟨S2048, .f32⟩
  | .hbm, ⟨3, _⟩ => ⟨S2048x13312, .bf16⟩
  | .hbm, ⟨4, _⟩ => ⟨S1x2048, .f32⟩
  | .hbm, ⟨5, _⟩ => ⟨S33280x7168, .f32⟩
  | .hbm, ⟨6, _⟩ => ⟨S33280x6144, .bf16⟩
  | .local _ .vmem, ⟨0, _⟩ => ⟨S1024x2048, .f32⟩
  | .local _ .vmem, ⟨1, _⟩ => ⟨S1024x2048, .f32⟩
  | .local _ .vmem, ⟨2, _⟩ => ⟨S1x1x12288, .f32⟩
  | .local _ .vmem, ⟨3, _⟩ => ⟨S1x1x12288, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 13], ![false, false]⟩

def k0_cond2 (i : grid0.Coords) : BitVec 1 :=
  let arg1 : BitVec 32 := BitVec.ofNat 32 (i 1).val
  let c7_i32 : BitVec 32 := 7#32
  let v3 : BitVec 1 := Scalar.cmpi .slt arg1 c7_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c7_i32_2 : BitVec 32 := 7#32
  let v6 : BitVec 1 := Scalar.cmpi .sge arg1 c7_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c32768_i32 : BitVec 32 := 32768#32
  let v2 : BitVec 1 := Scalar.cmpi .slt v1 c32768_i32
  let c16384_i32 : BitVec 32 := 16384#32
  let v3 : BitVec 32 := Scalar.divsi v1 c16384_i32
  let c0_i32_0 : BitVec 32 := 0#32
  let v4 : BitVec 1 := Scalar.cmpi .sgt v1 c0_i32_0
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c0_i32_2 : BitVec 32 := 0#32
  let v9 : BitVec 1 := Scalar.cmpi .sgt c16384_i32 c0_i32_2
  let v10 : BitVec 32 := Scalar.extui v9
  let c0_i32_3 : BitVec 32 := 0#32
  let v11 : BitVec 1 := Scalar.cmpi .slt c16384_i32 c0_i32_3
  let v12 : BitVec 32 := Scalar.extui v11
  let v13 : BitVec 32 := Scalar.subi v10 v12
  let v14 : BitVec 1 := Scalar.cmpi .ne v8 v13
  let v15 : BitVec 32 := Scalar.remsi v1 c16384_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v2 v20 c0_i32_6
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c6_i32 : BitVec 32 := 6#32
  let v1 : BitVec 32 := Scalar.minsi arg1 c6_i32
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c7_i32 : BitVec 32 := 7#32
  let v1 : BitVec 32 := Scalar.subi arg1 c7_i32
  let c0_i32_0 : BitVec 32 := 0#32
  let v2 : BitVec 32 := Scalar.maxsi v1 c0_i32_0
  let c0_i32_1 : BitVec 32 := 0#32
  ![v0.toNat, v2.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S32768x2048 : Shape := ⟨2, ![32768, 2048]⟩
abbrev S8x1x12288 : Shape := ⟨3, ![8, 1, 12288]⟩
abbrev S2048 : Shape := ⟨1, ![2048]⟩
abbrev S2048x13312 : Shape := ⟨2, ![2048, 13312]⟩
abbrev S2x1x12288 : Shape := ⟨3, ![2, 1, 12288]⟩
abbrev S2x1x2048 : Shape := ⟨3, ![2, 1, 2048]⟩
abbrev S2x16384x2048 : Shape := ⟨3, ![2, 16384, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x13312 : Shape := ⟨3, ![2, 16384, 13312]⟩
abbrev S32768x13312 : Shape := ⟨2, ![32768, 13312]⟩
abbrev S32768x6144 : Shape := ⟨2, ![32768, 6144]⟩
abbrev S32768x7168 : Shape := ⟨2, ![32768, 7168]⟩
abbrev S33280x7168 : Shape := ⟨2, ![33280, 7168]⟩
abbrev S33280x6144 : Shape := ⟨2, ![33280, 6144]⟩

abbrev nBuf : Space → Nat
  | .hbm => 55
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S8x1x12288, .f32⟩
  | .hbm, ⟨2, _⟩ => ⟨S2048, .f32⟩
  | .hbm, ⟨3, _⟩ => ⟨S2048x13312, .bf16⟩
  | .hbm, ⟨4, _⟩ => ⟨S2x1x12288, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x16384x2048, .f32⟩
  | .hbm, ⟨12, _⟩ => ⟨S2x16384x2048, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x2048, .f32⟩
  | .hbm, ⟨24, _⟩ => ⟨S2x16384x2048, .f32⟩
  | .hbm, ⟨25, _⟩ => ⟨S1x1x2048, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S2048x13312, .f32⟩
  | .hbm, ⟨36, _⟩ => ⟨S2x16384x13312, .f32⟩
  | .hbm, ⟨37, _⟩ => ⟨S32768x13312, .f32⟩
  | .hbm, ⟨38, _⟩ => ⟨S32768x6144, .f32⟩
  | .hbm, ⟨39, _⟩ => ⟨S32768x6144, .f32⟩
  | .hbm, ⟨40, _⟩ => ⟨S32768x6144, .f32⟩
  | .hbm, ⟨41, _⟩ => ⟨S_, .f32⟩
  | .hbm, ⟨42, _⟩ => ⟨S32768x6144, .f32⟩
  | .hbm, ⟨43, _⟩ => ⟨S32768x6144, .f32⟩
  | .hbm, ⟨44, _⟩ => ⟨S_, .f32⟩
  | .hbm, ⟨45, _⟩ => ⟨S32768x6144, .f32⟩
  | .hbm, ⟨46, _⟩ => ⟨S32768x6144, .f32⟩
  | .hbm, ⟨47, _⟩ => ⟨S32768x6144, .bf16⟩
  | .hbm, ⟨48, _⟩ => ⟨S32768x7168, .f32⟩
  | .hbm, ⟨49, _⟩ => ⟨S_, .i32⟩
  | .hbm, ⟨50, _⟩ => ⟨S_, .f32⟩
  | .hbm, ⟨51, _⟩ => ⟨S33280x7168, .f32⟩
  | .hbm, ⟨52, _⟩ => ⟨S_, .i32⟩
  | .hbm, ⟨53, _⟩ => ⟨S_, .bf16⟩
  | .hbm, ⟨54, _⟩ => ⟨S33280x6144, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c : Ref sig .tc := ⟨.hbm, 49, rfl⟩
abbrev main_call0_v0 : Ref sig .tc := ⟨.hbm, 50, rfl⟩
abbrev main_v39 : Ref sig .tc := ⟨.hbm, 51, rfl⟩
abbrev main_c_5 : Ref sig .tc := ⟨.hbm, 52, rfl⟩
abbrev main_call1_v0 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S33280x1024 : Shape := ⟨2, ![33280, 1024]⟩
abbrev S32768x1024 : Shape := ⟨2, ![32768, 1024]⟩
abbrev S33280x6144 : Shape := ⟨2, ![33280, 6144]⟩
abbrev S3x1024x2048 : Shape := ⟨3, ![3, 1024, 2048]⟩
abbrev S32768x2048 : Shape := ⟨2, ![32768, 2048]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 20
  | .smem => 0
  | _ => 0

abbrev bufTy : (tb : Table) → Fin (tcTables nBuf tb) → BufTy
  | .hbm, ⟨0, _⟩ => ⟨S33280x1024, .bf16⟩
  | .hbm, ⟨1, _⟩ => ⟨S32768x1024, .bf16⟩
  | .hbm, ⟨2, _⟩ => ⟨S32768x1024, .bf16⟩
  | .hbm, ⟨3, _⟩ => ⟨S33280x6144, .bf16⟩
  | .hbm, ⟨4, _⟩ => ⟨S3x1024x2048, .bf16⟩
  | .hbm, ⟨5, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S512x1024, .bf16⟩
  | .local _ .vmem, ⟨19, _⟩ => ⟨S512x1024, .bf16⟩
  | _, _ => ⟨S33280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference4Ideal.lean ====
abbrev S33280x1024 : Shape := ⟨2, ![33280, 1024]⟩
abbrev S32768x1024 : Shape := ⟨2, ![32768, 1024]⟩
abbrev S33280x6144 : Shape := ⟨2, ![33280, 6144]⟩
abbrev S3x1024x2048 : Shape := ⟨3, ![3, 1024, 2048]⟩
abbrev S32768x6144 : Shape := ⟨2, ![32768, 6144]⟩
abbrev S32768x3x2048 : Shape := ⟨3, ![32768, 3, 2048]⟩
abbrev S32768x1x2048 : Shape := ⟨3, ![32768, 1, 2048]⟩
abbrev S32768x2048 : Shape := ⟨2, ![32768, 2048]⟩
abbrev S1x1024x2048 : Shape := ⟨3, ![1, 1024, 2048]⟩
abbrev S1024x2048 : Shape := ⟨2, ![1024, 2048]⟩

abbrev nBuf : Space → Nat
  | .hbm => 34
  | .vmem => 0
  | .smem => 0
  | _ => 0

abbrev bufTy : (tb : Table) → Fin (tcTables nBuf tb) → BufTy
  | .hbm, ⟨0, _⟩ => ⟨S33280x1024, .bf16⟩
  | .hbm, ⟨1, _⟩ => ⟨S32768x1024, .bf16⟩
  | .hbm, ⟨2, _⟩ => ⟨S32768x1024, .bf16⟩
  | .hbm, ⟨3, _⟩ => ⟨S33280x6144, .bf16⟩
  | .hbm, ⟨4, _⟩ => ⟨S3x1024x2048, .bf16⟩
  | .hbm, ⟨5, _⟩ => ⟨S32768x6144, .bf16⟩
  | .hbm, ⟨6, _⟩ => ⟨S32768x6144, .f32⟩
  | .hbm, ⟨7, _⟩ => ⟨S32768x3x2048, .f32⟩
  | .hbm, ⟨8, _⟩ => ⟨S32768x1024, .bf16⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S3x1024x2048, .f32⟩
  | .hbm, ⟨13, _⟩ => ⟨S32768x1x2048, .f32⟩
  | .hbm, ⟨14, _⟩ => ⟨S32768x2048, .f32⟩
  | .hbm, ⟨15, _⟩ => ⟨S1x1024x2048, .f32⟩
  | .hbm, ⟨16, _⟩ => ⟨S1024x2048, .f32⟩
  | .hbm, ⟨17, _⟩ => ⟨S32768x2048, .f32⟩
  | .hbm, ⟨18, _⟩ => ⟨S32768x2048, .f32⟩
  | .hbm, ⟨19, _⟩ => ⟨S32768x1x2048, .f32⟩
  | .hbm, ⟨20, _⟩ => ⟨S32768x2048, .f32⟩
  | .hbm, ⟨21, _⟩ => ⟨S1x1024x2048, .f32⟩
  | .hbm, ⟨22, _⟩ => ⟨S1024x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x1x2048, .f32⟩
  | .hbm, ⟨27, _⟩ => ⟨S32768x2048, .f32⟩
  | .hbm, ⟨28, _⟩ => ⟨S1x1024x2048, .f32⟩
  | .hbm, ⟨29, _⟩ => ⟨S1024x2048, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S32768x2048, .bf16⟩
  | _, _ => ⟨S33280x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Kernel5.lean ====
abbrev S32768x2048 : Shape := ⟨2, ![32768, 2048]⟩
abbrev S2048x2048 : Shape := ⟨2, ![2048, 2048]⟩
abbrev S8x1x12288 : Shape := ⟨3, ![8, 1, 12288]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .bf16⟩
  | .hbm, ⟨3, _⟩ => ⟨S8x1x12288, .f32⟩
  | .hbm, ⟨4, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c32768_i32 : BitVec 32 := 32768#32
  let v2 : BitVec 1 := Scalar.cmpi .slt v1 c32768_i32
  let c16384_i32 : BitVec 32 := 16384#32
  let v3 : BitVec 32 := Scalar.divsi v1 c16384_i32
  let c0_i32_0 : BitVec 32 := 0#32
  let v4 : BitVec 1 := Scalar.cmpi .sgt v1 c0_i32_0
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c0_i32_2 : BitVec 32 := 0#32
  let v9 : BitVec 1 := Scalar.cmpi .sgt c16384_i32 c0_i32_2
  let v10 : BitVec 32 := Scalar.extui v9
  let c0_i32_3 : BitVec 32 := 0#32
  let v11 : BitVec 1 := Scalar.cmpi .slt c16384_i32 c0_i32_3
  let v12 : BitVec 32 := Scalar.extui v11
  let v13 : BitVec 32 := Scalar.subi v10 v12
  let v14 : BitVec 1 := Scalar.cmpi .ne v8 v13
  let v15 : BitVec 32 := Scalar.remsi v1 c16384_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v2 v20 c0_i32_6
  let c4_i32 : BitVec 32 := 4#32
  let v22 : BitVec 32 := Scalar.addi c4_i32 arg1
  let c0_i32_7 : BitVec 32 := 0#32
  let c0_i32_8 : BitVec 32 := 0#32
  ![v21.toNat, c0_i32_7.toNat, v22.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S32768x2048 : Shape := ⟨2, ![32768, 2048]⟩
abbrev S2048x2048 : Shape := ⟨2, ![2048, 2048]⟩
abbrev S8x1x12288 : Shape := ⟨3, ![8, 1, 12288]⟩
abbrev S2x1x12288 : Shape := ⟨3, ![2, 1, 12288]⟩
abbrev S2x1x2048 : Shape := ⟨3, ![2, 1, 2048]⟩
abbrev S2x16384x2048 : Shape := ⟨3, ![2, 16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .bf16⟩
  | .hbm, ⟨3, _⟩ => ⟨S8x1x12288, .f32⟩
  | .hbm, ⟨4, _⟩ => ⟨S2x1x12288, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S32768x2048, .f32⟩
  | .hbm, ⟨12, _⟩ => ⟨S2048x2048, .f32⟩
  | .hbm, ⟨13, _⟩ => ⟨S32768x2048, .f32⟩
  | .hbm, ⟨14, _⟩ => ⟨S2x16384x2048, .f32⟩
  | .hbm, ⟨15, _⟩ => ⟨S2x16384x2048, .f32⟩
  | .hbm, ⟨16, _⟩ => ⟨S2x16384x2048, .f32⟩
  | .hbm, ⟨17, _⟩ => ⟨S2x16384x2048, .f32⟩
  | .hbm, ⟨18, _⟩ => ⟨S2x16384x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel6.lean ====
abbrev S33280x2048 : Shape := ⟨2, ![33280, 2048]⟩
abbrev S8x1x12288 : Shape := ⟨3, ![8, 1, 12288]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S1024x2048 : Shape := ⟨2, ![1024, 2048]⟩
abbrev S1x1x12288 : Shape := ⟨3, ![1, 1, 12288]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1x1x2048 : Shape := ⟨3, ![1, 1, 2048]⟩
abbrev S1024x512 : Shape := ⟨2, ![1024, 512]⟩

abbrev nBuf : Space → Nat
  | .hbm => 9
  | .vmem => 13
  | .smem => 0
  | _ => 0

abbrev bufTy : (tb : Table) → Fin (tcTables nBuf tb) → BufTy
  | .hbm, ⟨0, _⟩ => ⟨S33280x2048, .f32⟩
  | .hbm, ⟨1, _⟩ => ⟨S8x1x12288, .f32⟩
  | .hbm, ⟨2, _⟩ => ⟨S2048, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S33280x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x12288, .f32⟩
  | .local _ .vmem, ⟨3, _⟩ => ⟨S1x1x12288, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1024_i32 : BitVec 32 := 1024#32
  let v1 : BitVec 32 := Scalar.muli v0 c1024_i32
  let c32768_i32 : BitVec 32 := 32768#32
  let v2 : BitVec 1 := Scalar.cmpi .slt v1 c32768_i32
  let c16384_i32 : BitVec 32 := 16384#32
  let v3 : BitVec 32 := Scalar.divsi v1 c16384_i32
  let c0_i32_0 : BitVec 32 := 0#32
  let v4 : BitVec 1 := Scalar.cmpi .sgt v1 c0_i32_0
  let v5 : BitVec 32 := Scalar.extui v4
  let c0_i32_1 : BitVec 32 := 0#32
  let v6 : BitVec 1 := Scalar.cmpi .slt v1 c0_i32_1
  let v7 : BitVec 32 := Scalar.extui v6
  let v8 : BitVec 32 := Scalar.subi v5 v7
  let c0_i32_2 : BitVec 32 := 0#32
  let v9 : BitVec 1 := Scalar.cmpi .sgt c16384_i32 c0_i32_2
  let v10 : BitVec 32 := Scalar.extui v9
  let c0_i32_3 : BitVec 32 := 0#32
  let v11 : BitVec 1 := Scalar.cmpi .slt c16384_i32 c0_i32_3
  let v12 : BitVec 32 := Scalar.extui v11
  let v13 : BitVec 32 := Scalar.subi v10 v12
  let v14 : BitVec 1 := Scalar.cmpi .ne v8 v13
  let v15 : BitVec 32 := Scalar.remsi v1 c16384_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v2 v20 c0_i32_6
  let c0_i32_7 : BitVec 32 := 0#32
  let c0_i32_8 : BitVec 32 := 0#32
  let c0_i32_9 : BitVec 32 := 0#32
  ![v21.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x12288 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference6Ideal.lean ====
abbrev S33280x2048 : Shape := ⟨2, ![33280, 2048]⟩
abbrev S8x1x12288 : Shape := ⟨3, ![8, 1, 12288]⟩
abbrev S2048 : Shape := ⟨1, ![2048]⟩
abbrev S2048x8192 : Shape := ⟨2, ![2048, 8192]⟩
abbrev S8192x2048 : Shape := ⟨2, ![8192, 2048]⟩
abbrev S32768x2048 : Shape := ⟨2, ![32768, 2048]⟩
abbrev S2x16384x2048 : Shape := ⟨3, ![2, 16384, 2048]⟩
abbrev S2x1x12288 : Shape := ⟨3, ![2, 1, 12288]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x8192 : Shape := ⟨3, ![2, 16384, 8192]⟩

abbrev nBuf : Space → Nat
  | .hbm => 53
  | .vmem => 0
  | .smem => 0
  | _ => 0

abbrev bufTy : (tb : Table) → Fin (tcTables nBuf tb) → BufTy
  | .hbm, ⟨0, _⟩ => ⟨S33280x2048, .f32⟩
  | .hbm, ⟨1, _⟩ => ⟨S8x1x12288, .f32⟩
  | .hbm, ⟨2, _⟩ => ⟨S2048, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S32768x2048, .f32⟩
  | .hbm, ⟨7, _⟩ => ⟨S2x16384x2048, .f32⟩
  | .hbm, ⟨8, _⟩ => ⟨S2x1x12288, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x16384x2048, .f32⟩
  | .hbm, ⟨16, _⟩ => ⟨S_, .f32⟩
  | .hbm, ⟨17, _⟩ => ⟨S2x16384, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S2x16384x1, .f32⟩
  | .hbm, ⟨26, _⟩ => ⟨S2x16384x2048, .f32⟩
  | .hbm, ⟨27, _⟩ => ⟨S2x16384x2048, .f32⟩
  | .hbm, ⟨28, _⟩ => ⟨S1x1x2048, .f32⟩
  | .hbm, ⟨29, _⟩ => ⟨S2x16384x2048, .f32⟩
  | .hbm, ⟨30, _⟩ => ⟨S2x16384x2048, .f32⟩
  | .hbm, ⟨31, _⟩ => ⟨S_, .f32⟩
  | .hbm, ⟨32, _⟩ => ⟨S2x1x2048, .f32⟩
  | .hbm, ⟨33, _⟩ => ⟨S2x1x2048, .f32⟩
  | .hbm, ⟨34, _⟩ => ⟨S2x16384x2048, .f32⟩
  | .hbm, ⟨35, _⟩ => ⟨S2x16384x2048, .f32⟩
  | .hbm, ⟨36, _⟩ => ⟨S2x16384x2048, .f32⟩
  | .hbm, ⟨37, _⟩ => ⟨S2x16384x2048, .f32⟩
  | .hbm, ⟨38, _⟩ => ⟨S2048x8192, .f32⟩
  | .hbm, ⟨39, _⟩ => ⟨S2x16384x8192, .f32⟩
  | .hbm, ⟨40, _⟩ => ⟨S_, .f32⟩
  | .hbm, ⟨41, _⟩ => ⟨S2x16384x8192, .f32⟩
  | .hbm, ⟨42, _⟩ => ⟨S2x16384x8192, .f32⟩
  | .hbm, ⟨43, _⟩ => ⟨S2x16384x8192, .f32⟩
  | .hbm, ⟨44, _⟩ => ⟨S8192x2048, .f32⟩
  | .hbm, ⟨45, _⟩ => ⟨S2x16384x2048, .f32⟩
  | .hbm, ⟨46, _⟩ => ⟨S2x16384x2048, .f32⟩
  | .hbm, ⟨47, _⟩ => ⟨S2x16384x2048, .f32⟩
  | .hbm, ⟨48, _⟩ => ⟨S2x16384x2048, .f32⟩
  | .hbm, ⟨49, _⟩ => ⟨S32768x2048, .f32⟩
  | .hbm, ⟨50, _⟩ => ⟨S_, .i32⟩
  | .hbm, ⟨51, _⟩ => ⟨S_, .f32⟩
  | .hbm, ⟨52, _⟩ => ⟨S33280x2048, .f32⟩
  | _, _ => ⟨S33280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_cst : Ref sig .tc := ⟨.hbm, 40, rfl⟩
abbrev main_call0_v0 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_call1_v0 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Proof.AttnBodyIdeal.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.VecWindow
public import Idealize.ShloMosaic.Lib.Pipeline.Value
public import Idealize.ShloMosaic.Lib.Pipeline.ValueKit.Tiles
public import Idealize.ShloMosaic.Lib.Tactic
public import Idealize.ShloMosaic.Lib.WordCmp

/-! # The attention body: what one grid point computes, and its triple

One grid point holds a block of 1024 queries, one head's keys and one head's values. It walks the keys in fifteen
chunks: while the scores of the next chunk are being formed and put in one of two slots of the scratch buffer, the
chunk before is read back from the other slot and folded into the running maximum, the running weighted sum of the
values and the running sum of the weights. Ten of the chunks are walked by a counted loop, two to a trip.

`out` writes that down as a function of the three blocks alone; `sound_kernel` proves that the printed body leaves
exactly this in the output's buffer. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The pieces of a block that are loaded -/

/-- The queries of the point, whole. -/
def qs (x0 : Vec F S1x1x192x1024 .bf16) : Vec F S1x1x192x1024 .bf16 :=
  View.ld x0 (Rect.unit (s := S1x1x192x1024) ![0, 0, 0, 0] S1x1x192x1024.size inb_S1x1x192x1024_S1x1x192x1024_0_0_0_0)

theorem inbK {n o : ℕ} (h : o + n ≤ 16640) : ∀ a, (![0, 0, o, 0] : Fin 4 → ℕ) a + (![1, 1, n, 192] : Fin 4 → ℕ) a ≤ S1x1x16640x192.size a := by
  intro a; fin_cases a
  · exact (by decide : 0 + 1 ≤ 1)
  · exact (by decide : 0 + 1 ≤ 1)
  · exact h
  · exact (by decide : 0 + 192 ≤ 192)

theorem inbV {n o : ℕ} (h : o + n ≤ 16640) : ∀ a, (![0, 0, 0, o] : Fin 4 → ℕ) a + (![1, 1, 128, n] : Fin 4 → ℕ) a ≤ S1x1x128x16640.size a := by
  intro a; fin_cases a
  · exact (by decide : 0 + 1 ≤ 1)
  · exact (by decide : 0 + 1 ≤ 1)
  · exact (by decide : 0 + 128 ≤ 128)
  · exact h

/-- The 1280 keys from `o` on. -/
def keys (x1 : Vec F S1x1x16640x192 .bf16) (o : ℕ) (h : o + 1280 ≤ 16640) : Vec F S1x1x1280x192 .bf16 :=
  View.ld x1 (Rect.unit (s := S1x1x16640x192) ![0, 0, o, 0] S1x1x1280x192.size (inbK h))
/-- The 768 keys from `o` on. -/
def keys768 (x1 : Vec F S1x1x16640x192 .bf16) (o : ℕ) (h : o + 768 ≤ 16640) : Vec F S1x1x768x192 .bf16 :=
  View.ld x1 (Rect.unit (s := S1x1x16640x192) ![0, 0, o, 0] S1x1x768x192.size (inbK h))
/-- The 256 keys from `o` on. -/
def keys256 (x1 : Vec F S1x1x16640x192 .bf16) (o : ℕ) (h : o + 256 ≤ 16640) : Vec F S1x1x256x192 .bf16 :=
  View.ld x1 (Rect.unit (s := S1x1x16640x192) ![0, 0, o, 0] S1x1x256x192.size (inbK h))
/-- The values of the 1280 keys from `o` on. -/
def vals (x2 : Vec F S1x1x128x16640 .bf16) (o : ℕ) (h : o + 1280 ≤ 16640) : Vec F S1x1x128x1280 .bf16 :=
  View.ld x2 (Rect.unit (s := S1x1x128x16640) ![0, 0, 0, o] S1x1x128x1280.size (inbV h))
/-- The values of the 768 keys from `o` on. -/
def vals768 (x2 : Vec F S1x1x128x16640 .bf16) (o : ℕ) (h : o + 768 ≤ 16640) : Vec F S1x1x128x768 .bf16 :=
  View.ld x2 (Rect.unit (s := S1x1x128x16640) ![0, 0, 0, o] S1x1x128x768.size (inbV h))
/-- The values of the 256 keys from `o` on. -/
def vals256 (x2 : Vec F S1x1x128x16640 .bf16) (o : ℕ) (h : o + 256 ≤ 16640) : Vec F S1x1x128x256 .bf16 :=
  View.ld x2 (Rect.unit (s := S1x1x128x16640) ![0, 0, 0, o] S1x1x128x256.size (inbV h))

/-! ## The running state -/

/-- What the loop carries: running maximum, weighted sum of values, sum of weights, and the column maximum of the
    chunk whose scores are waiting. -/
abbrev Carry (F : FTy → Type) := FVec F S1x1024 .f32 × FVec F S128x1024 .f32 × FVec F S1x1024 .f32 × FVec F S1x1024 .f32

/-- The carried values together with the waiting chunk's scores. -/
abbrev State (F : FTy → Type) := Carry F × Vec F S1x1280x1024 .f32

/-- One trip: the waiting chunk is folded in, then the chunk at `o1`; the scores of the chunk at `o1 + 1280` are left
    waiting. `o0` is where the waiting chunk lies. -/
def step (x0 : Vec F S1x1x192x1024 .bf16) (x1 : Vec F S1x1x16640x192 .bf16) (x2 : Vec F S1x1x128x16640 .bf16)
    (o : ℕ) (h : o + 3840 ≤ 16640) (s : State F) : State F :=
  let v1 := k0_pay10 (qs x0)
  let A := keys x1 (o + 1280) (by omega)
  let B := keys x1 (o + 2560) (by omega)
  let m := s.1.1
  let a := s.1.2.1
  let l := s.1.2.2.1
  let cm := s.1.2.2.2
  let ca := k0_pay4 v1 A
  let m1 := k0_pay5 m cm
  let a1 := k0_pay8 m a cm s.2 (vals x2 o (by omega))
  let l1 := k0_pay9 m l cm s.2
  ((k0_pay34 ca m1, k0_pay37 ca m1 a1 (k0_pay3 v1 A) (vals x2 (o + 1280) (by omega)), k0_pay38 ca m1 l1 (k0_pay3 v1 A), k0_pay33 v1 B), k0_pay32 v1 B)

/-- The state before trip `k`, from the state `s` before the first. -/
def st (x0 : Vec F S1x1x192x1024 .bf16) (x1 : Vec F S1x1x16640x192 .bf16) (x2 : Vec F S1x1x128x16640 .bf16) (s : State F) : ℕ → State F
  | 0 => s
  | k + 1 => if h : k < 5 then step x0 x1 x2 (768 + 2560 * k) (by omega) (st x0 x1 x2 s k) else st x0 x1 x2 s k

theorem st_succ (x0 : Vec F S1x1x192x1024 .bf16) (x1 : Vec F S1x1x16640x192 .bf16) (x2 : Vec F S1x1x128x16640 .bf16) (s : State F) (k : ℕ) (h : k < 5) :
    st x0 x1 x2 s (k + 1) = step x0 x1 x2 (768 + 2560 * k) (by omega) (st x0 x1 x2 s k) := by
  rw [st]; exact dif_pos h

/-- The state before the loop: the first two chunks folded in, the third's scores waiting. -/
def start (x0 : Vec F S1x1x192x1024 .bf16) (x1 : Vec F S1x1x16640x192 .bf16) (x2 : Vec F S1x1x128x16640 .bf16) : State F :=
  let X := qs x0
  let v1 := k0_pay10 X
  let c := keys256 x1 16384 (by omega)
  let d := keys768 x1 0 (by omega)
  let e := keys x1 768 (by omega)
  let v20 := k0_pay18 X d
  let v21 := k0_pay19 X c
  let v26 := k0_pay20 X c (k0_pay15 X c)
  ((k0_pay26 v20 v21,
    k0_pay29 k0_pay11 k0_pay12 v20 v21 v26 (vals256 x2 16384 (by omega)) (k0_pay17 X d) (vals768 x2 0 (by omega)),
    k0_pay30 (k0_pay22 k0_pay11 k0_pay13 v21 v26) (k0_pay27 v20 v21 (k0_pay17 X d)) (k0_pay28 v20 v21),
    k0_pay25 v1 e), k0_pay24 v1 e)

/-- The output block from the state after the loop: the last three chunks folded in, the weighted sum divided by the
    sum of the weights, transposed. -/
def finish (x0 : Vec F S1x1x192x1024 .bf16) (x1 : Vec F S1x1x16640x192 .bf16) (x2 : Vec F S1x1x128x16640 .bf16) (s : State F) : Vec F S1024x128 .bf16 :=
  let v1 := k0_pay10 (qs x0)
  let A := keys x1 14848 (by omega)
  let B := keys256 x1 16128 (by omega)
  let m := s.1.1
  let a := s.1.2.1
  let l := s.1.2.2.1
  let cm := s.1.2.2.2
  let v76 := k0_pay41 v1 A
  let v77 := k0_pay42 m cm
  let v91 := k0_pay45 m a cm s.2 (vals x2 13568 (by omega))
  let v95 := k0_pay46 m l cm s.2
  k0_pay1 (k0_pay52 v76 v77 v91 (k0_pay40 v1 A) (vals x2 14848 (by omega))) (k0_pay53 v76 v77 v95 (k0_pay40 v1 A))
    (k0_pay55 v1 v76 v77 B (k0_pay48 v1 B)) (k0_pay56 v1 v76 v77 B) (k0_pay57 (vals256 x2 16128 (by omega)))

/-- The output block of a grid point, from its blocks of queries, keys and values. -/
def out (x0 : Vec F S1x1x192x1024 .bf16) (x1 : Vec F S1x1x16640x192 .bf16) (x2 : Vec F S1x1x128x16640 .bf16) : Vec F S1024x128 .bf16 :=
  finish x0 x1 x2 (st x0 x1 x2 (start x0 x1 x2) 5)

/-! ## The loop -/

/-- Slot 0 of the scratch buffer. -/
abbrev slot0 : Rect S2x1280x1024 := Rect.unit (s := S2x1280x1024) ![0, 0, 0] S1x1280x1024.size inb_S2x1280x1024_S1x1280x1024_0_0_0
/-- Slot 1 of the scratch buffer. -/
abbrev slot1 : Rect S2x1280x1024 := Rect.unit (s := S2x1280x1024) ![1, 0, 0] S1x1280x1024.size inb_S2x1280x1024_S1x1280x1024_1_0_0

/-- Before trip `k`: the keys and values as they are, the scratch's slot 0 holding the waiting scores, the carried
    values those of `st`. -/
def inv (c : Dev nD) (arg4 : Memref sig .tc .vmem S1x1x16640x192 .bf16) (arg5 : Memref sig .tc .vmem S1x1x128x16640 .bf16) (arg7 : Memref sig .tc .vmem S2x1280x1024 .f32)
    (x0 : Vec F S1x1x192x1024 .bf16) (f1 : BufTy.Contents (Elt F) arg4.view.ty) (f2 : BufTy.Contents (Elt F) arg5.view.ty) (s : State F) (k : ℕ) (acc : Carry F) : sProp 𝕄 :=
  iprop((arg4.view.loc (c : Thread nD τ) ↦[arg4.view.set]{fullShare} f1) ∗ (arg5.view.loc (c : Thread nD τ) ↦[arg5.view.set]{fullShare} f2)
    ∗ (∃ f7 : BufTy.Contents (Elt F) arg7.view.ty, (arg7.view.loc (c : Thread nD τ) ↦[arg7.view.set]{fullShare} f7)
        ∗ ⌜arg7.view.readAt (Elt F) slot0.toLoadRect f7 = (st x0 (arg4.view.read (Elt F) f1) (arg5.view.read (Elt F) f2) s k).2⌝)
    ∗ ⌜acc = (st x0 (arg4.view.read (Elt F) f1) (arg5.view.read (Elt F) f2) s k).1⌝)

/-! The offsets the loop's words come to. -/

theorem off1_a (k : Fin k0_t1_loop.trips) : k0_off1 k 1280#32 = ![0, 0, 768 + 2560 * k.val + 1280, 0] := by
  rw [show k0_off1 k 1280#32 = ![0, 0, 2560 * k.val + 1280 * 0 + 2048, 0] from k0_off1_eq k ⟨0, by decide⟩,
    show 2560 * k.val + 1280 * 0 + 2048 = 768 + 2560 * k.val + 1280 by omega]

theorem off1_b (k : Fin k0_t1_loop.trips) : k0_off1 k 2560#32 = ![0, 0, 768 + 2560 * k.val + 2560, 0] := by
  rw [show k0_off1 k 2560#32 = ![0, 0, 2560 * k.val + 1280 * 1 + 2048, 0] from k0_off1_eq k ⟨1, by decide⟩,
    show 2560 * k.val + 1280 * 1 + 2048 = 768 + 2560 * k.val + 2560 by omega]

theorem off2 (k : Fin k0_t1_loop.trips) : k0_off2 k = ![0, 0, 0, 768 + 2560 * k.val] := by
  rw [k0_off2_eq, show 2560 * k.val + 768 = 768 + 2560 * k.val by omega]

theorem off3 (k : Fin k0_t1_loop.trips) : k0_off3 k = ![0, 0, 0, 768 + 2560 * k.val + 1280] := by
  rw [k0_off3_eq, show 2560 * k.val + 2048 = 768 + 2560 * k.val + 1280 by omega]

theorem load_a {κ sp} (v : View sig κ sp S1x1x16640x192 .bf16) (f : v.ty.Contents (Elt F)) (k : Fin k0_t1_loop.trips) (h) (h' : 768 + 2560 * k.val + 1280 + 1280 ≤ 16640) :
    v.readAt (Elt F) (Rect.unit (s := S1x1x16640x192) (k0_off1 k 1280#32) S1x1x1280x192.size h).toLoadRect f = keys (v.read (Elt F) f) (768 + 2560 * k.val + 1280) h' :=
  View.readAt_unit_congr v (off1_a k) h (inbK h') f
theorem load_b {κ sp} (v : View sig κ sp S1x1x16640x192 .bf16) (f : v.ty.Contents (Elt F)) (k : Fin k0_t1_loop.trips) (h) (h' : 768 + 2560 * k.val + 2560 + 1280 ≤ 16640) :
    v.readAt (Elt F) (Rect.unit (s := S1x1x16640x192) (k0_off1 k 2560#32) S1x1x1280x192.size h).toLoadRect f = keys (v.read (Elt F) f) (768 + 2560 * k.val + 2560) h' :=
  View.readAt_unit_congr v (off1_b k) h (inbK h') f
theorem load_2 {κ sp} (v : View sig κ sp S1x1x128x16640 .bf16) (f : v.ty.Contents (Elt F)) (k : Fin k0_t1_loop.trips) (h) (h' : 768 + 2560 * k.val + 1280 ≤ 16640) :
    v.readAt (Elt F) (Rect.unit (s := S1x1x128x16640) (k0_off2 k) S1x1x128x1280.size h).toLoadRect f = vals (v.read (Elt F) f) (768 + 2560 * k.val) h' :=
  View.readAt_unit_congr v (off2 k) h (inbV h') f
theorem load_3 {κ sp} (v : View sig κ sp S1x1x128x16640 .bf16) (f : v.ty.Contents (Elt F)) (k : Fin k0_t1_loop.trips) (h) (h' : 768 + 2560 * k.val + 1280 + 1280 ≤ 16640) :
    v.readAt (Elt F) (Rect.unit (s := S1x1x128x16640) (k0_off3 k) S1x1x128x1280.size h).toLoadRect f = vals (v.read (Elt F) f) (768 + 2560 * k.val + 1280) h' :=
  View.readAt_unit_congr v (off3 k) h (inbV h') f

/-- A load through the last store's own rectangle reads what was stored. -/
theorem readAt_hit {κ sp S e} (v : View sig κ sp S e) (f : v.ty.Contents (Elt F)) (r : Rect S) (w : r.shape.Idx → Elt F e) (L : List (View.Piece (Elt F) S e)) :
    v.readAt (Elt F) r.toLoadRect (v.writes (Elt F) f (⟨r, w⟩ :: L)) = w := by
  funext j
  rw [View.readAt_apply]
  exact View.read_writes_cons_hit v f r w L j _ rfl

/-- A load of `n` rows of one slot passes over a store to rows of the other. -/
theorem readCov_other {κ sp} (v : View sig κ sp S2x1280x1024 .f32) (i j n n' : ℕ) (hij : i ≠ j) (h : ∀ a, (![i, 0, 0] : Fin 3 → ℕ) a + (![1, n, 1024] : Fin 3 → ℕ) a ≤ S2x1280x1024.size a)
    (h' : ∀ a, (![j, 0, 0] : Fin 3 → ℕ) a + (![1, n', 1024] : Fin 3 → ℕ) a ≤ S2x1280x1024.size a)
    (w) (L : List (View.Piece (Elt F) S2x1280x1024 .f32)) :
    v.readCov (⟨Rect.unit (s := S2x1280x1024) ![j, 0, 0] ![1, n', 1024] h', w⟩ :: L) (Rect.unit (s := S2x1280x1024) ![i, 0, 0] ![1, n, 1024] h).toLoadRect
      = v.readCov L (Rect.unit (s := S2x1280x1024) ![i, 0, 0] ![1, n, 1024] h).toLoadRect := by
  rw [View.readCov_eq_canon', View.readCov_eq_canon']
  funext y
  refine View.canon_cons_of_not_mem _ _ (Rect.not_mem_set_of_axis _ _ (0 : Fin 3) j 1 rfl rfl rfl ?_)
  have e : ((Rect.unit (s := S2x1280x1024) ![i, 0, 0] ![1, n, 1024] h).toLoadRect.idx y (0 : Fin 3)).val = i + (y (0 : Fin 3)).val := Rect.idx_unit_val _ _ _ y 0
  have hy : (y (0 : Fin 3)).val < 1 := (y (0 : Fin 3)).isLt
  omega

set_option maxHeartbeats 4000000 in
/-- One trip of the loop. -/
theorem trip (c : Dev nD) (E : Set ℕ) (i : grid0.Coords) (arg3 : Memref sig .tc .vmem S1x1x192x1024 .bf16) (harg3 : arg3.IsWhole) (arg4 : Memref sig .tc .vmem S1x1x16640x192 .bf16) (harg4 : arg4.IsWhole) (arg5 : Memref sig .tc .vmem S1x1x128x16640 .bf16) (harg5 : arg5.IsWhole) (arg6 : Memref sig .tc .vmem S1024x128 .bf16) (harg6 : arg6.IsWhole) (arg7 : Memref sig .tc .vmem S2x1280x1024 .f32) (harg7 : arg7.IsWhole)
    (x0 : Vec F S1x1x192x1024 .bf16) (v39 : FVec F S1x1024 .f32) (v47 : FVec F S1x1024 .f32) (v48 : FVec F S1x1024 .f32) (v53 : FVec F S768x1024 .f32) (v55 : FVec F S1x1024 .f32) (v62 : FVec F S128x1024 .f32)
    (f1 : BufTy.Contents (Elt F) arg4.view.ty) (f2 : BufTy.Contents (Elt F) arg5.view.ty) (s : State F)
    (k : Fin k0_t1_loop.trips) (acc : Carry F) :
    inv c arg4 arg5 arg7 x0 f1 f2 s k.val acc ⊢ wp frame (wpE (defs₀ (F := F)) Variants.none (c : Thread nD τ) none) E (k0_t1_body (F := F) i arg3 harg3 arg4 harg4 arg5 harg5 arg6 harg6 arg7 harg7 (k0_pay10 (qs x0)) v39 v47 v48 v53 v55 v62 k acc)
      (inv c arg4 arg5 arg7 x0 f1 f2 s (k.val + 1)) := by
  have hk : k.val < 5 := Nat.lt_of_lt_of_le k.isLt k0_t1_abs.2.1
  unfold k0_t1_body inv
  iintro ⟨H1, H2, ⟨%f7, H7, %h7⟩, %hacc⟩
  sl_exec
  sl_step
  isplitl [H1]; · iexact H1
  isplitl [H2]; · iexact H2
  rw [st_succ _ _ _ _ _ hk]
  isplitl [H7]
  · iexists _
    isplitl [H7]; · iexact H7
    ipureintro
    unfold trip.sl.H7_2
    rw [readAt_hit, load_b arg4.view f1 k _ (by omega)]
    rfl
  · ipureintro
    unfold trip.sl.r_2 trip.sl.r_3 trip.sl.r_1 trip.sl.v193 trip.sl.r
    subst hacc
    have e : arg7.view.readCov (trip.sl.H7_2 arg4 x0 f1 k) slot1.toLoadRect = k0_pay3 (k0_pay10 (qs x0)) (keys (arg4.view.read (Elt F) f1) (768 + 2560 * k.val + 1280) (by omega)) := by
      unfold trip.sl.H7_2
      rw [← load_a arg4.view f1 k (k0_off1_inb k 0) (by omega)]
      exact (readCov_other arg7.view 1 0 1280 1280 (by decide) _ _ _ _).trans (View.readCov_cons_toLoadRect _ _ _ _)
    rw [e, load_a arg4.view f1 k _ (by omega), load_b arg4.view f1 k _ (by omega), load_2 arg5.view f2 k _ (by omega), load_3 arg5.view f2 k _ (by omega)]
    rfl

/-! ## The whole body -/

set_option maxHeartbeats 4000000 in
/-- The body on whole staging memrefs, the blocks of queries, keys and values at `x0`, `x1`, `x2` and the output's and
    the scratch at anything, leaves the inputs as they were and the output's buffer at `out x0 x1 x2`. -/
theorem sound_kernel (c : Dev nD) (E : Set ℕ) (i : grid0.Coords) (arg3 : Memref sig .tc .vmem S1x1x192x1024 .bf16) (harg3 : arg3.IsWhole) (arg4 : Memref sig .tc .vmem S1x1x16640x192 .bf16) (harg4 : arg4.IsWhole) (arg5 : Memref sig .tc .vmem S1x1x128x16640 .bf16) (harg5 : arg5.IsWhole) (arg6 : Memref sig .tc .vmem S1024x128 .bf16) (harg6 : arg6.IsWhole) (arg7 : Memref sig .tc .vmem S2x1280x1024 .f32) (harg7 : arg7.IsWhole)
    (x0 : Vec F S1x1x192x1024 .bf16) (x1 : Vec F S1x1x16640x192 .bf16) (x2 : Vec F S1x1x128x16640 .bf16) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out x0 x1 x2) ∗ (∃ d, owns (c : Thread nD τ) arg7 fullShare d)) -∗ K ⟨⟩))
      ⊢ wp frame (wpE (defs₀ (F := F)) Variants.none c none) E (cc0_mla_attn i arg3 harg3 arg4 harg4 arg5 harg5 arg6 harg6 arg7 harg7) K := by
  simp only [cc0_mla_attn_eq_skeleton]; unfold cc0_mla_attn_skel
  unfold owns
  iintro ⟨⟨%f0, %hf0, H0⟩, ⟨%f1, %hf1, H1⟩, ⟨%f2, %hf2, H2⟩, ⟨%d6, %f6, -, H6⟩, ⟨%d7, %f7, -, H7⟩, Hk⟩
  subst hf0 hf1 hf2
  sl_exec
  iapply (Scf.wp_for_bind _ _ _ _ _ _ _ _ _ (inv c arg4 arg5 arg7 (arg3.view.read (Elt F) f0) f1 f2 (start (arg3.view.read (Elt F) f0) (arg4.view.read (Elt F) f1) (arg5.view.read (Elt F) f2)))
    (trip c E i arg3 harg3 arg4 harg4 arg5 harg5 arg6 harg6 arg7 harg7 (arg3.view.read (Elt F) f0) _ _ _ _ _ _ f1 f2 _)) $$ [H1 H2 H7]
  · unfold inv
    isplitl [H1]; · iexact H1
    isplitl [H2]; · iexact H2
    isplitl [H7]
    · iexists _
      isplitl [H7]; · iexact H7
      ipureintro
      unfold sound_kernel.sl.H7_3
      rw [readAt_hit]
      rfl
    ipureintro
    have e22 : sound_kernel.sl.v22 c arg3 arg4 arg7 f0 f1 = k0_pay15 (qs (arg3.view.read (Elt F) f0)) (keys256 (arg4.view.read (Elt F) f1) 16384 (by omega)) := by
      unfold sound_kernel.sl.v22 sound_kernel.sl.H7_2
      exact (readCov_other arg7.view 0 1 256 768 (by decide) _ _ _ _).trans (View.readCov_cons_toLoadRect _ _ _ _)
    have e49 : sound_kernel.sl.v49 c arg3 arg4 arg7 f0 f1 = k0_pay17 (qs (arg3.view.read (Elt F) f0)) (keys768 (arg4.view.read (Elt F) f1) 0 (by omega)) := by
      unfold sound_kernel.sl.v49 sound_kernel.sl.H7_3 sound_kernel.sl.H7_2
      exact (readCov_other arg7.view 1 0 768 1280 (by decide) _ _ _ _).trans (View.readCov_cons_toLoadRect _ _ _ _)
    unfold sound_kernel.sl.r_9 sound_kernel.sl.r_8 sound_kernel.sl.r_7 sound_kernel.sl.r_6 sound_kernel.sl.r_5 sound_kernel.sl.r_4
    unfold sound_kernel.sl.r_3 sound_kernel.sl.r_2 sound_kernel.sl.r_1 sound_kernel.sl.r
    rw [e22, e49]
    rfl
  rw [show Scf.trips k0_t1_loop.lb k0_t1_loop.ub k0_t1_loop.st = 5 by decide +kernel]
  unfold inv
  iintro %acc ⟨H1, H2, ⟨%f7', H7, %h7⟩, %hacc⟩
  subst hacc
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H6]
  · iexists _; isplitr
    swap; · iexact H6
    ipureintro
    refine (View.read_writes_full arg6.view f6 inb_S1024x128_S1024x128_0_0 _ _).trans ?_
    have e105 : sound_kernel.sl.v105 c arg3 arg4 arg7 f0 f1 = k0_pay40 (k0_pay10 (qs (arg3.view.read (Elt F) f0))) (keys (arg4.view.read (Elt F) f1) 14848 (by omega)) := by
      unfold sound_kernel.sl.v105 sound_kernel.sl.H7_2_1
      exact (readCov_other arg7.view 1 0 1280 256 (by decide) _ _ _ _).trans (View.readCov_cons_toLoadRect _ _ _ _)
    have e124 : sound_kernel.sl.v124 c arg3 arg4 arg7 f0 f1 = k0_pay48 (k0_pay10 (qs (arg3.view.read (Elt F) f0))) (keys256 (arg4.view.read (Elt F) f1) 16128 (by omega)) := by
      unfold sound_kernel.sl.v124 sound_kernel.sl.H7_2_1
      exact View.readCov_cons_toLoadRect _ _ _ _
    unfold sound_kernel.sl.r_14 sound_kernel.sl.r_15 sound_kernel.sl.r_16 sound_kernel.sl.r_17 sound_kernel.sl.r_18
    unfold sound_kernel.sl.r_13 sound_kernel.sl.r_12 sound_kernel.sl.r_11 sound_kernel.sl.r_10 sound_kernel.sl.r
    rw [e105, e124]
    rfl
  iexists _
  iexists _
  isplitr
  swap; · iexact H7
  ipureintro; rfl

end Cert.KernelIdeal.Hand
-- ==== Proof.AttnFrameIdeal.lean ====
module

public import proofs.«01_k».proof.Proof.AttnBodyIdeal
public import Idealize.ShloMosaic.Lib.Claim
public import Idealize.ShloMosaic.Lib.Ring

/-! # The attention call's run

The proof data of the pipeline (each input's buffer at its block, the output's at `out` of the three blocks, the scratch
at anything), the body's obligation at every grid point from `sound_kernel`, and the run: what every final state holds
of the pipeline's arrays, and the frame. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => out (X0_0 m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = X0_0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out (X0_0 m c t) (iblk m c 1 t) (iblk m c 2 t) := by dsimp only [dats]

theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The scratch buffer, whole. -/
abbrev scr : Memref sig .tc .vmem S2x1280x1024 .f32 := Memref.whole cc0_scratch0

/-- The invariant between points: the scratch at anything, and the generator register. -/
theorem inv_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = Pipeline.ΦA spec0 c from rfl, inv_eq]
  iintro ⟨⟨HS, Hg⟩, Ho, ⟨%d0, H0⟩, ⟨%d1, H1⟩, ⟨%d2, H2⟩, ⟨%d3, H3⟩⟩
  iapply (sound_kernel c Set.univ (grid0.coords t) _ _ _ _ _ _ _ _ _ _ (X0_0 m c t) (iblk m c 1 t) (iblk m c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]; · iexact HS
    iexact Hg
  isplitl [Ho]; · iexact Ho
  isplitl [H0]; · iexact H0
  isplitl [H1]; · iexact H1
  isplitl [H2]; · iexact H2
  iexact H3

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

-- the launch theorem's implicit arguments are found by unifying its conclusion with this one
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every final state has each array of the pipeline at what the library computes from the proof data. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand
-- ==== Proof.OnlineSoftmax.lean ====
module

public import Idealize.ShloMosaic.PureOps.Ideal.Laws

/-! # A softmax-weighted sum taken chunk by chunk

One query's scores `s k` are real numbers and the values `v k` any extended reals, both indexed by the key's number `k`.
The kernel reads the keys in chunks. It holds a running maximum, the weighted sum of the values read so far and the sum
of the weights, the weights being the powers of two with exponents `s k - μ`, where `μ` is the maximum held now. When a
chunk raises the maximum, the two sums are multiplied by a power of two first.

`Held` says what is held after a set of keys. `Held.first` and `Held.next` are the chunks' steps, and `Held.average` the
closing division, stated against a softmax to the base `e` with any real shift. Nothing here needs the held maximum to
be the largest score, only that it is a real number. -/

@[expose] public section

noncomputable section

namespace Cert.Attn

open Idealize.ShloMosaic
open scoped BigOperators

/-! ## A real factor and a finite sum of extended reals -/

theorem coe_mul_sum {ι : Type} (c : ℝ) (hc : 0 ≤ c) (D : Finset ι) (f : ι → EReal) :
    (c : EReal) * ∑ k ∈ D, f k = ∑ k ∈ D, (c : EReal) * f k := by
  classical
  induction D using Finset.induction_on with
  | empty => simp
  | insert a D ha ih =>
    rw [Finset.sum_insert ha, Finset.sum_insert ha,
      EReal.left_distrib_of_nonneg_of_ne_top (by exact_mod_cast hc) (EReal.coe_ne_top c), ih]

theorem coe_sum {ι : Type} (D : Finset ι) (f : ι → ℝ) : ((∑ k ∈ D, f k : ℝ) : EReal) = ∑ k ∈ D, (f k : EReal) := by
  classical
  induction D using Finset.induction_on with
  | empty => simp
  | insert a D ha ih => rw [Finset.sum_insert ha, Finset.sum_insert ha, EReal.coe_add, ih]

/-- The maximum of finitely many reals, at least one, started from `⊥`, is a real. -/
theorem fold_max_real {n : ℕ} (hn : 0 < n) (f : Fin n → ℝ) :
    ∃ c : ℝ, (Finset.univ : Finset (Fin n)).fold max (⊥ : EReal) (fun r => (f r : EReal)) = (c : EReal) := by
  classical
  have key : ∀ D : Finset (Fin n), D.Nonempty → ∃ c : ℝ, D.fold max (⊥ : EReal) (fun r => (f r : EReal)) = (c : EReal) := by
    intro D
    induction D using Finset.induction_on with
    | empty => intro h; exact absurd h (by simp)
    | insert a D ha ih =>
      intro _
      rw [Finset.fold_insert ha]
      rcases D.eq_empty_or_nonempty with rfl | hD
      · exact ⟨f a, by simp⟩
      · obtain ⟨c, hc⟩ := ih hD
        exact ⟨max (f a) c, by rw [hc]; exact (EReal.coe_strictMono.monotone.map_max).symm⟩
  exact key _ ⟨⟨0, hn⟩, Finset.mem_univ _⟩

/-! ## What is held after some keys -/

/-- The weight of key `k` when the maximum held is `μ`. -/
def wt (s : ℕ → ℝ) (μ : ℝ) (k : ℕ) : ℝ := Real.rpow 2 (s k - μ)

theorem wt_pos (s : ℕ → ℝ) (μ : ℝ) (k : ℕ) : 0 < wt s μ k := Real.rpow_pos_of_pos (by norm_num) _

theorem exp2_sub (s : ℕ → ℝ) (μ : ℝ) (k : ℕ) : Ideal.exp2 ((s k : EReal) - (μ : EReal)) = (wt s μ k : EReal) := by
  rw [← EReal.coe_sub, Ideal.exp2_coe]; rfl

/-- Moving the maximum from `μ` to `ν` multiplies every weight by one power of two. -/
theorem wt_shift (s : ℕ → ℝ) (μ ν : ℝ) (k : ℕ) : Real.rpow 2 (μ - ν) * wt s μ k = wt s ν k := by
  unfold wt
  show (2 : ℝ) ^ (μ - ν) * (2 : ℝ) ^ (s k - μ) = (2 : ℝ) ^ (s k - ν)
  rw [← Real.rpow_add (by norm_num)]; congr 1; ring

/-- After the keys in `D`: the maximum held is a real `μ`, and the two sums are the sums of the weights at `μ`. -/
def Held (s : ℕ → ℝ) (v : ℕ → EReal) (D : Finset ℕ) (m a l : EReal) : Prop :=
  ∃ μ : ℝ, m = (μ : EReal) ∧ a = ∑ k ∈ D, (wt s μ k : EReal) * v k ∧ l = ∑ k ∈ D, (wt s μ k : EReal)

/-- The keys read once the last 256 and the first `e` are done. -/
def seen (e : ℕ) : Finset ℕ := Finset.range e ∪ Finset.Ico 16384 16640

theorem seen_all : seen 16384 = Finset.range 16640 := by
  ext k; simp only [seen, Finset.mem_union, Finset.mem_range, Finset.mem_Ico]; omega

theorem sum_chunk (f : ℕ → EReal) (o n : ℕ) : ∑ r : Fin n, f (o + r.val) = ∑ k ∈ Finset.Ico o (o + n), f k := by
  rw [Finset.sum_Ico_eq_sum_range, Nat.add_sub_cancel_left, ← Fin.sum_univ_eq_sum_range (fun r => f (o + r))]

/-- A chunk after the first: the keys `e, …, e + n - 1`. -/
theorem Held.next {s : ℕ → ℝ} {v : ℕ → EReal} {m a l c : EReal} {e n : ℕ} (hn : e + n ≤ 16384) (h : Held s v (seen e) m a l)
    (hc : ∃ x : ℝ, c = (x : EReal)) :
    Held s v (seen (e + n)) (max m c)
      (Ideal.exp2 (m - max m c) * a + ∑ r : Fin n, v (e + r.val) * Ideal.exp2 ((s (e + r.val) : EReal) - max m c))
      (Ideal.exp2 (m - max m c) * l + ∑ r : Fin n, Ideal.exp2 ((s (e + r.val) : EReal) - max m c)) := by
  obtain ⟨μ, rfl, rfl, rfl⟩ := h
  obtain ⟨x, rfl⟩ := hc
  have hs : seen (e + n) = seen e ∪ Finset.Ico e (e + n) := by
    ext k; simp only [seen, Finset.mem_union, Finset.mem_range, Finset.mem_Ico]; omega
  have hd : Disjoint (seen e) (Finset.Ico e (e + n)) := by
    rw [Finset.disjoint_left]; intro k; simp only [seen, Finset.mem_union, Finset.mem_range, Finset.mem_Ico]; omega
  have hm : max (μ : EReal) (x : EReal) = ((max μ x : ℝ) : EReal) := (EReal.coe_strictMono.monotone.map_max).symm
  have hpow : (0 : ℝ) ≤ Real.rpow 2 (μ - max μ x) := (Real.rpow_pos_of_pos (by norm_num) _).le
  refine ⟨max μ x, hm, ?_, ?_⟩
  · rw [hm, ← EReal.coe_sub, Ideal.exp2_coe, coe_mul_sum _ hpow, hs, Finset.sum_union hd,
      ← sum_chunk (fun k => (wt s (max μ x) k : EReal) * v k)]
    refine congrArg₂ (· + ·) (Finset.sum_congr rfl fun k _ => ?_) (Finset.sum_congr rfl fun r _ => ?_)
    · rw [← mul_assoc, ← EReal.coe_mul, wt_shift]
    · rw [exp2_sub, mul_comm]
  · rw [hm, ← EReal.coe_sub, Ideal.exp2_coe, coe_mul_sum _ hpow, hs, Finset.sum_union hd,
      ← sum_chunk (fun k => (wt s (max μ x) k : EReal))]
    refine congrArg₂ (· + ·) (Finset.sum_congr rfl fun k _ => ?_) (Finset.sum_congr rfl fun r _ => ?_)
    · rw [← EReal.coe_mul, wt_shift]
    · rw [exp2_sub]

/-- The first chunk, the last 256 keys: nothing is held before it, so the sums start from zero and the maximum from `⊥`. -/
theorem Held.first {s : ℕ → ℝ} {v : ℕ → EReal} {c : EReal} (hc : ∃ x : ℝ, c = (x : EReal)) :
    Held s v (seen 0) (max ⊥ c)
      (Ideal.exp2 (⊥ - max ⊥ c) * 0 + ∑ r : Fin 256, v (16384 + r.val) * Ideal.exp2 ((s (16384 + r.val) : EReal) - max ⊥ c))
      (Ideal.exp2 (⊥ - max ⊥ c) * 0 + ∑ r : Fin 256, Ideal.exp2 ((s (16384 + r.val) : EReal) - max ⊥ c)) := by
  obtain ⟨x, rfl⟩ := hc
  have hs : seen 0 = Finset.Ico 16384 (16384 + 256) := by
    ext k; simp only [seen, Finset.mem_union, Finset.mem_range, Finset.mem_Ico]; omega
  rw [max_eq_right bot_le, mul_zero, zero_add, zero_add]
  refine ⟨x, rfl, ?_, ?_⟩
  · rw [hs, ← sum_chunk (fun k => (wt s x k : EReal) * v k)]
    exact Finset.sum_congr rfl fun r _ => by rw [exp2_sub, mul_comm]
  · rw [hs, ← sum_chunk (fun k => (wt s x k : EReal))]
    exact Finset.sum_congr rfl fun r _ => by rw [exp2_sub]

/-- The quotient of the two sums is the average of the values under the softmax of the scores, taken to the base `e` on
the scores times `log 2`, whatever real number is subtracted from them first. -/
theorem Held.average {s : ℕ → ℝ} {v : ℕ → EReal} {m a l : EReal} {n : ℕ} (hn : 0 < n) (h : Held s v (Finset.range n) m a l) (M : ℝ) :
    Ideal.div a l = ∑ k ∈ Finset.range n,
      Ideal.div (Ideal.exp (((s k * Real.log 2 : ℝ) : EReal) - (M : EReal)))
        (∑ j ∈ Finset.range n, Ideal.exp (((s j * Real.log 2 : ℝ) : EReal) - (M : EReal))) * v k := by
  obtain ⟨μ, rfl, rfl, rfl⟩ := h
  have hne : (Finset.range n).Nonempty := ⟨0, Finset.mem_range.2 hn⟩
  -- one positive constant between the two sets of weights
  set C : ℝ := Real.exp (M - μ * Real.log 2) with hC
  have hCpos : 0 < C := Real.exp_pos _
  have hw : ∀ k, wt s μ k = C * Real.exp (s k * Real.log 2 - M) := fun k => by
    unfold wt
    show (2 : ℝ) ^ (s k - μ) = _
    rw [Real.rpow_def_of_pos (by norm_num), hC, ← Real.exp_add]; congr 1; ring
  have he : ∀ k, Ideal.exp (((s k * Real.log 2 : ℝ) : EReal) - (M : EReal)) = ((Real.exp (s k * Real.log 2 - M) : ℝ) : EReal) :=
    fun k => by rw [← EReal.coe_sub, Ideal.exp_coe]
  set E : ℝ := ∑ j ∈ Finset.range n, Real.exp (s j * Real.log 2 - M) with hE
  have hEpos : 0 < E := Finset.sum_pos (fun j _ => Real.exp_pos _) hne
  have hL : (∑ k ∈ Finset.range n, (wt s μ k : EReal)) = ((C * E : ℝ) : EReal) := by
    rw [← coe_sum]; congr 1; rw [hE, Finset.mul_sum]; exact Finset.sum_congr rfl fun k _ => hw k
  have hE' : (∑ j ∈ Finset.range n, Ideal.exp (((s j * Real.log 2 : ℝ) : EReal) - (M : EReal))) = (E : EReal) := by
    rw [hE, coe_sum]; exact Finset.sum_congr rfl fun j _ => he j
  rw [hL, hE', Ideal.div_coe (mul_pos hCpos hEpos).ne', mul_comm, coe_mul_sum _ (by positivity)]
  refine Finset.sum_congr rfl fun k _ => ?_
  rw [he, Ideal.div_coe hEpos.ne', ← mul_assoc, ← EReal.coe_mul, ← EReal.coe_mul, hw]
  congr 2
  field_simp

end Cert.Attn
-- ==== Proof.AttnChunk.lean ====
module

public import proofs.«01_k».proof.Proof.OnlineSoftmax
public import Idealize.ShloMosaic.Lib.MatmulPlain
public import Idealize.ShloMosaic.Lib.ValueLayout
public import Idealize.ShloMosaic.Lib.Pipeline.Value

/-! # One chunk of keys, at any length

The attention kernel handles chunks of 256, 768 and 1280 keys with the same operations. Here each group of operations is
one function of the chunk's length `n`, read at a coordinate with exact arithmetic: the scores of `n` keys against 1024
queries, their column maximum, the weights, and the two sums after the chunk. `fold_next` and `fold_first` say that a
chunk carries `Held` on for every query and every coordinate of the values at once. -/

@[expose] public section

noncomputable section

namespace Cert.Attn

open Idealize.ShloMosaic Idealize.ShloMosaic.ValueIdx
open scoped BigOperators

/-- A row of one number per query. -/
abbrev Row := FVec Ideal ⟨2, ![1, 1024]⟩ .f32
/-- A weighted sum of values: one column per query, one row per coordinate of a value. -/
abbrev Sums := FVec Ideal ⟨2, ![128, 1024]⟩ .f32
/-- One row per key of a chunk. -/
abbrev Keyed (n : ℕ) := FVec Ideal ⟨2, ![n, 1024]⟩ .f32
/-- The same with the scratch buffer's leading unit axis. -/
abbrev Slot (n : ℕ) := FVec Ideal ⟨3, ![1, n, 1024]⟩ .f32

section
variable {n : ℕ}

/-- The scores of the chunk's keys `K` against the queries `q`. -/
def scores (hK : Shape.ShapeCasts ⟨4, ![1, 1, n, 192]⟩ ⟨2, ![n, 192]⟩) (q : FVec Ideal ⟨2, ![192, 1024]⟩ .bf16)
    (K : FVec Ideal ⟨4, ![1, 1, n, 192]⟩ .bf16) : Keyed n :=
  matmul (DotDims.plain n 192 1024) none (shapeCast ⟨2, ![n, 192]⟩ K hK) q (constant ⟨2, ![n, 1024]⟩ .f32 0x00000000#32)

/-- The largest score of each query within the chunk. -/
def colMax (hr : Shape.Reduces ⟨2, ![n, 1024]⟩ [0] ⟨1, ![1024]⟩) (hc : Shape.ShapeCasts ⟨1, ![1024]⟩ ⟨2, ![1, 1024]⟩) (s : Keyed n) : Row :=
  shapeCast ⟨2, ![1, 1024]⟩ (multiReduction .maximumf [0] ⟨1, ![1024]⟩ s 0xFF800000#32 hr (.inl rfl) rfl) hc

/-- The weights of the chunk's keys when the maximum held is `m'`. -/
def weights (hs : Shape.ShapeCasts ⟨3, ![1, n, 1024]⟩ ⟨2, ![n, 1024]⟩) (hb : Shape.Broadcasts ⟨2, ![1, 1024]⟩ ⟨2, ![n, 1024]⟩)
    (s : Slot n) (m' : Row) : Keyed n :=
  exp2 (subf (shapeCast ⟨2, ![n, 1024]⟩ s hs) (broadcastTo ⟨2, ![n, 1024]⟩ m' hb))

/-- The weighted sum of the values after the chunk. -/
def accNext (hv : Shape.ShapeCasts ⟨4, ![1, 1, 128, n]⟩ ⟨2, ![128, n]⟩) (hb : Shape.Broadcasts ⟨2, ![1, 1024]⟩ ⟨2, ![128, 1024]⟩)
    (ht : FTy.bits .bf16 < FTy.bits .f32) (m m' : Row) (a : Sums) (V : FVec Ideal ⟨4, ![1, 1, 128, n]⟩ .bf16) (p : Keyed n) : Sums :=
  addf (mulf (broadcastTo ⟨2, ![128, 1024]⟩ (exp2 (subf m m')) hb) a)
    (matmul (DotDims.plain 128 n 1024) none (shapeCast ⟨2, ![128, n]⟩ V hv) (truncf .bf16 p ht) (constant ⟨2, ![128, 1024]⟩ .f32 0x00000000#32))

/-- The sum of the weights after the chunk. -/
def sumNext (hr : Shape.Reduces ⟨2, ![n, 1024]⟩ [0] ⟨1, ![1024]⟩) (hc : Shape.ShapeCasts ⟨1, ![1024]⟩ ⟨2, ![1, 1024]⟩)
    (m m' l : Row) (p : Keyed n) : Row :=
  addf (mulf (exp2 (subf m m')) l)
    (shapeCast ⟨2, ![1, 1024]⟩ (multiReduction .add [0] ⟨1, ![1024]⟩ p 0x00000000#32 hr (.inl rfl) rfl) hc)

/-! ## Each read at a coordinate -/

theorem cast_11ab {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

theorem lift_ix (hr : Shape.Reduces ⟨2, ![n, 1024]⟩ [0] ⟨1, ![1024]⟩) (i : Fin 1024) (r : Fin n) : hr.lift (ix1 i) r = ix2 r i := by
  funext a; apply Fin.ext
  match a with
  | ⟨0, _⟩ => rfl
  | ⟨1, _⟩ => rfl

theorem scores_apply (hK) (q : FVec Ideal ⟨2, ![192, 1024]⟩ .bf16) (K : FVec Ideal ⟨4, ![1, 1, n, 192]⟩ .bf16) (r : Fin n) (i : Fin 1024) :
    scores hK q K (ix2 r i) = ∑ c : Fin 192, K (ix4 0 0 r c) * q (ix2 c i) := by
  unfold scores
  rw [show matmul (DotDims.plain n 192 1024) none (shapeCast ⟨2, ![n, 192]⟩ K hK) q (constant ⟨2, ![n, 1024]⟩ .f32 0x00000000#32) (ix2 r i)
    = _ from Ideal.matmul_plain_apply none _ q _ r i]
  rw [show (constant (F := Ideal) ⟨2, ![n, 1024]⟩ .f32 0x00000000#32) (ix2 r i) = 0 from Ideal.ofBits_zero_f32, zero_add]
  exact Finset.sum_congr rfl fun c _ => by rw [cast_11ab]

/-- The pattern of minus infinity. -/
theorem ofBits_minusInf : Ideal.ofBits .f32 0xFF800000#32 = (⊥ : EReal) := by
  simp [Ideal.ofBits, Ideal.ieee]

theorem colMax_apply (hr) (hc) (s : Keyed n) (i : Fin 1024) :
    colMax hr hc s (ix2 0 i) = (Finset.univ : Finset (Fin n)).fold max ⊥ fun r => s (ix2 r i) := by
  unfold colMax
  rw [shapeCast_a_1a_apply]
  refine (Ideal.multiReduction_maximumf_single s _ hr _ _ (ix1 i)).trans ?_
  have hb : (FloatOps.ofBits .f32 0xFF800000#32 : Ideal .f32) = (⊥ : EReal) := ofBits_minusInf
  rw [hb]
  exact congrArg (fun f => (Finset.univ : Finset (Fin n)).fold max (⊥ : EReal) f) (funext fun r => congrArg s (lift_ix hr i r))

theorem weights_apply (hs) (hb) (s : Slot n) (m' : Row) (r : Fin n) (i : Fin 1024) :
    weights hs hb s m' (ix2 r i) = Ideal.exp2 (s (ix3 0 r i) - m' (ix2 0 i)) := by
  show Ideal.exp2 (shapeCast ⟨2, ![n, 1024]⟩ s hs (ix2 r i) - broadcastTo ⟨2, ![n, 1024]⟩ m' hb (ix2 r i)) = _
  rw [shapeCast_1ab_ab_apply, broadcastTo_1b_ab_apply]

theorem accNext_apply (hv) (hb) (ht) (m m' : Row) (a : Sums) (V : FVec Ideal ⟨4, ![1, 1, 128, n]⟩ .bf16) (p : Keyed n) (d : Fin 128) (i : Fin 1024) :
    accNext hv hb ht m m' a V p (ix2 d i)
      = Ideal.exp2 (m (ix2 0 i) - m' (ix2 0 i)) * a (ix2 d i) + ∑ r : Fin n, V (ix4 0 0 d r) * p (ix2 r i) := by
  unfold accNext
  show broadcastTo ⟨2, ![128, 1024]⟩ (exp2 (subf m m')) hb (ix2 d i) * a (ix2 d i)
    + matmul (DotDims.plain 128 n 1024) none (shapeCast ⟨2, ![128, n]⟩ V hv) (truncf .bf16 p ht) (constant ⟨2, ![128, 1024]⟩ .f32 0x00000000#32) (ix2 d i) = _
  rw [broadcastTo_1b_ab_apply]
  rw [show matmul (DotDims.plain 128 n 1024) none (shapeCast ⟨2, ![128, n]⟩ V hv) (truncf .bf16 p ht) (constant ⟨2, ![128, 1024]⟩ .f32 0x00000000#32) (ix2 d i)
    = _ from Ideal.matmul_plain_apply none _ _ _ d i]
  rw [show (constant (F := Ideal) ⟨2, ![128, 1024]⟩ .f32 0x00000000#32) (ix2 d i) = 0 from Ideal.ofBits_zero_f32, zero_add]
  refine congrArg₂ (· + ·) rfl (Finset.sum_congr rfl fun r _ => ?_)
  rw [cast_11ab]; rfl

theorem sumNext_apply (hr) (hc) (m m' l : Row) (p : Keyed n) (i : Fin 1024) :
    sumNext hr hc m m' l p (ix2 0 i) = Ideal.exp2 (m (ix2 0 i) - m' (ix2 0 i)) * l (ix2 0 i) + ∑ r : Fin n, p (ix2 r i) := by
  unfold sumNext
  show Ideal.exp2 (m (ix2 0 i) - m' (ix2 0 i)) * l (ix2 0 i)
    + shapeCast ⟨2, ![1, 1024]⟩ (multiReduction .add [0] ⟨1, ![1024]⟩ p 0x00000000#32 hr (.inl rfl) rfl) hc (ix2 0 i) = _
  rw [shapeCast_a_1a_apply]
  refine congrArg _ ((Ideal.multiReduction_add_single p _ hr _ _ (ix1 i)).trans ?_)
  exact (Finset.sum_congr rfl fun r _ => congrArg p (lift_ix hr i r))

/-! ## A chunk for all queries at once -/

variable (s : Fin 1024 → ℕ → ℝ) (v : Fin 128 → ℕ → EReal)

/-- `Held` for every query and every coordinate of the values. -/
def Folded (e : ℕ) (m : Row) (a : Sums) (l : Row) : Prop :=
  ∀ (i : Fin 1024) (d : Fin 128), Held (s i) (v d) (seen e) (m (ix2 0 i)) (a (ix2 d i)) (l (ix2 0 i))

/-- Every entry of a row is a real number. -/
def Reals (c : Row) : Prop := ∀ i : Fin 1024, ∃ x : ℝ, c (ix2 0 i) = (x : EReal)

/-- The slot holds the scores of the keys from `e` on. -/
def Scored (e : ℕ) (x : Slot n) : Prop := ∀ (r : Fin n) (i : Fin 1024), x (ix3 0 r i) = (s i (e + r.val) : EReal)

/-- The block holds the values of the keys from `e` on. -/
def Valued (e : ℕ) (V : FVec Ideal ⟨4, ![1, 1, 128, n]⟩ .bf16) : Prop := ∀ (d : Fin 128) (r : Fin n), V (ix4 0 0 d r) = v d (e + r.val)

variable {s v}

theorem fold_next (hs) (hb) (hv) (hb') (ht) (hr) (hc) {e : ℕ} (he : e + n ≤ 16384) {m c l : Row} {a : Sums} {x : Slot n}
    {V : FVec Ideal ⟨4, ![1, 1, 128, n]⟩ .bf16} (h : Folded s v e m a l) (hcm : Reals c) (hx : Scored s e x) (hV : Valued v e V) :
    Folded s v (e + n) (maximumf m c) (accNext hv hb' ht m (maximumf m c) a V (weights hs hb x (maximumf m c)))
      (sumNext hr hc m (maximumf m c) l (weights hs hb x (maximumf m c))) := by
  intro i d
  have key := (h i d).next he (hcm i)
  rw [accNext_apply, sumNext_apply]
  have hmx : maximumf m c (ix2 0 i) = max (m (ix2 0 i)) (c (ix2 0 i)) := rfl
  simp only [weights_apply, hx _ i, hV d, hmx]
  exact key

theorem fold_first (hs) (hb) (hv) (hb') (ht) (hr) (hc) {m c l : Row} {a : Sums} {x : Slot 256}
    {V : FVec Ideal ⟨4, ![1, 1, 128, 256]⟩ .bf16} (hm : ∀ i, m (ix2 0 i) = ⊥) (ha : ∀ d i, a (ix2 d i) = 0) (hl : ∀ i, l (ix2 0 i) = 0)
    (hcm : Reals c) (hx : Scored s 16384 x) (hV : Valued v 16384 V) :
    Folded s v 0 (maximumf m c) (accNext hv hb' ht m (maximumf m c) a V (weights hs hb x (maximumf m c)))
      (sumNext hr hc m (maximumf m c) l (weights hs hb x (maximumf m c))) := by
  intro i d
  have key := Held.first (s := s i) (v := v d) (hcm i)
  rw [accNext_apply, sumNext_apply]
  have hmx : maximumf m c (ix2 0 i) = max ⊥ (c (ix2 0 i)) := by rw [← hm i]; rfl
  simp only [weights_apply, hx _ i, hV d, hmx, hm i, ha d i, hl i]
  exact key

theorem reals_colMax (hr) (hc) (hn : 0 < n) {e : ℕ} {x : Keyed n} (hx : ∀ (r : Fin n) (i : Fin 1024), x (ix2 r i) = (s i (e + r.val) : EReal)) :
    Reals (colMax hr hc x) := by
  intro i
  rw [colMax_apply]
  simp only [hx _ i]
  exact fold_max_real hn fun r => s i (e + r.val)

end

end Cert.Attn
-- ==== Proof.AttnValue.lean ====
module

public import proofs.«01_k».proof.Proof.AttnChunk
public import proofs.«01_k».proof.Proof.AttnBodyIdeal

/-! # What the attention body computes

With exact arithmetic, and with the point's queries and keys real numbers, an entry of the point's output block is the
average of the values under the softmax of the scores. The printed operations of each chunk are recognised as those of
AttnChunk.lean, and `Ready` is carried from the start through the five trips to the end. -/

@[expose] public section

set_option maxRecDepth 16384

noncomputable section

namespace Cert.KernelIdeal.Hand

open Cert.KernelIdeal Cert.KernelIdeal.Gen Cert.Attn
open Idealize.ShloMosaic Idealize.ShloMosaic.ValueIdx
open scoped BigOperators

/-! ## The printed operations, chunk by chunk -/

section
variable (m c l : Row) (a : Sums) (x : Slot 1280) (V : Vec Ideal S1x1x128x1280 .bf16)

/-- The maximum, the two sums and the weights after a chunk of 1280 keys. -/
def acc1280 : Sums :=
  accNext shapeCasts_S1x1x128x1280_S128x1280 broadcasts_S1x1024_S128x1024 bitsLt_bf16_f32 m (maximumf m c) a V
    (weights shapeCasts_S1x1280x1024_S1280x1024 broadcasts_S1x1024_S1280x1024 x (maximumf m c))
def sum1280 : Row :=
  sumNext reduces_S1280x1024_S1024 shapeCasts_S1024_S1x1024 m (maximumf m c) l
    (weights shapeCasts_S1x1280x1024_S1280x1024 broadcasts_S1x1024_S1280x1024 x (maximumf m c))

theorem pay8_eq : k0_pay8 m a c x V = acc1280 m c a x V := rfl
theorem pay9_eq : k0_pay9 m l c x = sum1280 m c l x := rfl
theorem pay37_eq : k0_pay37 c m a x V = acc1280 m c a x V := rfl
theorem pay38_eq : k0_pay38 c m l x = sum1280 m c l x := rfl
theorem pay45_eq : k0_pay45 m a c x V = acc1280 m c a x V := rfl
theorem pay46_eq : k0_pay46 m l c x = sum1280 m c l x := rfl
theorem pay52_eq : k0_pay52 c m a x V = acc1280 m c a x V := rfl
theorem pay53_eq : k0_pay53 c m l x = sum1280 m c l x := rfl

variable (y : Slot 768) (V' : Vec Ideal S1x1x128x768 .bf16)

def acc768 : Sums :=
  accNext shapeCasts_S1x1x128x768_S128x768 broadcasts_S1x1024_S128x1024 bitsLt_bf16_f32 m (maximumf m c) a V'
    (weights shapeCasts_S1x768x1024_S768x1024 broadcasts_S1x1024_S768x1024 y (maximumf m c))
def sum768 : Row :=
  sumNext reduces_S768x1024_S1024 shapeCasts_S1024_S1x1024 m (maximumf m c) l
    (weights shapeCasts_S1x768x1024_S768x1024 broadcasts_S1x1024_S768x1024 y (maximumf m c))

theorem pay30_eq : k0_pay30 l (k0_pay27 c m y) (k0_pay28 c m) = sum768 m c l y := rfl

variable (z : Slot 256) (V'' : Vec Ideal S1x1x128x256 .bf16)

def acc256 : Sums :=
  accNext shapeCasts_S1x1x128x256_S128x256 broadcasts_S1x1024_S128x1024 bitsLt_bf16_f32 m (maximumf m c) a V''
    (weights shapeCasts_S1x256x1024_S256x1024 broadcasts_S1x1024_S256x1024 z (maximumf m c))
def sum256 : Row :=
  sumNext reduces_S256x1024_S1024 shapeCasts_S1024_S1x1024 m (maximumf m c) l
    (weights shapeCasts_S1x256x1024_S256x1024 broadcasts_S1x1024_S256x1024 z (maximumf m c))

end

section
variable (q : Vec Ideal S192x1024 .bf16) (K : Vec Ideal S1x1x1280x192 .bf16) (K' : Vec Ideal S1x1x768x192 .bf16) (K'' : Vec Ideal S1x1x256x192 .bf16)

def sc1280 : Keyed 1280 := scores shapeCasts_S1x1x1280x192_S1280x192 q K
def sc768 : Keyed 768 := scores shapeCasts_S1x1x768x192_S768x192 q K'
def sc256 : Keyed 256 := scores shapeCasts_S1x1x256x192_S256x192 q K''
def slot1280 : Slot 1280 := shapeCast S1x1280x1024 (sc1280 q K) shapeCasts_S1280x1024_S1x1280x1024
def slot768 : Slot 768 := shapeCast S1x768x1024 (sc768 q K') shapeCasts_S768x1024_S1x768x1024
def slot256 : Slot 256 := shapeCast S1x256x1024 (sc256 q K'') shapeCasts_S256x1024_S1x256x1024
def max1280 : Row := colMax reduces_S1280x1024_S1024 shapeCasts_S1024_S1x1024 (sc1280 q K)
def max768 : Row := colMax reduces_S768x1024_S1024 shapeCasts_S1024_S1x1024 (sc768 q K')
def max256 : Row := colMax reduces_S256x1024_S1024 shapeCasts_S1024_S1x1024 (sc256 q K'')

theorem pay3_eq : k0_pay3 q K = slot1280 q K := rfl
theorem pay24_eq : k0_pay24 q K = slot1280 q K := rfl
theorem pay32_eq : k0_pay32 q K = slot1280 q K := rfl
theorem pay40_eq : k0_pay40 q K = slot1280 q K := rfl
theorem pay4_eq : k0_pay4 q K = max1280 q K := rfl
theorem pay25_eq : k0_pay25 q K = max1280 q K := rfl
theorem pay33_eq : k0_pay33 q K = max1280 q K := rfl
theorem pay41_eq : k0_pay41 q K = max1280 q K := rfl
theorem pay48_eq : k0_pay48 q K'' = slot256 q K'' := rfl

variable (X : Vec Ideal S1x1x192x1024 .bf16)

theorem pay17_eq : k0_pay17 X K' = slot768 (k0_pay10 X) K' := rfl
theorem pay18_eq : k0_pay18 X K' = max768 (k0_pay10 X) K' := rfl
theorem pay15_eq : k0_pay15 X K'' = slot256 (k0_pay10 X) K'' := rfl
theorem pay19_eq : k0_pay19 X K'' = maximumf (k0_pay11 (F := Ideal)) (max256 (k0_pay10 X) K'') := rfl

end

theorem max_eq (m c : Row) :
    k0_pay5 m c = maximumf m c ∧ k0_pay26 c m = maximumf m c ∧ k0_pay34 c m = maximumf m c ∧ k0_pay42 m c = maximumf m c :=
  ⟨rfl, rfl, rfl, rfl⟩

/-- The two first chunks' weighted sums together. -/
theorem pay29_eq (X : Vec Ideal S1x1x192x1024 .bf16) (K'' : Vec Ideal S1x1x256x192 .bf16) (c : Row) (y : Slot 768)
    (V'' : Vec Ideal S1x1x128x256 .bf16) (V' : Vec Ideal S1x1x128x768 .bf16) :
    k0_pay29 k0_pay11 k0_pay12 c (k0_pay19 X K'') (k0_pay20 X K'' (k0_pay15 X K'')) V'' y V'
      = acc768 (maximumf k0_pay11 (max256 (k0_pay10 X) K'')) c
          (acc256 k0_pay11 (max256 (k0_pay10 X) K'') k0_pay12 (slot256 (k0_pay10 X) K'') V'') y V' := rfl

theorem pay22_eq (X : Vec Ideal S1x1x192x1024 .bf16) (K'' : Vec Ideal S1x1x256x192 .bf16) :
    k0_pay22 k0_pay11 k0_pay13 (k0_pay19 X K'') (k0_pay20 X K'' (k0_pay15 X K''))
      = sum256 k0_pay11 (max256 (k0_pay10 X) K'') k0_pay13 (slot256 (k0_pay10 X) K'') := rfl

/-- The last chunk and the closing division, transposed. -/
theorem pay1_eq (q : Vec Ideal S192x1024 .bf16) (m c l : Row) (a : Sums) (B : Vec Ideal S1x1x256x192 .bf16) (V'' : Vec Ideal S1x1x128x256 .bf16) :
    k0_pay1 a l (k0_pay55 q c m B (k0_pay48 q B)) (k0_pay56 q c m B) (k0_pay57 V'')
      = truncf .bf16 (transpose S1024x128 [1, 0] (divf (acc256 (maximumf m c) (max256 q B) a (slot256 q B) V'')
          (broadcastTo S128x1024 (sum256 (maximumf m c) (max256 q B) l (slot256 q B)) broadcasts_S1x1024_S128x1024))
          transposes_S128x1024_p1_0_S1024x128) bitsLt_bf16_f32 := rfl

/-! ## The point's blocks as numbers -/

section
variable (x0 : Vec Ideal S1x1x192x1024 .bf16) (x1 : Vec Ideal S1x1x16640x192 .bf16) (x2 : Vec Ideal S1x1x128x16640 .bf16)
variable (Q : Fin 192 → Fin 1024 → ℝ) (K : ℕ → Fin 192 → ℝ)

/-- The queries are the reals `Q`. -/
def IsQ : Prop := ∀ c i, x0 (ix4 (0 : Fin 1) (0 : Fin 1) c i) = (Q c i : EReal)
/-- The keys are the reals `K`. -/
def IsK : Prop := ∀ (k : Fin 16640) c, x1 (ix4 (0 : Fin 1) (0 : Fin 1) k c) = (K k.val c : EReal)

/-- The score of key `k` against query `i`. -/
def sc (i : Fin 1024) (k : ℕ) : ℝ := ∑ c : Fin 192, K k c * Q c i
/-- Coordinate `d` of the value of key `k`. -/
def val (d : Fin 128) (k : ℕ) : EReal := if h : k < 16640 then x2 (ix4 (0 : Fin 1) (0 : Fin 1) d ⟨k, h⟩) else 0

theorem qs_apply (c : Fin 192) (i : Fin 1024) : k0_pay10 (qs x0) (ix2 c i) = x0 (ix4 0 0 c i) := by
  show shapeCast S192x1024 (qs x0) shapeCasts_S1x1x192x1024_S192x1024 (ix2 c i) = _
  rw [cast_11ab]
  exact View.ld_unit_apply_of x0 _ _ _ _ _ (fun a => by fin_cases a <;> simp [ix4])

theorem load_keys {n o : ℕ} (h : o + n ≤ 16640) (r : Fin n) (c : Fin 192) :
    View.ld x1 (Rect.unit (s := S1x1x16640x192) ![0, 0, o, 0] (![1, 1, n, 192]) (inbK h)) (ix4 (0 : Fin 1) (0 : Fin 1) r c)
      = x1 (ix4 0 0 ⟨o + r.val, by omega⟩ c) :=
  View.ld_unit_apply_of x1 _ _ _ _ _ (fun a => by
    match a with
    | ⟨0, _⟩ => rfl
    | ⟨1, _⟩ => rfl
    | ⟨2, _⟩ => rfl
    | ⟨3, _⟩ => exact (Nat.zero_add _).symm)

theorem load_vals {n o : ℕ} (h : o + n ≤ 16640) (d : Fin 128) (r : Fin n) :
    View.ld x2 (Rect.unit (s := S1x1x128x16640) ![0, 0, 0, o] (![1, 1, 128, n]) (inbV h)) (ix4 (0 : Fin 1) (0 : Fin 1) d r)
      = val x2 d (o + r.val) := by
  rw [val, dif_pos (by omega)]
  exact View.ld_unit_apply_of x2 _ _ _ _ _ (fun a => by
    match a with
    | ⟨0, _⟩ => rfl
    | ⟨1, _⟩ => rfl
    | ⟨2, _⟩ => exact (Nat.zero_add _).symm
    | ⟨3, _⟩ => rfl)

variable {x0 x1 Q K}

theorem scores_real (hQ : IsQ x0 Q) (hK : IsK x1 K) {n o : ℕ} (h : o + n ≤ 16640) (hc) (r : Fin n) (i : Fin 1024) :
    scores (n := n) hc (k0_pay10 (qs x0)) (View.ld x1 (Rect.unit (s := S1x1x16640x192) ![0, 0, o, 0] (![1, 1, n, 192]) (inbK h))) (ix2 r i)
      = (sc Q K i (o + r.val) : EReal) := by
  rw [scores_apply, sc, coe_sum]
  refine Finset.sum_congr rfl fun c _ => ?_
  rw [load_keys x1 h, qs_apply, hQ, hK, EReal.coe_mul]

theorem slot_real (hQ : IsQ x0 Q) (hK : IsK x1 K) {n o : ℕ} (h : o + n ≤ 16640) (hc) (hs) :
    Scored (n := n) (sc Q K) o (shapeCast ⟨3, ![1, n, 1024]⟩
      (scores (n := n) hc (k0_pay10 (qs x0)) (View.ld x1 (Rect.unit (s := S1x1x16640x192) ![0, 0, o, 0] (![1, 1, n, 192]) (inbK h)))) hs) :=
  fun r i => by rw [shapeCast_ab_1ab_apply]; exact scores_real hQ hK h hc r i

theorem max_real (hQ : IsQ x0 Q) (hK : IsK x1 K) {n o : ℕ} (h : o + n ≤ 16640) (hn : 0 < n) (hc) (hr) (hs) :
    Reals (colMax (n := n) hr hs
      (scores (n := n) hc (k0_pay10 (qs x0)) (View.ld x1 (Rect.unit (s := S1x1x16640x192) ![0, 0, o, 0] (![1, 1, n, 192]) (inbK h))))) :=
  reals_colMax (s := sc Q K) hr hs hn (e := o) fun r i => scores_real hQ hK h hc r i

/-! ## Through the chunks -/

/-- The keys seen are folded in, and the next chunk's scores and their column maximum wait. -/
structure Ready (Q : Fin 192 → Fin 1024 → ℝ) (K : ℕ → Fin 192 → ℝ) (x2 : Vec Ideal S1x1x128x16640 .bf16) (e : ℕ) (s : State Ideal) : Prop where
  folded : Folded (sc Q K) (val x2) e s.1.1 s.1.2.1 s.1.2.2.1
  top : Reals s.1.2.2.2
  scored : Scored (n := 1280) (sc Q K) e s.2

theorem start_folded (hQ : IsQ x0 Q) (hK : IsK x1 K) :
    Folded (sc Q K) (val x2) 768 (start x0 x1 x2).1.1 (start x0 x1 x2).1.2.1 (start x0 x1 x2).1.2.2.1 := by
  unfold start
  dsimp only
  rw [pay29_eq, pay30_eq, pay22_eq, (max_eq _ _).2.1, pay18_eq, pay19_eq, pay17_eq]
  have h1 := fold_first (s := sc Q K) (v := val x2) shapeCasts_S1x256x1024_S256x1024 broadcasts_S1x1024_S256x1024
    shapeCasts_S1x1x128x256_S128x256 broadcasts_S1x1024_S128x1024 bitsLt_bf16_f32 reduces_S256x1024_S1024 shapeCasts_S1024_S1x1024
    (m := k0_pay11) (a := k0_pay12) (l := k0_pay13)
    (fun _ => ofBits_minusInf) (fun _ _ => Ideal.ofBits_zero_f32) (fun _ => Ideal.ofBits_zero_f32)
    (max_real hQ hK (n := 256) (o := 16384) (by omega) (by omega) shapeCasts_S1x1x256x192_S256x192 reduces_S256x1024_S1024 shapeCasts_S1024_S1x1024)
    (slot_real hQ hK (n := 256) (o := 16384) (by omega) shapeCasts_S1x1x256x192_S256x192 shapeCasts_S256x1024_S1x256x1024)
    (fun d r => load_vals x2 (n := 256) (o := 16384) (by omega) d r)
  have h2 := fold_next (n := 768) (e := 0) shapeCasts_S1x768x1024_S768x1024 broadcasts_S1x1024_S768x1024
    shapeCasts_S1x1x128x768_S128x768 broadcasts_S1x1024_S128x1024 bitsLt_bf16_f32 reduces_S768x1024_S1024 shapeCasts_S1024_S1x1024 (by omega) h1
    (max_real hQ hK (n := 768) (o := 0) (by omega) (by omega) shapeCasts_S1x1x768x192_S768x192 reduces_S768x1024_S1024 shapeCasts_S1024_S1x1024)
    (slot_real hQ hK (n := 768) (o := 0) (by omega) shapeCasts_S1x1x768x192_S768x192 shapeCasts_S768x1024_S1x768x1024)
    (fun d r => load_vals x2 (n := 768) (o := 0) (by omega) d r)
  exact h2

theorem ready_start (hQ : IsQ x0 Q) (hK : IsK x1 K) : Ready Q K x2 768 (start x0 x1 x2) := by
  refine ⟨start_folded x2 hQ hK, ?_, ?_⟩
  · unfold start
    dsimp only
    rw [pay25_eq]
    exact max_real hQ hK (n := 1280) (o := 768) (by omega) (by omega) _ _ _
  · unfold start
    dsimp only
    rw [pay24_eq]
    exact slot_real hQ hK (n := 1280) (o := 768) (by omega) _ _

theorem ready_step (hQ : IsQ x0 Q) (hK : IsK x1 K) {o : ℕ} (h : o + 3840 ≤ 16640) {s : State Ideal} (hs : Ready Q K x2 o s) (ho : o + 2560 ≤ 16384) :
    Ready Q K x2 (o + 2560) (step x0 x1 x2 o h s) := by
  refine ⟨?_, ?_, ?_⟩
  · unfold step
    dsimp only
    rw [pay37_eq, pay38_eq, (max_eq _ _).2.2.1, (max_eq _ _).1, pay8_eq, pay9_eq, pay3_eq, pay4_eq]
    have h1 := fold_next (n := 1280) (e := o) shapeCasts_S1x1280x1024_S1280x1024 broadcasts_S1x1024_S1280x1024
      shapeCasts_S1x1x128x1280_S128x1280 broadcasts_S1x1024_S128x1024 bitsLt_bf16_f32 reduces_S1280x1024_S1024 shapeCasts_S1024_S1x1024
      (by omega) hs.folded hs.top hs.scored (fun d r => load_vals x2 (n := 1280) (o := o) (by omega) d r)
    have h2 := fold_next (n := 1280) (e := o + 1280) shapeCasts_S1x1280x1024_S1280x1024 broadcasts_S1x1024_S1280x1024
      shapeCasts_S1x1x128x1280_S128x1280 broadcasts_S1x1024_S128x1024 bitsLt_bf16_f32 reduces_S1280x1024_S1024 shapeCasts_S1024_S1x1024
      (by omega) h1
      (max_real hQ hK (n := 1280) (o := o + 1280) (by omega) (by omega) shapeCasts_S1x1x1280x192_S1280x192 reduces_S1280x1024_S1024 shapeCasts_S1024_S1x1024)
      (slot_real hQ hK (n := 1280) (o := o + 1280) (by omega) shapeCasts_S1x1x1280x192_S1280x192 shapeCasts_S1280x1024_S1x1280x1024)
      (fun d r => load_vals x2 (n := 1280) (o := o + 1280) (by omega) d r)
    rw [show o + 2560 = o + 1280 + 1280 from by omega]
    exact h2
  · unfold step
    dsimp only
    rw [pay33_eq]
    exact max_real hQ hK (n := 1280) (o := o + 2560) (by omega) (by omega) _ _ _
  · unfold step
    dsimp only
    rw [pay32_eq]
    exact slot_real hQ hK (n := 1280) (o := o + 2560) (by omega) _ _

theorem ready_st (hQ : IsQ x0 Q) (hK : IsK x1 K) (k : ℕ) (hk : k ≤ 5) : Ready Q K x2 (768 + 2560 * k) (st x0 x1 x2 (start x0 x1 x2) k) := by
  induction k with
  | zero => exact ready_start x2 hQ hK
  | succ k ih =>
    rw [st_succ _ _ _ _ k (by omega)]
    have := ready_step x2 hQ hK (o := 768 + 2560 * k) (by omega) (ih (by omega)) (by omega)
    rw [show 768 + 2560 * (k + 1) = 768 + 2560 * k + 2560 from by ring]
    exact this

/-- The output block transposes the quotient of the sums by the row of totals. -/
theorem quotient_apply (a : Sums) (l : Row) (i : Fin 1024) (d : Fin 128) :
    (truncf .bf16 (transpose S1024x128 [1, 0] (divf a (broadcastTo S128x1024 l broadcasts_S1x1024_S128x1024))
      transposes_S128x1024_p1_0_S1024x128) bitsLt_bf16_f32 : FVec Ideal S1024x128 .bf16) (ix2 i d)
      = Ideal.div (a (ix2 d i)) (l (ix2 0 i)) := by
  show transpose S1024x128 [1, 0] (divf a (broadcastTo S128x1024 l broadcasts_S1x1024_S128x1024)) transposes_S128x1024_p1_0_S1024x128 (ix2 i d) = _
  refine (transpose_apply _ _ transposes_S128x1024_p1_0_S1024x128 (ix2 i d) (ix2 d i) (fun a => ?_)).trans ?_
  · match a with
    | ⟨0, _⟩ => rfl
    | ⟨1, _⟩ => rfl
  · exact congrArg (Ideal.div _) (broadcastTo_1b_ab_apply l broadcasts_S1x1024_S128x1024 d i)

/-- **An entry of the point's output block is the softmax average of the values.** -/
theorem out_apply (hQ : IsQ x0 Q) (hK : IsK x1 K) (i : Fin 1024) (d : Fin 128) (M : ℝ) :
    out x0 x1 x2 (ix2 i d) = ∑ k ∈ Finset.range 16640,
      Ideal.div (Ideal.exp (((sc Q K i k * Real.log 2 : ℝ) : EReal) - (M : EReal)))
        (∑ j ∈ Finset.range 16640, Ideal.exp (((sc Q K i j * Real.log 2 : ℝ) : EReal) - (M : EReal))) * val x2 d k := by
  have h5 := ready_st x2 hQ hK 5 le_rfl
  unfold out
  generalize st x0 x1 x2 (start x0 x1 x2) 5 = s at h5 ⊢
  unfold finish
  rw [pay1_eq, (max_eq _ _).2.2.2, pay52_eq, pay53_eq, pay45_eq, pay46_eq, pay40_eq, pay41_eq]
  have h6 := fold_next (n := 256) (e := 16128) shapeCasts_S1x256x1024_S256x1024 broadcasts_S1x1024_S256x1024
    shapeCasts_S1x1x128x256_S128x256 broadcasts_S1x1024_S128x1024 bitsLt_bf16_f32 reduces_S256x1024_S1024 shapeCasts_S1024_S1x1024 (by omega)
    (fold_next (n := 1280) (e := 14848) shapeCasts_S1x1280x1024_S1280x1024 broadcasts_S1x1024_S1280x1024
      shapeCasts_S1x1x128x1280_S128x1280 broadcasts_S1x1024_S128x1024 bitsLt_bf16_f32 reduces_S1280x1024_S1024 shapeCasts_S1024_S1x1024 (by omega)
      (fold_next (n := 1280) (e := 13568) shapeCasts_S1x1280x1024_S1280x1024 broadcasts_S1x1024_S1280x1024
        shapeCasts_S1x1x128x1280_S128x1280 broadcasts_S1x1024_S128x1024 bitsLt_bf16_f32 reduces_S1280x1024_S1024 shapeCasts_S1024_S1x1024 (by omega)
        h5.folded h5.top h5.scored (fun d r => load_vals x2 (n := 1280) (o := 13568) (by omega) d r))
      (max_real hQ hK (n := 1280) (o := 14848) (by omega) (by omega) shapeCasts_S1x1x1280x192_S1280x192 reduces_S1280x1024_S1024 shapeCasts_S1024_S1x1024)
      (slot_real hQ hK (n := 1280) (o := 14848) (by omega) shapeCasts_S1x1x1280x192_S1280x192 shapeCasts_S1280x1024_S1x1280x1024)
      (fun d r => load_vals x2 (n := 1280) (o := 14848) (by omega) d r))
    (max_real hQ hK (n := 256) (o := 16128) (by omega) (by omega) shapeCasts_S1x1x256x192_S256x192 reduces_S256x1024_S1024 shapeCasts_S1024_S1x1024)
    (slot_real hQ hK (n := 256) (o := 16128) (by omega) shapeCasts_S1x1x256x192_S256x192 shapeCasts_S256x1024_S1x256x1024)
    (fun d r => load_vals x2 (n := 256) (o := 16128) (by omega) d r)
  have h7 : Held _ _ (seen 16384) _ _ _ := h6 i d
  rw [seen_all] at h7
  exact (quotient_apply _ _ i d).trans (h7.average (by omega) M)

end

end Cert.KernelIdeal.Hand
-- ==== Proof.AttnArray.lean ====
module

public import proofs.«01_k».proof.Proof.AttnFrameIdeal
public import proofs.«01_k».proof.Proof.AttnValue

/-! # The attention call's blocks and its final array

Grid point `(b, h, n)`, the point `t = 128 b + 16 h + n`, reads the queries of sequence `b`, head `h` at the `n`-th
thousand and twenty-four positions, and the keys and values of `(b, h)` whole; it writes rows `16384 b + 1024 n …`,
columns `128 h …` of the result. No two points write the same place. So an entry of the final array at a row below
32768 is an entry of one point's output block. -/

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-! ## Which block a point works on -/

/-- Window 3's blocks: row block `16 b + n`, column block `h`. -/
theorem index3 : ∀ t : Fin cfg0.N, win0_3.index t 0 = 16 * (t.val / 128) + t.val % 16 ∧ win0_3.index t 1 = t.val / 16 % 8 :=
  (by decide +kernel : ∀ t : Fin grid0.N, win0_3.index t 0 = 16 * (t.val / 128) + t.val % 16 ∧ win0_3.index t 1 = t.val / 16 % 8)

/-- Window 0's blocks: sequence `b`, head `h`, all coordinates, positions `n`. -/
theorem index0 : ∀ t : Fin cfg0.N, win0_0.index t 0 = t.val / 128 ∧ win0_0.index t 1 = t.val / 16 % 8
    ∧ win0_0.index t 2 = 0 ∧ win0_0.index t 3 = t.val % 16 :=
  (by decide +kernel : ∀ t : Fin grid0.N, win0_0.index t 0 = t.val / 128 ∧ win0_0.index t 1 = t.val / 16 % 8
    ∧ win0_0.index t 2 = 0 ∧ win0_0.index t 3 = t.val % 16)

/-- Window 1's blocks: sequence `b`, head `h`. -/
theorem index1 : ∀ t : Fin cfg0.N, win0_1.index t 0 = t.val / 128 ∧ win0_1.index t 1 = t.val / 16 % 8
    ∧ win0_1.index t 2 = 0 ∧ win0_1.index t 3 = 0 :=
  (by decide +kernel : ∀ t : Fin grid0.N, win0_1.index t 0 = t.val / 128 ∧ win0_1.index t 1 = t.val / 16 % 8
    ∧ win0_1.index t 2 = 0 ∧ win0_1.index t 3 = 0)

/-- Window 2's blocks: sequence `b`, head `h`. -/
theorem index2 : ∀ t : Fin cfg0.N, win0_2.index t 0 = t.val / 128 ∧ win0_2.index t 1 = t.val / 16 % 8
    ∧ win0_2.index t 2 = 0 ∧ win0_2.index t 3 = 0 :=
  (by decide +kernel : ∀ t : Fin grid0.N, win0_2.index t 0 = t.val / 128 ∧ win0_2.index t 1 = t.val / 16 % 8
    ∧ win0_2.index t 2 = 0 ∧ win0_2.index t 3 = 0)

/-- Every point writes its block back, -/
theorem flush3 : ∀ t : Fin cfg0.N, (cfg0.win 3).flush t = true :=
  (by decide +kernel : ∀ t : Fin grid0.N, win0_3.flush t = true)

/-- all of it, -/
theorem xsize3 : ∀ t : Fin cfg0.N, ∀ a, (cfg0.win 3).xsize (cfg0.grid.coords t) a = (cfg0.win 3).size a := by decide +kernel

/-- and no two points the same block. -/
theorem index3_inj (t t' : Fin cfg0.N) (h : win0_3.index t = win0_3.index t') : t = t' := by
  have h0 := congrFun h 0
  have h1 := congrFun h 1
  rw [(index3 t).1, (index3 t').1] at h0
  rw [(index3 t).2, (index3 t').2] at h1
  exact Fin.ext (by omega)

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (index3_inj t t' h)

/-- The index of window 3's moved block at point `t`. -/
def spot (t : Fin cfg0.N) (i : Fin 1024) (d : Fin 128) : ((cfg0.win 3).xblock (cfg0.grid.coords t)).Idx := fun a => match a with
  | ⟨0, _⟩ => ⟨i.val, lt_of_lt_of_eq i.isLt (xsize3 t 0).symm⟩
  | ⟨1, _⟩ => ⟨d.val, lt_of_lt_of_eq d.isLt (xsize3 t 1).symm⟩

/-- **The final array at an entry that point `t` writes is that entry of its output block.** -/
theorem array_apply (c : Dev nD) (t : Fin cfg0.N) (i : Fin 1024) (d : Fin 128) (r : Fin 33280) (k : Fin 1024)
    (hr : r.val = (16 * (t.val / 128) + t.val % 16) * 1024 + i.val) (hk : k.val = t.val / 16 % 8 * 128 + d.val) :
    (dats m 0 c).arrAt 3 cfg0.N (ix2 r k) = out (X0_0 m c t) (iblk m c 1 t) (iblk m c 2 t) (ix2 i d) := by
  have h := congrFun ((dats m 0 c).read_blk_arrAt_eq_flushed 3 disjoint3 cfg0.N t t.isLt (flush3 t)) (spot t i d)
  have he : ((cfg0.win 3).blk t).view.emb (spot t i d) = ix2 r k := by
    funext a
    match a with
    | ⟨0, _⟩ =>
      refine Fin.ext ?_
      show win0_3.index t 0 * 1024 + 1 * i.val = r.val
      rw [(index3 t).1, hr]; omega
    | ⟨1, _⟩ =>
      refine Fin.ext ?_
      show win0_3.index t 1 * 128 + 1 * d.val = k.val
      rw [(index3 t).2, hk]; omega
  have hx : (cfg0.win 3).xinj (cfg0.grid.coords t) (spot t i d) = ix2 i d := by
    funext a
    match a with
    | ⟨0, _⟩ => rfl
    | ⟨1, _⟩ => rfl
  refine (congrArg ((dats m 0 c).arrAt 3 cfg0.N) he.symm).trans (h.trans ?_)
  show (dats m 0 c).after 3 t ((cfg0.win 3).xinj (cfg0.grid.coords t) (spot t i d)) = _
  rw [after3, hx]

/-! ## The blocks read -/

/-- A query entry of point `t`'s block. -/
theorem query_apply (c : Dev nD) (t : Fin cfg0.N) (e : Fin 192) (i : Fin 1024) (b : Fin 2) (h : Fin 8) (n : Fin 16640)
    (hb : b.val = t.val / 128) (hh : h.val = t.val / 16 % 8) (hn : n.val = t.val % 16 * 1024 + i.val) :
    X0_0 m c t (ix4 (0 : Fin 1) (0 : Fin 1) e i) = m ((c : Thread nD τ).loc main_arg0) (ix4 b h e n) := by
  unfold X0_0 Pipeline.Window.fill
  rw [dif_pos (moved0_0 t _)]
  refine congrArg (m ((c : Thread nD τ).loc main_arg0)) ?_
  funext a
  match a with
  | ⟨0, _⟩ =>
    refine Fin.ext ?_
    show win0_0.index t 0 * 1 + 1 * 0 = b.val
    rw [(index0 t).1, hb]; omega
  | ⟨1, _⟩ =>
    refine Fin.ext ?_
    show win0_0.index t 1 * 1 + 1 * 0 = h.val
    rw [(index0 t).2.1, hh]; omega
  | ⟨2, _⟩ =>
    refine Fin.ext ?_
    show win0_0.index t 2 * 192 + 1 * e.val = e.val
    rw [(index0 t).2.2.1]; omega
  | ⟨3, _⟩ =>
    refine Fin.ext ?_
    show win0_0.index t 3 * 1024 + 1 * i.val = n.val
    rw [(index0 t).2.2.2, hn]; omega

/-- A key entry. -/
theorem key_apply (c : Dev nD) (t : Fin cfg0.N) (n : Fin 16640) (e : Fin 192) (b : Fin 2) (h : Fin 8)
    (hb : b.val = t.val / 128) (hh : h.val = t.val / 16 % 8) :
    iblk m c 1 t (ix4 (0 : Fin 1) (0 : Fin 1) n e) = m ((c : Thread nD τ).loc main_arg1) (ix4 b h n e) := by
  refine congrArg (m ((c : Thread nD τ).loc main_arg1)) ?_
  funext a
  match a with
  | ⟨0, _⟩ =>
    refine Fin.ext ?_
    show win0_1.index t 0 * 1 + 1 * 0 = b.val
    rw [(index1 t).1, hb]; omega
  | ⟨1, _⟩ =>
    refine Fin.ext ?_
    show win0_1.index t 1 * 1 + 1 * 0 = h.val
    rw [(index1 t).2.1, hh]; omega
  | ⟨2, _⟩ =>
    refine Fin.ext ?_
    show win0_1.index t 2 * 16640 + 1 * n.val = n.val
    rw [(index1 t).2.2.1]; omega
  | ⟨3, _⟩ =>
    refine Fin.ext ?_
    show win0_1.index t 3 * 192 + 1 * e.val = e.val
    rw [(index1 t).2.2.2]; omega

/-- A value entry. -/
theorem value_apply (c : Dev nD) (t : Fin cfg0.N) (d : Fin 128) (n : Fin 16640) (b : Fin 2) (h : Fin 8)
    (hb : b.val = t.val / 128) (hh : h.val = t.val / 16 % 8) :
    iblk m c 2 t (ix4 (0 : Fin 1) (0 : Fin 1) d n) = m ((c : Thread nD τ).loc main_arg2) (ix4 b h d n) := by
  refine congrArg (m ((c : Thread nD τ).loc main_arg2)) ?_
  funext a
  match a with
  | ⟨0, _⟩ =>
    refine Fin.ext ?_
    show win0_2.index t 0 * 1 + 1 * 0 = b.val
    rw [(index2 t).1, hb]; omega
  | ⟨1, _⟩ =>
    refine Fin.ext ?_
    show win0_2.index t 1 * 1 + 1 * 0 = h.val
    rw [(index2 t).2.1, hh]; omega
  | ⟨2, _⟩ =>
    refine Fin.ext ?_
    show win0_2.index t 2 * 128 + 1 * d.val = d.val
    rw [(index2 t).2.2.1]; omega
  | ⟨3, _⟩ =>
    refine Fin.ext ?_
    show win0_2.index t 3 * 16640 + 1 * n.val = n.val
    rw [(index2 t).2.2.2]; omega

end Cert.KernelIdeal.Hand
-- ==== Proof.AttnReference.lean ====
module

public import proofs.«01_k».proof.Proof.OnlineSoftmax
public import proofs.«01_k».proof.Proof.Gen.ReferenceIdeal.Run
public import proofs.«01_k».proof.Proof.Gen.ReferenceIdeal.Read
public import Idealize.ShloMosaic.Lib.KernelVsHost

/-! # What the attention reference computes

With real queries and keys, a row of the reference's result below 32768 is the average of the values under the softmax
of the scores, the largest score subtracted first: some real number. -/

@[expose] public section

set_option maxRecDepth 16384

noncomputable section

namespace Cert.ReferenceIdeal.Hand

open Cert.ReferenceIdeal Cert.ReferenceIdeal.Gen Cert.ReferenceIdeal.Read Cert.Attn
open Idealize.ShloMosaic Idealize.ShloMosaic.ValueIdx
open scoped BigOperators

/-! ## The constants -/

theorem root_pos : ∃ r : ℝ, 0 < r ∧ ∀ i : S_.Idx, val_main_v0 (F := Ideal) i = (r : EReal) := by
  refine ⟨Real.sqrt 192, Real.sqrt_pos.2 (by norm_num), fun i => ?_⟩
  rw [val_main_v0_apply]
  have h : (val_main_cst (F := Ideal) i : EReal) = ((192 : ℝ) : EReal) := by
    show Ideal.ofBits .f32 0x43400000#32 = _
    simp [Ideal.ofBits, Ideal.ieee, -EReal.coe_mul]; norm_num
  show Ideal.sqrt (val_main_cst (F := Ideal) i) = _
  rw [h, Ideal.sqrt_coe, if_neg (by norm_num)]

theorem log_two (i : S_.Idx) : val_main_v4 (F := Ideal) i = ((Real.log 2 : ℝ) : EReal) := by
  rw [val_main_v4_apply]
  have h : (val_main_cst_0 (F := Ideal) i : EReal) = ((2 : ℝ) : EReal) := by
    show Ideal.ofBits .f32 0x40000000#32 = _
    simp [Ideal.ofBits, Ideal.ieee, -EReal.coe_mul]; norm_num
  show Ideal.log (val_main_cst_0 (F := Ideal) i) = _
  rw [h, Ideal.log_coe, if_neg (by norm_num)]

variable (x0 : (⟨S2x8x192x16640, .bf16⟩ : BufTy).Contents (Elt Ideal)) (x1 : (⟨S2x8x16640x192, .bf16⟩ : BufTy).Contents (Elt Ideal))
  (x2 : (⟨S2x8x128x16640, .bf16⟩ : BufTy).Contents (Elt Ideal))
  {q : Fin 2 → Fin 8 → Fin 192 → Fin 16640 → ℝ} {k : Fin 2 → Fin 8 → Fin 16640 → Fin 192 → ℝ}

/-- The dot product of a key with a query. -/
def score (q : Fin 2 → Fin 8 → Fin 192 → Fin 16640 → ℝ) (k : Fin 2 → Fin 8 → Fin 16640 → Fin 192 → ℝ)
    (b : Fin 2) (h : Fin 8) (i : Fin 16640) (n : Fin 16640) : ℝ := ∑ e : Fin 192, k b h n e * q b h e i

/-- A position among the first 16384. -/
abbrev early (i : Fin 16384) : Fin 16640 := ⟨i.val, by have := i.isLt; omega⟩

variable (hq : ∀ b h e n, x0 (ix4 b h e n) = (q b h e n : EReal)) (hk : ∀ b h n e, x1 (ix4 b h n e) = (k b h n e : EReal))

include hq hk

/-- The score the reference exponentiates: the root of 192 cancels. -/
theorem score_apply (b : Fin 2) (h : Fin 8) (i : Fin 16384) (n : Fin 16640) :
    val_main_v11 (F := Ideal) x0 x1 (ix4 b h i n) = ((score q k b h (early i) n * Real.log 2 : ℝ) : EReal) := by
  obtain ⟨r, hr, h0⟩ := root_pos
  have h9 : val_main_v9 (F := Ideal) x0 x1 (ix4 b h i n) = ((score q k b h (early i) n * Real.log 2 * r : ℝ) : EReal) := by
    rw [val_main_v9_apply, score, Finset.sum_mul, Finset.sum_mul, coe_sum]
    refine Finset.sum_congr rfl fun e _ => ?_
    have h7 : val_main_v7 (F := Ideal) x0 (lidx_main_v9 (ix4 b h i n) e) = ((q b h e (early i) * (r * Real.log 2) : ℝ) : EReal) := by
      rw [val_main_v7_apply, val_main_v3_apply, val_main_v2_apply, val_main_v1_apply, val_main_v6_apply, val_main_v5_apply, h0, log_two]
      have hx : x0 (idx_main_v1 (idx_main_v2 (lidx_main_v9 (ix4 b h i n) e))) = (q b h e (early i) : EReal) := by
        rw [← hq]
        refine congrArg x0 (funext fun a => ?_)
        match a with
        | ⟨0, _⟩ => rfl
        | ⟨1, _⟩ => rfl
        | ⟨2, _⟩ => rfl
        | ⟨3, _⟩ => rfl
      show x0 _ * ((r : EReal) * ((Real.log 2 : ℝ) : EReal)) = _
      rw [hx, ← EReal.coe_mul, ← EReal.coe_mul]
    have h8 : val_main_v8 (F := Ideal) x1 (ridx_main_v9 (ix4 b h i n) e) = (k b h n e : EReal) := by
      rw [← hk]
      show x1 _ = _
      refine congrArg x1 (funext fun a => ?_)
      match a with
      | ⟨0, _⟩ => rfl
      | ⟨1, _⟩ => rfl
      | ⟨2, _⟩ => rfl
      | ⟨3, _⟩ => rfl
    rw [h7, h8, ← EReal.coe_mul]
    congr 1
    ring
  rw [val_main_v11_apply, val_main_v10_apply, h0, h9]
  show Ideal.div _ _ = _
  rw [Ideal.div_coe hr.ne', ← EReal.coe_mul]
  congr 1
  field_simp

omit hq hk in
/-- The host's maximum along the keys, from −∞. -/
theorem max_apply (x : FVec Ideal S2x8x16384x16640 .f32) (b : Fin 2) (h : Fin 8) (i : Fin 16384) :
    Host.reduce FloatOps.maximumf x (constant S_ .f32 0xFF800000#32) reducesTo_S2x8x16384x16640_S2x8x16384_d3 h_S_ (ix3 b h i)
      = (Finset.univ : Finset (Fin 16640)).fold max (⊥ : EReal) fun n => x (ix4 b h i n) := by
  have hbot : (FloatOps.ofBits .f32 0xFF800000#32 : Ideal .f32) = (⊥ : EReal) := by
    show Ideal.ofBits .f32 0xFF800000#32 = _
    simp [Ideal.ofBits, Ideal.ieee]
  have hred : S2x8x16384x16640.Reduces [3] S2x8x16384 := by decide
  have hone := hostReduce_maximumf_eq_multiReduction x 0xFF800000#32 reducesTo_S2x8x16384x16640_S2x8x16384_d3 h_S_ hred (.inl rfl) rfl
  refine (congrFun hone (ix3 b h i)).trans ?_
  refine (Ideal.multiReduction_maximumf_single x _ hred _ _ (ix3 b h i)).trans ?_
  rw [hbot]
  refine congrArg (fun f => (Finset.univ : Finset (Fin 16640)).fold max (⊥ : EReal) f) (funext fun n => ?_)
  refine congrArg x (funext fun a => Fin.ext ?_)
  match a with
  | ⟨0, _⟩ => rfl
  | ⟨1, _⟩ => rfl
  | ⟨2, _⟩ => rfl
  | ⟨3, _⟩ => rfl

/-- The largest score of a query is a real number. -/
theorem top_real (b : Fin 2) (h : Fin 8) (i : Fin 16384) :
    ∃ M : ℝ, val_main_v14 (F := Ideal) x0 x1 (ix3 b h i) = (M : EReal) := by
  obtain ⟨M, hM⟩ := fold_max_real (n := 16640) (by omega) fun n => score q k b h (early i) n * Real.log 2
  refine ⟨M, ?_⟩
  have hbot : (val_main_v13 (F := Ideal) (ix3 b h i) : EReal) = ⊥ := by
    show Ideal.ofBits .f32 0xFF800000#32 = _
    simp [Ideal.ofBits, Ideal.ieee]
  have h12 : val_main_v12 (F := Ideal) x0 x1 (ix3 b h i) = (M : EReal) := by
    unfold val_main_v12 val_main_cst_1
    rw [max_apply, ← hM]
    exact congrArg (fun f => (Finset.univ : Finset (Fin 16640)).fold max (⊥ : EReal) f) (funext fun n => score_apply x0 x1 hq hk b h i n)
  rw [val_main_v14_apply, h12, hbot]
  exact max_eq_right bot_le

/-- **A row of the reference below 32768**, `16384 b + i`, at column `128 h + d`. -/
theorem row_apply (b : Fin 2) (h : Fin 8) (i : Fin 16384) (d : Fin 128) (r : Fin 33280) (c : Fin 1024)
    (hr : r.val = 16384 * b.val + i.val) (hc : c.val = 128 * h.val + d.val) :
    ∃ M : ℝ, val_main_v29 (F := Ideal) x0 x1 x2 (ix2 r c) = ∑ n : Fin 16640,
      Ideal.div (Ideal.exp (((score q k b h (early i) n * Real.log 2 : ℝ) : EReal) - (M : EReal)))
        (∑ j : Fin 16640, Ideal.exp (((score q k b h (early i) j * Real.log 2 : ℝ) : EReal) - (M : EReal))) * x2 (ix4 b h d n) := by
  obtain ⟨M, hM⟩ := top_real x0 x1 hq hk b h i
  refine ⟨M, ?_⟩
  have hb := b.isLt
  have hh := h.isLt
  have hi := i.isLt
  have hd := d.isLt
  have h18 (n : Fin 16640) : val_main_v18 (F := Ideal) x0 x1 (ix4 b h i n)
      = Ideal.exp (((score q k b h (early i) n * Real.log 2 : ℝ) : EReal) - (M : EReal)) := by
    have h17 : val_main_v17 (F := Ideal) x0 x1 (ix4 b h i n) = ((score q k b h (early i) n * Real.log 2 : ℝ) : EReal) - (M : EReal) := by
      rw [val_main_v17_apply, val_main_v16_apply, val_main_v15_apply, score_apply x0 x1 hq hk]
      have hx : val_main_v14 (F := Ideal) x0 x1 (idx_main_v15 (idx_main_v16 (ix4 b h i n))) = (M : EReal) := by
        rw [← hM]
        refine congrArg (val_main_v14 (F := Ideal) x0 x1) (funext fun a => ?_)
        match a with
        | ⟨0, _⟩ => rfl
        | ⟨1, _⟩ => rfl
        | ⟨2, _⟩ => rfl
      rw [hx]; rfl
    rw [← h17]; rfl
  have h19 : val_main_v19 (F := Ideal) x0 x1 (ix3 b h i)
      = ∑ j : Fin 16640, Ideal.exp (((score q k b h (early i) j * Real.log 2 : ℝ) : EReal) - (M : EReal)) := by
    rw [val_main_v19_apply]
    have hz : val_main_cst_3 (F := Ideal) (Shape.Idx.first h_S_) = (0 : EReal) := Ideal.ofBits_zero_f32
    rw [hz, zero_add]
    refine Finset.sum_congr rfl fun n _ => (congrArg (val_main_v18 (F := Ideal) x0 x1) (funext fun a => ?_)).trans (h18 n)
    match a with
    | ⟨0, _⟩ => rfl
    | ⟨1, _⟩ => rfl
    | ⟨2, _⟩ => rfl
    | ⟨3, _⟩ => rfl
  have h22 (n : Fin 16640) : val_main_v22 (F := Ideal) x0 x1 (ix4 b h i n)
      = Ideal.div (Ideal.exp (((score q k b h (early i) n * Real.log 2 : ℝ) : EReal) - (M : EReal)))
        (∑ j : Fin 16640, Ideal.exp (((score q k b h (early i) j * Real.log 2 : ℝ) : EReal) - (M : EReal))) := by
    have hx : val_main_v21 (F := Ideal) x0 x1 (ix4 b h i n) = val_main_v19 (F := Ideal) x0 x1 (ix3 b h i) := by
      rw [val_main_v21_apply, val_main_v20_apply]
      refine congrArg (val_main_v19 (F := Ideal) x0 x1) (funext fun a => ?_)
      match a with
      | ⟨0, _⟩ => rfl
      | ⟨1, _⟩ => rfl
      | ⟨2, _⟩ => rfl
    rw [val_main_v22_apply, h18, hx, h19]; rfl
  have h24 : val_main_v24 (F := Ideal) x0 x1 x2 (ix4 b h i d) = ∑ n : Fin 16640,
      Ideal.div (Ideal.exp (((score q k b h (early i) n * Real.log 2 : ℝ) : EReal) - (M : EReal)))
        (∑ j : Fin 16640, Ideal.exp (((score q k b h (early i) j * Real.log 2 : ℝ) : EReal) - (M : EReal))) * x2 (ix4 b h d n) := by
    rw [val_main_v24_apply]
    refine Finset.sum_congr rfl fun n _ => ?_
    refine congrArg₂ (· * ·) ((congrArg (val_main_v22 (F := Ideal) x0 x1) (funext fun a => ?_)).trans (h22 n)) ?_
    · match a with
      | ⟨0, _⟩ => rfl
      | ⟨1, _⟩ => rfl
      | ⟨2, _⟩ => rfl
      | ⟨3, _⟩ => rfl
    · show x2 _ = _
      refine congrArg x2 (funext fun a => ?_)
      match a with
      | ⟨0, _⟩ => rfl
      | ⟨1, _⟩ => rfl
      | ⟨2, _⟩ => rfl
      | ⟨3, _⟩ => rfl
  rw [← h24]
  unfold val_main_v29
  refine (concatenate_pair_apply_left (t := S33280x1024) (s₁ := S32768x1024) (s₂ := S512x1024) (0 : Fin 2) _ _ concatenates_S32768x1024_S512x1024_S33280x1024_d0 (ix2 r c) rfl
    (ix2 (⟨r.val, by omega⟩ : Fin 32768) c) (fun a => ?_)).trans ?_
  · match a with
    | ⟨0, _⟩ => rfl
    | ⟨1, _⟩ => rfl
  · rw [val_main_v27_apply, val_main_v26_apply, val_main_v25_apply]
    show val_main_v24 (F := Ideal) x0 x1 x2 _ = _
    refine congrArg (val_main_v24 (F := Ideal) x0 x1 x2) (funext fun a => Fin.ext ?_)
    match a with
    | ⟨0, _⟩ => show (r.val * 1024 + c.val) / 16777216 = b.val; omega
    | ⟨1, _⟩ => show (r.val * 1024 + c.val) / 128 % 8 = h.val; omega
    | ⟨2, _⟩ => show (r.val * 1024 + c.val) / 1024 % 16384 = i.val; omega
    | ⟨3, _⟩ => show (r.val * 1024 + c.val) % 128 = d.val; omega

end Cert.ReferenceIdeal.Hand
-- ==== Proof.AttnClaim.lean ====
module

public import proofs.«01_k».proof.Defs
public import proofs.«01_k».proof.Proof.AttnArray
public import proofs.«01_k».proof.Proof.AttnReference
public import proofs.«01_k».proof.Proof.Gen.Pre_finite
public import proofs.«01_k».proof.Proof.Gen.On_latent_rows
public import Idealize.ShloMosaic.Lib.ReduceAll
public import Idealize.ShloMosaic.Lib.WordCmp

/-! # The attention call and its reference agree

From finite queries and keys, the kernel and the reference leave equal rows below 32768: each is the average of the
values under the softmax of the same scores, and such an average does not depend on the number subtracted from the
scores beforehand. -/

@[expose] public section

set_option maxRecDepth 16384

noncomputable section

namespace Cert.Attn

open Idealize.ShloMosaic Idealize.ShloMosaic.TcCoe Idealize.ShloMosaic.ValueIdx
open Idealize.SL.Sem
open scoped BigOperators

/-! ## The precondition and the mask, read -/

/-- An extended real whose absolute value is below ∞ is a real number. -/
theorem real_of_abs_lt (x : EReal) (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | top => simp [Ideal.cmp] at h
  | coe r => exact ⟨r, rfl⟩

/-- Finite queries and keys are real numbers. -/
theorem finite_real (x0 : FVec Ideal Pre_finite.S2x8x192x16640 .bf16) (x1 : FVec Ideal Pre_finite.S2x8x16640x192 .bf16)
    (x2 : FVec Ideal Pre_finite.S2x8x128x16640 .bf16) (h : Cert.Pre_finite.fn (F := Ideal) x0 x1 x2 = fun _ => 1#1) :
    (∀ i, ∃ r : ℝ, x0 i = (r : EReal)) ∧ ∀ i, ∃ r : ℝ, x1 i = (r : EReal) := by
  have h' := congrFun h (fun a => a.elim0)
  obtain ⟨ha, hb⟩ := IntOp.andi_eq_one.1 h'
  haveI : Subsingleton Pre_finite.S_.Idx := ⟨fun a b => funext fun c => c.elim0⟩
  exact ⟨fun i => real_of_abs_lt _ (Host.reduce_andi_all _ _ _ _ _ ha i), fun i => real_of_abs_lt _ (Host.reduce_andi_all _ _ _ _ _ hb i)⟩

/-- The mask is set at the rows below 32768. -/
theorem mask_row (x0 : FVec Ideal On_latent_rows.S2x8x192x16640 .bf16) (x1 : FVec Ideal On_latent_rows.S2x8x16640x192 .bf16)
    (x2 : FVec Ideal On_latent_rows.S2x8x128x16640 .bf16) (i : (⟨2, ![33280, 1024]⟩ : Shape).Idx)
    (h : Cert.On_latent_rows.fn (F := Ideal) x0 x1 x2 i = 1#1) : (i 0).val < 32768 := by
  have hi : (i 0).val < 33280 := (i 0).isLt
  have h' : IntOp.cmpi .slt (BitVec.ofNat 32 (i 0).val) (BitVec.ofNat 32 32768) = 1#1 := h
  rw [WordCmp.cmpi_slt_ofNat (by omega) (by omega)] at h'
  by_contra hc
  simp [hc] at h'

/-! ## The two sides -/

/-- The two averages over the keys, once over the naturals below 16640 and once over the indices. -/
theorem average_fin (s : ℕ → ℝ) (v : ℕ → EReal) (M : ℝ) :
    ∑ k ∈ Finset.range 16640, Ideal.div (Ideal.exp (((s k * Real.log 2 : ℝ) : EReal) - (M : EReal)))
        (∑ j ∈ Finset.range 16640, Ideal.exp (((s j * Real.log 2 : ℝ) : EReal) - (M : EReal))) * v k
      = ∑ n : Fin 16640, Ideal.div (Ideal.exp (((s n.val * Real.log 2 : ℝ) : EReal) - (M : EReal)))
        (∑ j : Fin 16640, Ideal.exp (((s j.val * Real.log 2 : ℝ) : EReal) - (M : EReal))) * v n.val := by
  rw [← Fin.sum_univ_eq_sum_range (fun j => Ideal.exp (((s j * Real.log 2 : ℝ) : EReal) - (M : EReal))) 16640,
    ← Fin.sum_univ_eq_sum_range (fun k => Ideal.div (Ideal.exp (((s k * Real.log 2 : ℝ) : EReal) - (M : EReal)))
      (∑ j : Fin 16640, Ideal.exp (((s j.val * Real.log 2 : ℝ) : EReal) - (M : EReal))) * v k) 16640]

open Cert.KernelIdeal Cert.KernelIdeal.Gen in
/-- A row below 32768 of the kernel's final array is the reference's. -/
theorem rows_eq (m : (ℓ : Loc Cert.KernelIdeal.nD Cert.KernelIdeal.τ Cert.KernelIdeal.sig) → Buf (Elt Ideal) ℓ) (c : Dev Cert.KernelIdeal.nD)
    (hfin : Cert.Pre_finite.fn (F := Ideal) (m ((c.tc : Thread nD τ).loc main_arg0)) (m ((c.tc : Thread nD τ).loc main_arg1))
      (m ((c.tc : Thread nD τ).loc main_arg2)) = fun _ => 1#1) (r : Fin 33280) (k : Fin 1024) (hr : r.val < 32768) :
    (Cert.KernelIdeal.Hand.dats m 0 c).arrAt 3 cfg0.N (ix2 r k)
      = Cert.ReferenceIdeal.Read.val_main_v29 (F := Ideal) (m ((c.tc : Thread nD τ).loc main_arg0)) (m ((c.tc : Thread nD τ).loc main_arg1))
          (m ((c.tc : Thread nD τ).loc main_arg2)) (ix2 r k) := by
  obtain ⟨h0, h1⟩ := finite_real _ _ _ hfin
  choose q hq using fun b h e n => h0 (ix4 b h e n)
  choose w hw using fun b h n e => h1 (ix4 b h n e)
  have hk := k.isLt
  let b : Fin 2 := ⟨r.val / 16384, by omega⟩
  let h : Fin 8 := ⟨k.val / 128, by omega⟩
  let i : Fin 16384 := ⟨r.val % 16384, by omega⟩
  let d : Fin 128 := ⟨k.val % 128, by omega⟩
  have ht : r.val / 16384 * 128 + k.val / 128 * 16 + r.val % 16384 / 1024 < cfg0.N :=
    lt_of_lt_of_eq (show _ < 256 by omega) (N_0).symm
  let t : Fin cfg0.N := ⟨_, ht⟩
  have htv : t.val = r.val / 16384 * 128 + k.val / 128 * 16 + r.val % 16384 / 1024 := rfl
  obtain ⟨M, hM⟩ := Cert.ReferenceIdeal.Hand.row_apply (m ((c.tc : Thread nD τ).loc main_arg0)) (m ((c.tc : Thread nD τ).loc main_arg1))
    (m ((c.tc : Thread nD τ).loc main_arg2)) hq hw b h i d r k (show r.val = 16384 * (r.val / 16384) + r.val % 16384 by omega)
    (show k.val = 128 * (k.val / 128) + k.val % 128 by omega)
  have hQ : Cert.KernelIdeal.Hand.IsQ (X0_0 m c t) fun e x => q b h e ⟨t.val % 16 * 1024 + x.val, by have := x.isLt; omega⟩ := fun e x => by
    rw [← hq]
    exact Cert.KernelIdeal.Hand.query_apply m c t e x b h _ (show r.val / 16384 = t.val / 128 by omega)
      (show k.val / 128 = t.val / 16 % 8 by omega) rfl
  have hK : Cert.KernelIdeal.Hand.IsK (iblk m c 1 t) fun n e => if hn : n < 16640 then w b h ⟨n, hn⟩ e else 0 := fun n e => by
    dsimp only
    rw [dif_pos n.isLt, ← hw]
    exact Cert.KernelIdeal.Hand.key_apply m c t n e b h (show r.val / 16384 = t.val / 128 by omega)
      (show k.val / 128 = t.val / 16 % 8 by omega)
  rw [hM, Cert.KernelIdeal.Hand.array_apply m c t ⟨r.val % 1024, by omega⟩ d r k
    (show r.val = (16 * (t.val / 128) + t.val % 16) * 1024 + r.val % 1024 by omega)
    (show k.val = t.val / 16 % 8 * 128 + k.val % 128 by omega), Cert.KernelIdeal.Hand.out_apply (iblk m c 2 t) hQ hK _ d M, average_fin]
  have hs (n : Fin 16640) : Cert.KernelIdeal.Hand.sc (fun e x => q b h e ⟨t.val % 16 * 1024 + x.val, by have := x.isLt; omega⟩)
      (fun n e => if hn : n < 16640 then w b h ⟨n, hn⟩ e else 0) ⟨r.val % 1024, by omega⟩ n.val
        = Cert.ReferenceIdeal.Hand.score q w b h (Cert.ReferenceIdeal.Hand.early i) n := by
    unfold Cert.KernelIdeal.Hand.sc Cert.ReferenceIdeal.Hand.score
    refine Finset.sum_congr rfl fun e _ => ?_
    dsimp only
    rw [dif_pos n.isLt]
    refine congrArg₂ (· * ·) rfl (congrArg (q b h e) (Fin.ext ?_))
    show t.val % 16 * 1024 + r.val % 1024 = r.val % 16384
    omega
  have hv (n : Fin 16640) : Cert.KernelIdeal.Hand.val (iblk m c 2 t) d n.val = m ((c.tc : Thread nD τ).loc main_arg2) (ix4 b h d n) := by
    unfold Cert.KernelIdeal.Hand.val
    rw [dif_pos n.isLt]
    exact Cert.KernelIdeal.Hand.value_apply m c t d n b h (show r.val / 16384 = t.val / 128 by omega)
      (show k.val / 128 = t.val / 16 % 8 by omega)
  simp only [hs, hv]

open Cert.KernelIdeal Cert.KernelIdeal.Gen in
/-- **The attention claim.** -/
theorem algebraic : Cert.algebraic_KernelIdeal_ReferenceIdeal_on_latent_rows_pre_finite := by
  intro m g m' g' hpre heq
  refine ⟨fun c => (Cert.KernelIdeal.Hand.dats m 0 c).arrAt 3 cfg0.N, ?_, ?_⟩
  · refine (θ_run _ _ _).mono (fun r h c => ⟨fun i _ => congrFun ((h.1 c).1 3) i, h.2.1 c⟩)
      (θ_run_and (Cert.KernelIdeal.Hand.run_main m g) (Cert.KernelIdeal.Hand.frame m g))
  · refine (θ_run _ _ _).mono (fun r h c => ⟨fun i hi => ?_, (h c).2⟩) (Cert.ReferenceIdeal.Value.run (F := Ideal) m' g')
    obtain ⟨e0, e1, e2⟩ := heq c
    have hrow := mask_row _ _ _ i hi
    have hix : i = ix2 (i 0) (i 1) := by
      funext a
      match a with
      | ⟨0, _⟩ => rfl
      | ⟨1, _⟩ => rfl
    rw [(h c).1, Cert.ReferenceIdeal.Read.val_main_v29_eq, e0, e1, e2, hix]
    exact (rows_eq m c (hpre c) (i 0) (i 1) hrow).symm

end Cert.Attn
-- ==== Proof.MlpBlock.lean ====
module

public import proofs.«01_k».proof.Proof.Gen.Kernel2Ideal.Frame
public import Idealize.ShloMosaic.Lib.Tactic
public import Idealize.ShloMosaic.Lib.Pipeline.Value

/-! # What one step of the MLP leaves

At each step the body adds to the output block the product of one slice of 512 hidden columns. At the first step of a row
block it first leaves the normalised, modulated rows in the scratch and starts the output block at zero; at the last step
it then adds the gated residual and normalises the rows. -/

@[expose] public section

set_option maxRecDepth 16384

noncomputable section

namespace Cert.Kernel2Ideal.Hand

open Cert.Kernel2Ideal Cert.Kernel2Ideal.Gen
open Idealize.ShloMosaic Idealize.ShloMosaic.TcCoe Idealize.SL.Sem

variable {F : FTy → Type} [FloatOps F]

theorem zeros2 : (![0, 0] : Fin 2 → Nat) = fun _ => 0 := funext fun a => by fin_cases a <;> rfl

/-- The modulation vector number `k` of a block of the modulation array: 2048 of its columns, from `off`. -/
abbrev modAt (off : ℕ) (x1 : Vec F S1x1x12288 .f32) (h : ∀ a, (![0, 0, off] : Fin 3 → ℕ) a + S1x1x2048.size a ≤ S1x1x12288.size a) :
    Vec F S1x1x2048 .f32 := View.ld x1 (Rect.unit (s := S1x1x12288) ![0, 0, off] S1x1x2048.size h)

/-- The first step's scratch: the normalised, modulated rows. -/
theorem scratch_A (c : Dev nD) (i : grid0.Coords) (a2 : Memref sig .tc .vmem S1024x2048 .f32) (h2 : a2.IsWhole)
    (a3 : Memref sig .tc .vmem S1x1x12288 .f32) (h3 : a3.IsWhole) (a4 : Memref sig .tc .vmem S1x2048 .f32) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole) (hc0 : cond0_0 i) (hc1 : ¬cond0_1 i)
    (x0 : Vec F S1024x2048 .f32) (x1 : Vec F S1x1x12288 .f32) (x2 : Vec F S1x2048 .f32) (x3 : Vec F S2048x512 .bf16) (x4 : Vec F S512x2048 .bf16) (x5 : Vec F S1x2048 .f32) :
    sout0_A_0 c i a2 h2 a3 h3 a4 h4 a5 h5 a6 h6 a7 h7 a8 h8 a9 h9 hc0 hc1 x0 x1 x2 x3 x4 x5
      = k0_pay1 x0 x2 (modAt 6144 x1 inb_S1x1x12288_S1x1x2048_0_0_6144) (modAt 8192 x1 inb_S1x1x12288_S1x1x2048_0_0_8192) := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_unit_zero zeros2]
  simp only [View.readAt_eq_ld, h2.read_unread, h3.read_unread, h4.read_unread, View.ld_unit_zero (S := S1024x2048) zeros2,
    View.ld_unit_zero (S := S1x2048) zeros2]

/-- The first step's output block. -/
theorem out_A (c : Dev nD) (i : grid0.Coords) (a2 : Memref sig .tc .vmem S1024x2048 .f32) (h2 : a2.IsWhole)
    (a3 : Memref sig .tc .vmem S1x1x12288 .f32) (h3 : a3.IsWhole) (a4 : Memref sig .tc .vmem S1x2048 .f32) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole) (hc0 : cond0_0 i) (hc1 : ¬cond0_1 i)
    (x0 : Vec F S1024x2048 .f32) (x1 : Vec F S1x1x12288 .f32) (x2 : Vec F S1x2048 .f32) (x3 : Vec F S2048x512 .bf16) (x4 : Vec F S512x2048 .bf16) (x5 : Vec F S1x2048 .f32) :
    out0_A_6 c i a2 h2 a3 h3 a4 h4 a5 h5 a6 h6 a7 h7 a8 h8 a9 h9 hc0 hc1 x0 x1 x2 x3 x4 x5
      = k0_pay3 (k0_pay1 x0 x2 (modAt 6144 x1 inb_S1x1x12288_S1x1x2048_0_0_6144) (modAt 8192 x1 inb_S1x1x12288_S1x1x2048_0_0_8192))
          x3 (k0_pay2 (F := F)) x4 := by
  unfold out0_A_6
  rw [View.read_writes_eq_canon _ _ _ (cover0_A_6 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x2048) zeros2]
  simp only [View.readCov_unit_zero (S := S1024x2048) _ zeros2, View.readAt_eq_ld, h2.read_unread, h3.read_unread, h4.read_unread,
    h5.read_unread, h6.read_unread, View.ld_unit_zero (S := S1024x2048) zeros2,
    View.ld_unit_zero (S := S1x2048) zeros2, View.ld_unit_zero (S := S2048x512) zeros2, View.ld_unit_zero (S := S512x2048) zeros2]

/-- A middle step's output block, over what the step before left. -/
theorem out_B (c : Dev nD) (i : grid0.Coords) (a2 : Memref sig .tc .vmem S1024x2048 .f32) (h2 : a2.IsWhole)
    (a3 : Memref sig .tc .vmem S1x1x12288 .f32) (h3 : a3.IsWhole) (a4 : Memref sig .tc .vmem S1x2048 .f32) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole) (hc0 : ¬cond0_0 i) (hc1 : ¬cond0_1 i)
    (x0 : Vec F S1024x2048 .f32) (x1 : Vec F S1x1x12288 .f32) (x2 : Vec F S1x2048 .f32) (x3 : Vec F S2048x512 .bf16) (x4 : Vec F S512x2048 .bf16) (x5 : Vec F S1x2048 .f32) (xo : Vec F S1024x2048 .f32) (xs : Vec F S1024x2048 .bf16) :
    out0_B_6 c i a2 h2 a3 h3 a4 h4 a5 h5 a6 h6 a7 h7 a8 h8 a9 h9 hc0 hc1 x0 x1 x2 x3 x4 x5 xo xs = k0_pay3 xs x3 xo x4 := by
  unfold out0_B_6
  rw [View.read_writes_eq_canon _ _ _ (cover0_B_6 c i a2 h2 a3 h3 a4 h4 a5 h5 a6 h6 a7 h7 a8 h8 a9 h9 hc0 hc1 x0 x1 x2 x3 x4 x5 xo xs)]
  unfold kernelRun0_B
  dsimp only
  rw [View.canon_unit_zero zeros2]
  simp only [View.readAt_eq_ld, h5.read_unread, h6.read_unread, h8.read_unread, h9.read_unread, View.ld_unit_zero (S := S1024x2048) zeros2,
    View.ld_unit_zero (S := S2048x512) zeros2, View.ld_unit_zero (S := S512x2048) zeros2]

/-- The last step's output block. -/
theorem out_C (c : Dev nD) (i : grid0.Coords) (a2 : Memref sig .tc .vmem S1024x2048 .f32) (h2 : a2.IsWhole)
    (a3 : Memref sig .tc .vmem S1x1x12288 .f32) (h3 : a3.IsWhole) (a4 : Memref sig .tc .vmem S1x2048 .f32) (h4 : a4.IsWhole)
    (a5 : Memref sig .tc .vmem S2048x512 .bf16) (h5 : a5.IsWhole) (a6 : Memref sig .tc .vmem S512x2048 .bf16) (h6 : a6.IsWhole)
    (a7 : Memref sig .tc .vmem S1x2048 .f32) (h7 : a7.IsWhole) (a8 : Memref sig .tc .vmem S1024x2048 .f32) (h8 : a8.IsWhole)
    (a9 : Memref sig .tc .vmem S1024x2048 .bf16) (h9 : a9.IsWhole) (hc0 : ¬cond0_0 i) (hc1 : cond0_1 i)
    (x0 : Vec F S1024x2048 .f32) (x1 : Vec F S1x1x12288 .f32) (x2 : Vec F S1x2048 .f32) (x3 : Vec F S2048x512 .bf16) (x4 : Vec F S512x2048 .bf16) (x5 : Vec F S1x2048 .f32) (xo : Vec F S1024x2048 .f32) (xs : Vec F S1024x2048 .bf16) :
    out0_C_6 c i a2 h2 a3 h3 a4 h4 a5 h5 a6 h6 a7 h7 a8 h8 a9 h9 hc0 hc1 x0 x1 x2 x3 x4 x5 xo xs
      = k0_pay4 x0 (modAt 10240 x1 inb_S1x1x12288_S1x1x2048_0_0_10240) (k0_pay3 xs x3 xo x4) x5 := by
  unfold out0_C_6
  rw [View.read_writes_eq_canon _ _ _ (cover0_C_6 c i a2 h2 a3 h3 a4 h4 a5 h5 a6 h6 a7 h7 a8 h8 a9 h9 hc0 hc1 x0 x1 x2 x3 x4 x5 xo xs)]
  unfold kernelRun0_C
  dsimp only
  sl_unfold_words
  rw [View.canon_cons_unit_zero (S := S1024x2048) zeros2]
  simp only [View.readCov_unit_zero (S := S1024x2048) _ zeros2, View.readAt_eq_ld, h2.read_unread, h3.read_unread, h7.read_unread,
    h5.read_unread, h6.read_unread, h8.read_unread, h9.read_unread, View.ld_unit_zero (S := S1024x2048) zeros2,
    View.ld_unit_zero (S := S1x2048) zeros2, View.ld_unit_zero (S := S2048x512) zeros2, View.ld_unit_zero (S := S512x2048) zeros2]

end Cert.Kernel2Ideal.Hand
-- ==== Proof.RowNorm.lean ====
module

public import Idealize.ShloMosaic.PureOps.Ideal
public import Idealize.ShloMosaic.Lib.ValueLayout
public import Idealize.ShloMosaic.Lib.ValueLayoutCasts
public import Idealize.ShloMosaic.Lib.Pipeline.Value

/-! # Rows of 2048 numbers

The normalisation of a row, its modulation, and the squared-ReLU MLP of a row, over the extended reals. -/

@[expose] public section

noncomputable section

namespace Cert.Rows

open Idealize.ShloMosaic Idealize.ShloMosaic.ValueIdx
open scoped BigOperators

/-- A row over its root mean square: ε is the f32 nearest 10⁻⁶. -/
def rms (y : Fin 2048 → EReal) (j : Fin 2048) : EReal :=
  y j * Ideal.rsqrt (Ideal.div (∑ k, y k * y k) (Ideal.ofBits .f32 0x45000000#32) + Ideal.ofBits .f32 0x358637BD#32)

/-- The normalised row with gain `g`, scaled by one plus `sc` and shifted by `sh`. -/
def modulated (y g sh sc : Fin 2048 → EReal) (j : Fin 2048) : EReal :=
  rms y j * g j * (Ideal.ofBits .f32 0x3F800000#32 + sc j) + sh j

/-- One hidden unit: the square of the positive part of the row's product with the unit's column. -/
def unit (y w : Fin 2048 → EReal) : EReal := max (∑ k, y k * w k) 0 * max (∑ k, y k * w k) 0

/-- A row through the MLP: modulated, through 8192 hidden units, gated, added to itself, and normalised with gain `fg`. -/
def mlp (x g sh sc gt fg : Fin 2048 → EReal) (w1 : Fin 2048 → Fin 8192 → EReal) (w2 : Fin 8192 → Fin 2048 → EReal) (j : Fin 2048) : EReal :=
  rms (fun k => x k + gt k * ∑ e, unit (modulated x g sh sc) (fun l => w1 l e) * w2 e k) j * fg j

/-- A row through the MLP of a layer that is not the last: `mlp` without the normalisation. -/
def residual (x g sh sc gt : Fin 2048 → EReal) (w1 : Fin 2048 → Fin 8192 → EReal) (w2 : Fin 8192 → Fin 2048 → EReal) (j : Fin 2048) : EReal :=
  x j + gt j * ∑ e, unit (modulated x g sh sc) (fun l => w1 l e) * w2 e j

/-- Hidden unit `e`'s share of a row's sum. -/
def share (y : Fin 2048 → EReal) (w1 : Fin 2048 → Fin 8192 → EReal) (w2 : Fin 8192 → Fin 2048 → EReal) (j : Fin 2048) (e : ℕ) : EReal :=
  if h : e < 8192 then unit y (fun l => w1 l ⟨e, h⟩) * w2 ⟨e, h⟩ j else 0

/-- The shares of all the hidden units. -/
theorem sum_share (y : Fin 2048 → EReal) (w1 : Fin 2048 → Fin 8192 → EReal) (w2 : Fin 8192 → Fin 2048 → EReal) (j : Fin 2048) :
    ∑ e ∈ Finset.range 8192, share y w1 w2 j e = ∑ e, unit y (fun l => w1 l e) * w2 e j := by
  rw [← Fin.sum_univ_eq_sum_range (share y w1 w2 j) 8192]
  refine Finset.sum_congr rfl fun e _ => ?_
  unfold share
  rw [dif_pos e.isLt]

/-- One slice of 512 of them. -/
theorem sum_share_slice (y : Fin 2048 → EReal) (w1 : Fin 2048 → Fin 8192 → EReal) (w2 : Fin 8192 → Fin 2048 → EReal) (j : Fin 2048) (s : ℕ) (hs : s < 16)
    (u : Fin 2048 → Fin 512 → EReal) (v : Fin 512 → EReal) (hu : ∀ l (e : Fin 512), u l e = w1 l ⟨512 * s + e.val, by have := e.isLt; omega⟩)
    (hv : ∀ e : Fin 512, v e = w2 ⟨512 * s + e.val, by have := e.isLt; omega⟩ j) :
    (∑ e ∈ Finset.range (512 * s), share y w1 w2 j e) + ∑ e, unit y (fun l => u l e) * v e
      = ∑ e ∈ Finset.range (512 * (s + 1)), share y w1 w2 j e := by
  rw [show 512 * (s + 1) = 512 * s + 512 by omega, Finset.sum_range_add]
  refine congrArg (_ + ·) ?_
  rw [← Fin.sum_univ_eq_sum_range (fun e => share y w1 w2 j (512 * s + e)) 512]
  refine Finset.sum_congr rfl fun e _ => ?_
  have he := e.isLt
  have hlt : 512 * s + e.val < 8192 := by omega
  unfold share
  rw [dif_pos hlt, hv e]
  exact congrArg (· * _) (congrArg (unit y) (funext fun l => hu l e))

/-- A row's product with a column. -/
def proj (y w : Fin 2048 → EReal) : EReal := ∑ k, y k * w k

/-! ## Layouts -/

/-- A column repeated along rows. -/
theorem broadcast_column {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rows
-- ==== Proof.MlpPay.lean ====
module

public import proofs.«01_k».proof.Proof.MlpBlock
public import proofs.«01_k».proof.Proof.RowNorm
public import Idealize.ShloMosaic.Lib.MatmulPlain

/-! # The MLP's steps, entry by entry

With exact arithmetic: the scratch holds the modulated rows, a step adds the products of 512 hidden units with their rows
of the second weight, and the last step leaves the normalised residual. -/

@[expose] public section

set_option maxRecDepth 16384

noncomputable section

namespace Cert.Kernel2Ideal.Hand

open Cert.Kernel2Ideal Cert.Kernel2Ideal.Gen Cert.Rows
open Idealize.ShloMosaic Idealize.ShloMosaic.TcCoe Idealize.ShloMosaic.ValueIdx
open scoped BigOperators

/-- The factor a row is multiplied by in the normalisation. -/
theorem norm_apply (y : FVec Ideal S1024x2048 .f32) (i : Fin 1024) (j : Fin 2048) :
    mulf y (broadcastTo S1024x2048 (rsqrt (addf (divf (shapeCast S1024x1 (multiReduction .add [1] S1024 (mulf y y) 0x00000000#32
      reduces_S1024x2048_S1024 (.inl rfl) rfl) shapeCasts_S1024_S1024x1) (broadcast S1024x1 (Scalar.ofBits .f32 0x45000000#32)))
      (broadcast S1024x1 (Scalar.ofBits .f32 0x358637BD#32)))) broadcasts_S1024x1_S1024x2048) (ix2 i j)
      = rms (fun k => y (ix2 i k)) j := by
  refine congrArg (y (ix2 i j) * ·) ((broadcast_column _ _ i j).trans ?_)
  refine congrArg (fun s => Ideal.rsqrt (Ideal.div s (Ideal.ofBits .f32 0x45000000#32) + Ideal.ofBits .f32 0x358637BD#32)) ?_
  refine (shapeCast_a_a1_apply _ _ i 0).trans ((Ideal.multiReduction_add_single (mulf y y) _ reduces_S1024x2048_S1024 _ _ (ix1 i)).trans ?_)
  refine Finset.sum_congr rfl fun k _ => ?_
  have hx : reduces_S1024x2048_S1024.lift (ix1 i) k = ix2 i k := by
    funext a
    match a with
    | ⟨0, _⟩ => rfl
    | ⟨1, _⟩ => rfl
  rw [hx]
  rfl

/-- The scratch. -/
theorem pay1_apply (x0 : Vec Ideal S1024x2048 .f32) (x2 : Vec Ideal S1x2048 .f32) (sh sc : Vec Ideal S1x1x2048 .f32) (i : Fin 1024) (j : Fin 2048) :
    k0_pay1 (F := Ideal) x0 x2 sh sc (ix2 i j)
      = modulated (fun k => x0 (ix2 i k)) (fun k => x2 (ix2 0 k)) (fun k => sh (ix3 0 0 k)) (fun k => sc (ix3 0 0 k)) j := by
  unfold k0_pay1
  simp only [shapeCast_self]
  refine congrArg₂ (· + ·) (congrArg₂ (· * ·) (congrArg₂ (· * ·) (norm_apply x0 i j) (broadcastTo_1b_ab_apply _ _ i j)) ?_) ?_
  · refine (broadcastTo_1b_ab_apply _ _ i j).trans (congrArg (Ideal.ofBits .f32 0x3F800000#32 + ·) ?_)
    exact shapeCast_1ab_ab_apply _ _ 0 j
  · exact (broadcastTo_1b_ab_apply _ _ i j).trans (shapeCast_1ab_ab_apply _ _ 0 j)

/-- The output block starts at zero. -/
theorem pay2_apply (i : Fin 1024) (j : Fin 2048) : k0_pay2 (F := Ideal) (ix2 i j) = 0 := Ideal.ofBits_zero_f32

/-- One step's addition. -/
theorem pay3_apply (xs : Vec Ideal S1024x2048 .bf16) (x3 : Vec Ideal S2048x512 .bf16) (xo : Vec Ideal S1024x2048 .f32)
    (x4 : Vec Ideal S512x2048 .bf16) (i : Fin 1024) (j : Fin 2048) :
    k0_pay3 (F := Ideal) xs x3 xo x4 (ix2 i j)
      = xo (ix2 i j) + ∑ e : Fin 512, unit (fun k => xs (ix2 i k)) (fun k => x3 (ix2 k e)) * x4 (ix2 e j) := by
  unfold k0_pay3
  simp only [shapeCast_self]
  refine congrArg (xo (ix2 i j) + ·) ((Ideal.matmul_plain_apply none _ _ _ i j).trans ?_)
  have h0 : (constant (F := Ideal) S1024x2048 .f32 0x00000000#32) (ix2 i j) = (0 : EReal) := Ideal.ofBits_zero_f32
  rw [h0, zero_add]
  refine Finset.sum_congr rfl fun e _ => congrArg (· * x4 (ix2 e j)) ?_
  have h1 : matmul (F := Ideal) (φ₁ := .bf16) (φ₂ := .bf16) dot_S1024x2048_S2048x512_S1024x512_1_0_0_1_n_n none xs x3 (constant S1024x512 .f32 0x00000000#32) (ix2 i e)
      = ∑ k, xs (ix2 i k) * x3 (ix2 k e) := by
    refine (Ideal.matmul_plain_apply none xs x3 _ i e).trans ?_
    have h2 : (constant (F := Ideal) S1024x512 .f32 0x00000000#32) (ix2 i e) = (0 : EReal) := Ideal.ofBits_zero_f32
    rw [h2, zero_add]
  have h3 : (broadcast S1024x512 (Scalar.ofBits (F := Ideal) .f32 0x00000000#32)) (ix2 i e) = (0 : EReal) := Ideal.ofBits_zero_f32
  show max (matmul (F := Ideal) (φ₁ := .bf16) (φ₂ := .bf16) dot_S1024x2048_S2048x512_S1024x512_1_0_0_1_n_n none xs x3 (constant S1024x512 .f32 0x00000000#32) (ix2 i e))
      ((broadcast S1024x512 (Scalar.ofBits (F := Ideal) .f32 0x00000000#32)) (ix2 i e))
    * max (matmul (F := Ideal) (φ₁ := .bf16) (φ₂ := .bf16) dot_S1024x2048_S2048x512_S1024x512_1_0_0_1_n_n none xs x3 (constant S1024x512 .f32 0x00000000#32) (ix2 i e))
      ((broadcast S1024x512 (Scalar.ofBits (F := Ideal) .f32 0x00000000#32)) (ix2 i e)) = _
  rw [h1, h3]
  rfl

/-- The last step. -/
theorem pay4_apply (x0 : Vec Ideal S1024x2048 .f32) (gt : Vec Ideal S1x1x2048 .f32) (acc : Vec Ideal S1024x2048 .f32)
    (x5 : Vec Ideal S1x2048 .f32) (i : Fin 1024) (j : Fin 2048) :
    k0_pay4 (F := Ideal) x0 gt acc x5 (ix2 i j)
      = rms (fun k => x0 (ix2 i k) + gt (ix3 0 0 k) * acc (ix2 i k)) j * x5 (ix2 0 j) := by
  unfold k0_pay4
  simp only [shapeCast_self]
  refine congrArg₂ (· * ·) ((norm_apply _ i j).trans (congrArg (fun f => rms f j) (funext fun k => ?_))) (broadcastTo_1b_ab_apply _ _ i j)
  refine congrArg (x0 (ix2 i k) + ·) (congrArg (· * acc (ix2 i k)) ?_)
  exact (broadcastTo_1b_ab_apply _ _ i k).trans (shapeCast_1ab_ab_apply _ _ 0 k)

end Cert.Kernel2Ideal.Hand
-- ==== Proof.MlpArray.lean ====
module

public import proofs.«01_k».proof.Proof.MlpPay
public import Idealize.ShloMosaic.Lib.Pipeline.ValueKit.Tiles
public import Idealize.ShloMosaic.Lib.StableHlo.Run

/-! # The MLP call's final array

Grid point `16 q + s` works on row block `q` (1024 rows) and on the hidden columns `512 s …`. After step `s` of a row
block the output block holds the sum over the first `512 (s + 1)` hidden units, and the scratch the modulated rows; after
the last step the block is the MLP of its rows, and that is what is written back. -/

@[expose] public section

set_option maxRecDepth 16384

noncomputable section

namespace Cert.Kernel2Ideal.Hand

open Cert.Kernel2Ideal Cert.Kernel2Ideal.Gen Cert.Rows
open Idealize.ShloMosaic Idealize.ShloMosaic.TcCoe Idealize.ShloMosaic.ValueIdx
open Idealize.SL.Sem
open scoped BigOperators

variable (m : (ℓ : Loc nD τ sig) → Buf (Elt Ideal) ℓ)

/-! ## Which block a point works on -/

theorem index0 : ∀ t : Fin cfg0.N, win0_0.index t 0 = t.val / 16 ∧ win0_0.index t 1 = 0 :=
  (by decide +kernel : ∀ t : Fin grid0.N, win0_0.index t 0 = t.val / 16 ∧ win0_0.index t 1 = 0)

theorem index1 : ∀ t : Fin cfg0.N, win0_1.index t 0 = 1 + t.val / 256 ∧ win0_1.index t 1 = 0 ∧ win0_1.index t 2 = 0 :=
  (by decide +kernel : ∀ t : Fin grid0.N, win0_1.index t 0 = 1 + t.val / 256 ∧ win0_1.index t 1 = 0 ∧ win0_1.index t 2 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = t.val % 16 :=
  (by decide +kernel : ∀ t : Fin grid0.N, win0_3.index t 0 = 0 ∧ win0_3.index t 1 = t.val % 16)

theorem index4 : ∀ t : Fin cfg0.N, win0_4.index t 0 = t.val % 16 ∧ win0_4.index t 1 = 0 :=
  (by decide +kernel : ∀ t : Fin grid0.N, win0_4.index t 0 = t.val % 16 ∧ win0_4.index t 1 = 0)

theorem index5 : ∀ t : Fin cfg0.N, win0_5.index t 0 = 0 ∧ win0_5.index t 1 = 0 :=
  (by decide +kernel : ∀ t : Fin grid0.N, win0_5.index t 0 = 0 ∧ win0_5.index t 1 = 0)

theorem index6 : ∀ t : Fin cfg0.N, win0_6.index t 0 = t.val / 16 ∧ win0_6.index t 1 = 0 :=
  (by decide +kernel : ∀ t : Fin grid0.N, win0_6.index t 0 = t.val / 16 ∧ win0_6.index t 1 = 0)

/-- The last step of a row block, and no other, writes the block back, -/
theorem flush6 : ∀ t : Fin cfg0.N, (cfg0.win 6).flush t = true ↔ t.val % 16 = 15 :=
  (by decide +kernel : ∀ t : Fin grid0.N, win0_6.flush t = true ↔ t.val % 16 = 15)

/-- all of it, -/
theorem xsize6 : ∀ t : Fin cfg0.N, ∀ a, (cfg0.win 6).xsize (cfg0.grid.coords t) a = (cfg0.win 6).size a := by decide +kernel

/-- and no two row blocks overlap. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne (Fin.ext (by
    have h0 := congrFun h 0
    rw [show (cfg0.win 6).index t 0 = _ from (index6 t).1, show (cfg0.win 6).index t' 0 = _ from (index6 t').1] at h0
    have h1 := (flush6 t).1 hf
    have h2 := (flush6 t').1 hf'
    omega))

/-! ## The blocks read -/

/-- The first gain, as the region finds it. -/
theorem V_main_v0 (c : Dev nD) : V m c main_v0 = shapeCast S1x2048 (m ((c : Thread nD τ).loc main_arg2)) shapeCasts_S2048_S1x2048 := by
  show StableHlo.after hostOps0 _ (Proc.devRef .tc main_v0) = _
  after_results
  rfl

/-- The last gain. -/
theorem V_main_v1 (c : Dev nD) : V m c main_v1 = shapeCast S1x2048 (m ((c : Thread nD τ).loc main_arg5)) shapeCasts_S2048_S1x2048 := by
  show StableHlo.after hostOps0 _ (Proc.devRef .tc main_v1) = _
  after_results
  rfl

theorem rows_in (c : Dev nD) (t : Fin cfg0.N) (i : Fin 1024) (k : Fin 2048) (r : Fin 32768) (hr : r.val = 1024 * (t.val / 16) + i.val) :
    iblk m c 0 t (ix2 i k) = m ((c : Thread nD τ).loc main_arg0) (ix2 r k) := by
  refine (congrArg (V m c main_arg0) ?_).trans (congrFun (V_main_arg0 m c) _)
  funext a
  match a with
  | ⟨0, _⟩ =>
    refine Fin.ext ?_
    show win0_0.index t 0 * 1024 + 1 * i.val = r.val
    rw [(index0 t).1, hr]; omega
  | ⟨1, _⟩ =>
    refine Fin.ext ?_
    show win0_0.index t 1 * 2048 + 1 * k.val = k.val
    rw [(index0 t).2]; omega

theorem mods_in (c : Dev nD) (t : Fin cfg0.N) (k : Fin 12288) (b : Fin 8) (hb : b.val = 1 + t.val / 256) :
    iblk m c 1 t (ix3 (0 : Fin 1) (0 : Fin 1) k) = m ((c : Thread nD τ).loc main_arg1) (ix3 b (0 : Fin 1) k) := by
  refine (congrArg (V m c main_arg1) ?_).trans (congrFun (V_main_arg1 m c) _)
  funext a
  match a with
  | ⟨0, _⟩ =>
    refine Fin.ext ?_
    show win0_1.index t 0 * 1 + 1 * 0 = b.val
    rw [(index1 t).1, hb]; omega
  | ⟨1, _⟩ =>
    refine Fin.ext ?_
    show win0_1.index t 1 * 1 + 1 * 0 = 0
    rw [(index1 t).2.1]
  | ⟨2, _⟩ =>
    refine Fin.ext ?_
    show win0_1.index t 2 * 12288 + 1 * k.val = k.val
    rw [(index1 t).2.2]; omega

theorem gain_in (c : Dev nD) (t : Fin cfg0.N) (k : Fin 2048) :
    iblk m c 2 t (ix2 (0 : Fin 1) k) = m ((c : Thread nD τ).loc main_arg2) (ix1 k) := by
  refine ((congrArg (V m c main_v0) ?_).trans (congrFun (V_main_v0 m c) (ix2 (0 : Fin 1) k))).trans (shapeCast_a_1a_apply _ _ 0 k)
  funext a
  match a with
  | ⟨0, _⟩ =>
    refine Fin.ext ?_
    show win0_2.index t 0 * 1 + 1 * 0 = 0
    rw [(index2 t).1]
  | ⟨1, _⟩ =>
    refine Fin.ext ?_
    show win0_2.index t 1 * 2048 + 1 * k.val = k.val
    rw [(index2 t).2]; omega

theorem up_in (c : Dev nD) (t : Fin cfg0.N) (k : Fin 2048) (e : Fin 512) (f : Fin 8192) (hf : f.val = 512 * (t.val % 16) + e.val) :
    iblk m c 3 t (ix2 k e) = m ((c : Thread nD τ).loc main_arg3) (ix2 k f) := by
  refine (congrArg (V m c main_arg3) ?_).trans (congrFun (V_main_arg3 m c) _)
  funext a
  match a with
  | ⟨0, _⟩ =>
    refine Fin.ext ?_
    show win0_3.index t 0 * 2048 + 1 * k.val = k.val
    rw [(index3 t).1]; omega
  | ⟨1, _⟩ =>
    refine Fin.ext ?_
    show win0_3.index t 1 * 512 + 1 * e.val = f.val
    rw [(index3 t).2, hf]; omega

theorem down_in (c : Dev nD) (t : Fin cfg0.N) (e : Fin 512) (k : Fin 2048) (f : Fin 8192) (hf : f.val = 512 * (t.val % 16) + e.val) :
    iblk m c 4 t (ix2 e k) = m ((c : Thread nD τ).loc main_arg4) (ix2 f k) := by
  refine (congrArg (V m c main_arg4) ?_).trans (congrFun (V_main_arg4 m c) _)
  funext a
  match a with
  | ⟨0, _⟩ =>
    refine Fin.ext ?_
    show win0_4.index t 0 * 512 + 1 * e.val = f.val
    rw [(index4 t).1, hf]; omega
  | ⟨1, _⟩ =>
    refine Fin.ext ?_
    show win0_4.index t 1 * 2048 + 1 * k.val = k.val
    rw [(index4 t).2]; omega

theorem last_in (c : Dev nD) (t : Fin cfg0.N) (k : Fin 2048) :
    iblk m c 5 t (ix2 (0 : Fin 1) k) = m ((c : Thread nD τ).loc main_arg5) (ix1 k) := by
  refine ((congrArg (V m c main_v1) ?_).trans (congrFun (V_main_v1 m c) (ix2 (0 : Fin 1) k))).trans (shapeCast_a_1a_apply _ _ 0 k)
  funext a
  match a with
  | ⟨0, _⟩ =>
    refine Fin.ext ?_
    show win0_5.index t 0 * 1 + 1 * 0 = 0
    rw [(index5 t).1]
  | ⟨1, _⟩ =>
    refine Fin.ext ?_
    show win0_5.index t 1 * 2048 + 1 * k.val = k.val
    rw [(index5 t).2]; omega

/-! ## One row -/

section
variable (c : Dev nD) (q : Fin 32) (i : Fin 1024)

/-- The row's place in the arrays, -/
abbrev rowNo : Fin 32768 := ⟨1024 * q.val + i.val, by have := q.isLt; have := i.isLt; omega⟩

/-- its entries, -/
def xrow (k : Fin 2048) : EReal := m ((c : Thread nD τ).loc main_arg0) (ix2 (rowNo q i) k)

/-- a part of its sequence's modulation, -/
def part (off : ℕ) (hoff : off + 2048 ≤ 12288) (k : Fin 2048) : EReal :=
  m ((c : Thread nD τ).loc main_arg1) (ix3 (⟨1 + q.val / 16, by have := q.isLt; omega⟩ : Fin 8) (0 : Fin 1) ⟨off + k.val, by have := k.isLt; omega⟩)

/-- the modulated row, -/
def yrow : Fin 2048 → EReal :=
  modulated (xrow m c q i) (fun k => m ((c : Thread nD τ).loc main_arg2) (ix1 k)) (part m c q 6144 (by omega)) (part m c q 8192 (by omega))

/-- and hidden unit `e`'s share of the row's output `j`. -/
def share (j : Fin 2048) (e : ℕ) : EReal :=
  Cert.Rows.share (yrow m c q i) (fun l e => m ((c : Thread nD τ).loc main_arg3) (ix2 l e)) (fun e k => m ((c : Thread nD τ).loc main_arg4) (ix2 e k)) j e

variable (t : Fin cfg0.N) (ht : t.val / 16 = q.val)

include ht

/-- A modulation vector read from the block. -/
theorem modAt_apply (off : ℕ) (hoff : off + 2048 ≤ 12288) (h : ∀ a, (![0, 0, off] : Fin 3 → ℕ) a + S1x1x2048.size a ≤ S1x1x12288.size a) (k : Fin 2048) :
    modAt off (iblk m c 1 t) h (ix3 (0 : Fin 1) (0 : Fin 1) k) = part m c q off hoff k := by
  refine (View.ld_unit_apply_of (S := S1x1x12288) (iblk m c 1 t) _ _ h _ (ix3 (0 : Fin 1) (0 : Fin 1) ⟨off + k.val, by have := k.isLt; omega⟩) fun a => ?_).trans ?_
  · match a with
    | ⟨0, _⟩ => rfl
    | ⟨1, _⟩ => rfl
    | ⟨2, _⟩ => rfl
  · exact mods_in m c t _ _ (by show 1 + q.val / 16 = _; omega)

theorem xrow_apply (k : Fin 2048) : iblk m c 0 t (ix2 i k) = xrow m c q i k := rows_in m c t i k _ (by show 1024 * q.val + i.val = _; rw [ht])

/-- The scratch the first step leaves. -/
theorem scratch_apply (k : Fin 2048) :
    k0_pay1 (F := Ideal) (iblk m c 0 t) (iblk m c 2 t) (modAt 6144 (iblk m c 1 t) inb_S1x1x12288_S1x1x2048_0_0_6144)
      (modAt 8192 (iblk m c 1 t) inb_S1x1x12288_S1x1x2048_0_0_8192) (ix2 i k) = yrow m c q i k := by
  refine (pay1_apply _ _ _ _ i k).trans ?_
  unfold yrow
  congr 1
  · exact funext fun k => xrow_apply m c q i t ht k
  · exact funext fun k => gain_in m c t k
  · exact funext fun k => modAt_apply m c q t ht 6144 (by omega) _ k
  · exact funext fun k => modAt_apply m c q t ht 8192 (by omega) _ k

/-- A step's addition: the shares of its 512 hidden units. -/
theorem step_apply (xs : Vec Ideal S1024x2048 .bf16) (xo : Vec Ideal S1024x2048 .f32) (hxs : ∀ k, xs (ix2 i k) = yrow m c q i k)
    (j : Fin 2048) (hxo : xo (ix2 i j) = ∑ e ∈ Finset.range (512 * (t.val % 16)), share m c q i j e) :
    k0_pay3 (F := Ideal) xs (iblk m c 3 t) xo (iblk m c 4 t) (ix2 i j) = ∑ e ∈ Finset.range (512 * (t.val % 16 + 1)), share m c q i j e := by
  refine (pay3_apply _ _ _ _ i j).trans ?_
  rw [hxo, show (fun k => xs (ix2 i k)) = yrow m c q i from funext hxs]
  exact sum_share_slice _ _ _ j _ (Nat.mod_lt _ (by omega)) (fun l e => iblk m c 3 t (ix2 l e)) (fun e => iblk m c 4 t (ix2 e j))
    (fun l e => up_in m c t l e _ rfl) (fun e => down_in m c t e j _ rfl)

end

/-! ## The steps of one row block -/

/-- The first step, -/
theorem first_out (c : Dev nD) (t : Fin cfg0.N) (h0 : t.val % 16 = 0) (h1 : ¬t.val % 16 = 15) :
    (outsAt0 m c t.val t.isLt).1 = k0_pay3 (k0_pay1 (iblk m c 0 t) (iblk m c 2 t) (modAt 6144 (iblk m c 1 t) inb_S1x1x12288_S1x1x2048_0_0_6144)
      (modAt 8192 (iblk m c 1 t) inb_S1x1x12288_S1x1x2048_0_0_8192)) (iblk m c 3 t) (k0_pay2 (F := Ideal)) (iblk m c 4 t) := by
  rw [outsAt0_A m c t h0 h1]
  dsimp only
  have h := out_A c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
  exact h

theorem first_scratch (c : Dev nD) (t : Fin cfg0.N) (h0 : t.val % 16 = 0) (h1 : ¬t.val % 16 = 15) :
    (outsAt0 m c t.val t.isLt).2 = (k0_pay1 (iblk m c 0 t) (iblk m c 2 t) (modAt 6144 (iblk m c 1 t) inb_S1x1x12288_S1x1x2048_0_0_6144)
      (modAt 8192 (iblk m c 1 t) inb_S1x1x12288_S1x1x2048_0_0_8192)) := by
  rw [outsAt0_A m c t h0 h1]
  dsimp only
  have h := scratch_A c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
  exact h

/-- a middle step, -/
theorem middle_out (c : Dev nD) (t : Fin cfg0.N) (h0 : ¬t.val % 16 = 0) (h1 : ¬t.val % 16 = 15) :
    (outsAt0 m c t.val t.isLt).1 = k0_pay3 (outsAt0 m c (t.val - 1) (Nat.lt_of_le_of_lt (Nat.sub_le _ _) t.isLt)).2 (iblk m c 3 t) (outsAt0 m c (t.val - 1) (Nat.lt_of_le_of_lt (Nat.sub_le _ _) t.isLt)).1 (iblk m c 4 t) := by
  rw [outsAt0_B m c t h0 h1]
  dsimp only
  have h := out_B c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t)
    (outsAt0 m c (t.val - 1) (Nat.lt_of_le_of_lt (Nat.sub_le _ _) t.isLt)).1 (outsAt0 m c (t.val - 1) (Nat.lt_of_le_of_lt (Nat.sub_le _ _) t.isLt)).2
  exact h

theorem middle_scratch (c : Dev nD) (t : Fin cfg0.N) (h0 : ¬t.val % 16 = 0) (h1 : ¬t.val % 16 = 15) :
    (outsAt0 m c t.val t.isLt).2 = (outsAt0 m c (t.val - 1) (Nat.lt_of_le_of_lt (Nat.sub_le _ _) t.isLt)).2 := by
  rw [outsAt0_B m c t h0 h1]
  rfl

/-- and the last. -/
theorem last_out (c : Dev nD) (t : Fin cfg0.N) (h0 : ¬t.val % 16 = 0) (h1 : t.val % 16 = 15) :
    (outsAt0 m c t.val t.isLt).1 = k0_pay4 (iblk m c 0 t) (modAt 10240 (iblk m c 1 t) inb_S1x1x12288_S1x1x2048_0_0_10240)
      (k0_pay3 (outsAt0 m c (t.val - 1) (Nat.lt_of_le_of_lt (Nat.sub_le _ _) t.isLt)).2 (iblk m c 3 t) (outsAt0 m c (t.val - 1) (Nat.lt_of_le_of_lt (Nat.sub_le _ _) t.isLt)).1 (iblk m c 4 t)) (iblk m c 5 t) := by
  rw [outsAt0_C m c t h0 h1]
  dsimp only
  have h := out_C c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t)
    (outsAt0 m c (t.val - 1) (Nat.lt_of_le_of_lt (Nat.sub_le _ _) t.isLt)).1 (outsAt0 m c (t.val - 1) (Nat.lt_of_le_of_lt (Nat.sub_le _ _) t.isLt)).2
  exact h

/-- What step `s` leaves, but for the last. -/
theorem after_step (c : Dev nD) (q : Fin 32) (s : ℕ) (hs : s < 15) (n : ℕ) (hn : n < cfg0.N) (he : n = 16 * q.val + s) (i : Fin 1024) :
    (∀ k, (outsAt0 m c n hn).2 (ix2 i k) = yrow m c q i k)
      ∧ ∀ j, (outsAt0 m c n hn).1 (ix2 i j) = ∑ e ∈ Finset.range (512 * (s + 1)), share m c q i j e := by
  induction s generalizing n with
  | zero =>
    let t : Fin cfg0.N := ⟨n, hn⟩
    have h0 : t.val % 16 = 0 := by show n % 16 = 0; omega
    have h1 : ¬t.val % 16 = 15 := by omega
    have ht : t.val / 16 = q.val := by show n / 16 = _; omega
    have h2 := first_scratch m c t h0 h1
    have h3 := first_out m c t h0 h1
    refine ⟨fun k => (congrFun h2 _).trans (scratch_apply m c q i t ht k), fun j => (congrFun h3 _).trans ?_⟩
    refine (step_apply m c q i t ht _ _ (fun k => scratch_apply m c q i t ht k) j ?_).trans (by rw [h0])
    rw [h0]
    exact pay2_apply i j
  | succ s ih =>
    let t : Fin cfg0.N := ⟨n, hn⟩
    have hm : t.val % 16 = s + 1 := by show n % 16 = _; omega
    have h0 : ¬t.val % 16 = 0 := by omega
    have h1 : ¬t.val % 16 = 15 := by omega
    have ht : t.val / 16 = q.val := by show n / 16 = _; omega
    obtain ⟨p2, p1⟩ := ih (by omega) (n - 1) (Nat.lt_of_le_of_lt (Nat.sub_le _ _) hn) (by omega)
    have h2 := middle_scratch m c t h0 h1
    have h3 := middle_out m c t h0 h1
    refine ⟨fun k => (congrFun h2 _).trans (p2 k), fun j => (congrFun h3 _).trans ?_⟩
    refine (step_apply m c q i t ht _ _ p2 j ?_).trans (by rw [hm])
    rw [hm]
    exact p1 j

/-- What the last step leaves: the MLP of the row. -/
theorem after_last (c : Dev nD) (q : Fin 32) (t : Fin cfg0.N) (he : t.val = 16 * q.val + 15) (i : Fin 1024) (j : Fin 2048) :
    (outsAt0 m c t.val t.isLt).1 (ix2 i j)
      = mlp (xrow m c q i) (fun k => m ((c : Thread nD τ).loc main_arg2) (ix1 k)) (part m c q 6144 (by omega)) (part m c q 8192 (by omega))
        (part m c q 10240 (by omega)) (fun k => m ((c : Thread nD τ).loc main_arg5) (ix1 k))
        (fun k e => m ((c : Thread nD τ).loc main_arg3) (ix2 k e)) (fun e k => m ((c : Thread nD τ).loc main_arg4) (ix2 e k)) j := by
  have h1 : t.val % 16 = 15 := by omega
  have h0 : ¬t.val % 16 = 0 := by omega
  have ht : t.val / 16 = q.val := by omega
  obtain ⟨p2, p1⟩ := after_step m c q 14 (by omega) (t.val - 1) (Nat.lt_of_le_of_lt (Nat.sub_le _ _) t.isLt) (by omega) i
  have h3 := last_out m c t h0 h1
  refine (congrFun h3 _).trans ((pay4_apply _ _ _ _ i j).trans ?_)
  refine congrArg₂ (· * ·) (congrArg (fun f => rms f j) (funext fun k => ?_)) (last_in m c t j)
  refine congrArg₂ (· + ·) (xrow_apply m c q i t ht k) (congrArg₂ (· * ·) (modAt_apply m c q t ht 10240 (by omega) _ k) ?_)
  refine (step_apply m c q i t ht _ _ p2 k (by rw [h1]; exact p1 k)).trans ?_
  rw [h1, show 512 * (15 + 1) = 8192 from rfl]
  exact sum_share _ _ _ k

/-! ## The final array -/

/-- The index of window 6's moved block at point `t`. -/
def spot (t : Fin cfg0.N) (i : Fin 1024) (j : Fin 2048) : ((cfg0.win 6).xblock (cfg0.grid.coords t)).Idx := fun a => match a with
  | ⟨0, _⟩ => ⟨i.val, lt_of_lt_of_eq i.isLt (xsize6 t 0).symm⟩
  | ⟨1, _⟩ => ⟨j.val, lt_of_lt_of_eq j.isLt (xsize6 t 1).symm⟩

/-- **An entry of the final array.** -/
theorem array_apply (c : Dev nD) (q : Fin 32) (i : Fin 1024) (j : Fin 2048) :
    (dats m 0 c).arrAt 6 cfg0.N (ix2 (rowNo q i) j)
      = mlp (xrow m c q i) (fun k => m ((c : Thread nD τ).loc main_arg2) (ix1 k)) (part m c q 6144 (by omega)) (part m c q 8192 (by omega))
        (part m c q 10240 (by omega)) (fun k => m ((c : Thread nD τ).loc main_arg5) (ix1 k))
        (fun k e => m ((c : Thread nD τ).loc main_arg3) (ix2 k e)) (fun e k => m ((c : Thread nD τ).loc main_arg4) (ix2 e k)) j := by
  let t : Fin cfg0.N := ⟨16 * q.val + 15, lt_of_lt_of_eq (show 16 * q.val + 15 < 512 by have := q.isLt; omega) (N_0).symm⟩
  have hf : (cfg0.win 6).flush t = true := (flush6 t).2 (by show (16 * q.val + 15) % 16 = 15; omega)
  have h := congrFun ((dats m 0 c).read_blk_arrAt_eq_flushed 6 disjoint6 cfg0.N t t.isLt hf) (spot t i j)
  have he : ((cfg0.win 6).blk t).view.emb (spot t i j) = ix2 (rowNo q i) j := by
    funext a
    match a with
    | ⟨0, _⟩ =>
      refine Fin.ext ?_
      show win0_6.index t 0 * 1024 + 1 * i.val = 1024 * q.val + i.val
      rw [(index6 t).1, show t.val / 16 = q.val by show (16 * q.val + 15) / 16 = _; omega]; omega
    | ⟨1, _⟩ =>
      refine Fin.ext ?_
      show win0_6.index t 1 * 2048 + 1 * j.val = j.val
      rw [(index6 t).2]; omega
  have hx : (cfg0.win 6).xinj (cfg0.grid.coords t) (spot t i j) = ix2 i j := by
    funext a
    match a with
    | ⟨0, _⟩ => rfl
    | ⟨1, _⟩ => rfl
  refine (congrArg ((dats m 0 c).arrAt 6 cfg0.N) he.symm).trans (h.trans ?_)
  show (dats m 0 c).after 6 t ((cfg0.win 6).xinj (cfg0.grid.coords t) (spot t i j)) = _
  rw [after0_6, hx]
  exact after_last m c q t rfl i j

end Cert.Kernel2Ideal.Hand
-- ==== Proof.MlpReference.lean ====
module

public import proofs.«01_k».proof.Proof.RowNorm
public import proofs.«01_k».proof.Proof.Gen.Reference2Ideal.Run
public import proofs.«01_k».proof.Proof.Gen.Reference2Ideal.Read

/-! # What the MLP's reference computes

Row `r` of its result is the MLP of row `r`, with the modulation of sequence `r / 16384`. -/

@[expose] public section

set_option maxRecDepth 16384

noncomputable section

namespace Cert.Reference2Ideal.Hand

open Cert.Reference2Ideal Cert.Reference2Ideal.Gen Cert.Reference2Ideal.Read Cert.Rows
open Idealize.ShloMosaic Idealize.ShloMosaic.ValueIdx
open scoped BigOperators

variable (x0 : (⟨S32768x2048, .f32⟩ : BufTy).Contents (Elt Ideal)) (x1 : (⟨S8x1x12288, .f32⟩ : BufTy).Contents (Elt Ideal))
  (x2 : (⟨S2048, .f32⟩ : BufTy).Contents (Elt Ideal)) (x3 : (⟨S2048x8192, .bf16⟩ : BufTy).Contents (Elt Ideal))
  (x4 : (⟨S8192x2048, .bf16⟩ : BufTy).Contents (Elt Ideal)) (x5 : (⟨S2048, .f32⟩ : BufTy).Contents (Elt Ideal))

/-- The modulation of sequence `b` from column `off`. -/
def part (off : ℕ) (hoff : off + 2048 ≤ 12288) (b : Fin 2) (k : Fin 2048) : EReal :=
  x1 (ix3 (⟨1 + b.val, by have := b.isLt; omega⟩ : Fin 8) (0 : Fin 1) ⟨off + k.val, by have := k.isLt; omega⟩)

/-- The row of position `i` of sequence `b`. -/
abbrev at' (b : Fin 2) (i : Fin 16384) : Fin 32768 := ⟨16384 * b.val + i.val, by have := b.isLt; have := i.isLt; omega⟩

/-- A sequence's rows. -/
theorem input_apply (b : Fin 2) (i : Fin 16384) (j : Fin 2048) : val_main_v0 (F := Ideal) x0 (ix3 b i j) = x0 (ix2 (at' b i) j) := by
  rw [val_main_v0_apply]
  have hb := b.isLt
  have hi := i.isLt
  have hj := j.isLt
  refine congrArg x0 (funext fun a => Fin.ext ?_)
  match a with
  | ⟨0, _⟩ =>
    show ((b.val * 16384 + i.val) * 2048 + j.val) / 2048 = 16384 * b.val + i.val
    omega
  | ⟨1, _⟩ =>
    show ((b.val * 16384 + i.val) * 2048 + j.val) % 2048 = j.val
    omega

/-- The shift, -/
theorem shift_apply (b : Fin 2) (i : Fin 16384) (j : Fin 2048) :
    val_main_v25 (F := Ideal) x1 (ix3 b i j) = part x1 6144 (by omega) b j := by
  rw [val_main_v25_apply, val_main_v5_apply, val_main_v1_apply]
  refine congrArg x1 (funext fun a => Fin.ext ?_)
  match a with
  | ⟨0, _⟩ => rfl
  | ⟨1, _⟩ => rfl
  | ⟨2, _⟩ => rfl

/-- one plus the scale, -/
theorem scale_apply (b : Fin 2) (i : Fin 16384) (j : Fin 2048) :
    val_main_v23 (F := Ideal) x1 (ix3 b i j) = Ideal.ofBits .f32 0x3F800000#32 + part x1 8192 (by omega) b j := by
  rw [val_main_v23_apply, val_main_v22_apply, val_main_v21_apply, val_main_v6_apply, val_main_v1_apply]
  refine congrArg (Ideal.ofBits .f32 0x3F800000#32 + ·) (congrArg x1 (funext fun a => Fin.ext ?_))
  match a with
  | ⟨0, _⟩ => rfl
  | ⟨1, _⟩ => rfl
  | ⟨2, _⟩ => rfl

/-- and the gate. -/
theorem gate_apply (b : Fin 2) (i : Fin 16384) (j : Fin 2048) :
    val_main_v33 (F := Ideal) x1 (ix3 b i j) = part x1 10240 (by omega) b j := by
  rw [val_main_v33_apply, val_main_v7_apply, val_main_v1_apply]
  refine congrArg x1 (funext fun a => Fin.ext ?_)
  match a with
  | ⟨0, _⟩ => rfl
  | ⟨1, _⟩ => rfl
  | ⟨2, _⟩ => rfl

/-- The factor of the first normalisation. -/
theorem factor_apply (b : Fin 2) (i : Fin 16384) (j : Fin 2048) :
    val_main_v16 (F := Ideal) x0 (ix3 b i j)
      = Ideal.rsqrt (Ideal.div (∑ k, x0 (ix2 (at' b i) k) * x0 (ix2 (at' b i) k)) (Ideal.ofBits .f32 0x45000000#32)
        + Ideal.ofBits .f32 0x358637BD#32) := by
  rw [val_main_v16_apply, val_main_v15_apply, val_main_v14_apply, val_main_v12_apply, val_main_v10_apply, val_main_v9_apply,
    val_main_v11_apply, val_main_v13_apply]
  refine congrArg (fun s => Ideal.rsqrt (Ideal.div s (Ideal.ofBits .f32 0x45000000#32) + Ideal.ofBits .f32 0x358637BD#32)) ?_
  have hz : val_main_cst (F := Ideal) (Shape.Idx.first h_S_) = (0 : EReal) := Ideal.ofBits_zero_f32
  rw [hz, zero_add]
  refine Finset.sum_congr rfl fun k _ => ?_
  rw [val_main_v8_apply, show idx_main_v9 (idx_main_v10 (idx_main_v16 (ix3 b i j))) k = ix3 b i k from by
    funext a
    match a with
    | ⟨0, _⟩ => rfl
    | ⟨1, _⟩ => rfl
    | ⟨2, _⟩ => rfl, input_apply]
  rfl

/-- The modulated rows. -/
theorem rows_apply (b : Fin 2) (i : Fin 16384) (j : Fin 2048) :
    val_main_v26 (F := Ideal) x0 x1 x2 (ix3 b i j)
      = modulated (fun k => x0 (ix2 (at' b i) k)) (fun k => x2 (ix1 k)) (part x1 6144 (by omega) b) (part x1 8192 (by omega) b) j := by
  rw [val_main_v26_apply, val_main_v24_apply, val_main_v20_apply, val_main_v17_apply, input_apply, factor_apply, shift_apply,
    scale_apply, val_main_v19_apply, val_main_v18_apply]
  have hx : x2 (idx_main_v18 (idx_main_v19 (ix3 b i j))) = x2 (ix1 j) := congrArg x2 (funext fun a => by
    match a with
    | ⟨0, _⟩ => rfl)
  rw [hx]
  rfl

/-- The hidden units. -/
theorem hidden_apply (b : Fin 2) (i : Fin 16384) (e : Fin 8192) :
    val_main_v30 (F := Ideal) x0 x1 x2 x3 (ix3 b i e)
      = unit (modulated (fun k => x0 (ix2 (at' b i) k)) (fun k => x2 (ix1 k)) (part x1 6144 (by omega) b) (part x1 8192 (by omega) b))
        (fun l => x3 (ix2 l e)) := by
  have h28 : val_main_v28 (F := Ideal) x0 x1 x2 x3 (ix3 b i e)
      = ∑ k, modulated (fun k => x0 (ix2 (at' b i) k)) (fun k => x2 (ix1 k)) (part x1 6144 (by omega) b) (part x1 8192 (by omega) b) k
          * x3 (ix2 k e) := by
    rw [val_main_v28_apply]
    refine Finset.sum_congr rfl fun k _ => ?_
    rw [show lidx_main_v28 (ix3 b i e) k = ix3 b i k from by
      funext a
      match a with
      | ⟨0, _⟩ => rfl
      | ⟨1, _⟩ => rfl
      | ⟨2, _⟩ => rfl, rows_apply]
    refine congrArg (modulated _ _ _ _ k * ·) (congrArg x3 (funext fun a => ?_))
    match a with
    | ⟨0, _⟩ => rfl
    | ⟨1, _⟩ => rfl
  have hz : val_main_call0_v0 (F := Ideal) (ix3 b i e) = (0 : EReal) := by
    rw [val_main_call0_v0_apply]
    exact Ideal.ofBits_zero_f32
  rw [val_main_v30_apply, val_main_v29_apply, h28, hz]
  rfl

/-- The row before the last normalisation. -/
theorem residual_apply (b : Fin 2) (i : Fin 16384) (j : Fin 2048) :
    val_main_v35 (F := Ideal) x0 x1 x2 x3 x4 (ix3 b i j)
      = x0 (ix2 (at' b i) j) + part x1 10240 (by omega) b j * ∑ e, unit (modulated (fun k => x0 (ix2 (at' b i) k)) (fun k => x2 (ix1 k))
        (part x1 6144 (by omega) b) (part x1 8192 (by omega) b)) (fun l => x3 (ix2 l e)) * x4 (ix2 e j) := by
  rw [val_main_v35_apply, val_main_v34_apply, input_apply, gate_apply, val_main_v32_apply]
  refine congrArg (x0 (ix2 (at' b i) j) + ·) (congrArg (part x1 10240 (by omega) b j * ·) (Finset.sum_congr rfl fun e _ => ?_))
  rw [show lidx_main_v32 (ix3 b i j) e = ix3 b i e from by
    funext a
    match a with
    | ⟨0, _⟩ => rfl
    | ⟨1, _⟩ => rfl
    | ⟨2, _⟩ => rfl, hidden_apply]
  refine congrArg (unit _ _ * ·) (congrArg x4 (funext fun a => ?_))
  match a with
  | ⟨0, _⟩ => rfl
  | ⟨1, _⟩ => rfl

/-- **An entry of the reference's result.** -/
theorem result_apply (b : Fin 2) (i : Fin 16384) (j : Fin 2048) :
    val_main_v49 (F := Ideal) x0 x1 x2 x3 x4 x5 (ix2 (at' b i) j)
      = mlp (fun k => x0 (ix2 (at' b i) k)) (fun k => x2 (ix1 k)) (part x1 6144 (by omega) b) (part x1 8192 (by omega) b)
        (part x1 10240 (by omega) b) (fun k => x5 (ix1 k)) (fun k e => x3 (ix2 k e)) (fun e k => x4 (ix2 e k)) j := by
  have hb := b.isLt
  have hi := i.isLt
  have hj := j.isLt
  have hx : idx_main_v49 (ix2 (at' b i) j) = ix3 b i j := by
    refine funext fun a => Fin.ext ?_
    match a with
    | ⟨0, _⟩ =>
      show ((16384 * b.val + i.val) * 2048 + j.val) / 33554432 = b.val
      omega
    | ⟨1, _⟩ =>
      show ((16384 * b.val + i.val) * 2048 + j.val) / 2048 % 16384 = i.val
      omega
    | ⟨2, _⟩ =>
      show ((16384 * b.val + i.val) * 2048 + j.val) % 2048 = j.val
      omega
  have h44 : val_main_v44 (F := Ideal) x0 x1 x2 x3 x4 (ix3 b i j)
      = Ideal.rsqrt (Ideal.div (∑ k, val_main_v35 (F := Ideal) x0 x1 x2 x3 x4 (ix3 b i k) * val_main_v35 (F := Ideal) x0 x1 x2 x3 x4 (ix3 b i k))
        (Ideal.ofBits .f32 0x45000000#32) + Ideal.ofBits .f32 0x358637BD#32) := by
    rw [val_main_v44_apply, val_main_v43_apply, val_main_v42_apply, val_main_v40_apply, val_main_v38_apply, val_main_v37_apply,
      val_main_v39_apply, val_main_v41_apply]
    refine congrArg (fun s => Ideal.rsqrt (Ideal.div s (Ideal.ofBits .f32 0x45000000#32) + Ideal.ofBits .f32 0x358637BD#32)) ?_
    have hz : val_main_cst_3 (F := Ideal) (Shape.Idx.first h_S_) = (0 : EReal) := Ideal.ofBits_zero_f32
    rw [hz, zero_add]
    refine Finset.sum_congr rfl fun k _ => ?_
    rw [val_main_v36_apply, show idx_main_v37 (idx_main_v38 (idx_main_v44 (ix3 b i j))) k = ix3 b i k from by
      funext a
      match a with
      | ⟨0, _⟩ => rfl
      | ⟨1, _⟩ => rfl
      | ⟨2, _⟩ => rfl]
    rfl
  rw [val_main_v49_apply, hx, val_main_v48_apply, val_main_v45_apply, h44, val_main_v47_apply, val_main_v46_apply]
  simp only [residual_apply]
  have h5 : x5 (idx_main_v46 (idx_main_v47 (ix3 b i j))) = x5 (ix1 j) := congrArg x5 (funext fun a => by
    match a with
    | ⟨0, _⟩ => rfl)
  rw [h5]
  rfl

end Cert.Reference2Ideal.Hand
-- ==== Proof.MlpClaim.lean ====
module

public import proofs.«01_k».proof.Defs
public import proofs.«01_k».proof.Proof.MlpArray
public import proofs.«01_k».proof.Proof.MlpReference

/-! # The MLP call and its reference agree

Each entry of both results is the same function of one row, its sequence's modulation, the gains and the weights: the
kernel's sixteen partial sums over 512 hidden units are one sum over 8192. No precondition is needed. -/

@[expose] public section

set_option maxRecDepth 16384

noncomputable section

namespace Cert.Mlp

open Idealize.ShloMosaic Idealize.ShloMosaic.TcCoe Idealize.ShloMosaic.ValueIdx
open Idealize.SL.Sem
open scoped BigOperators

open Cert.Kernel2Ideal Cert.Kernel2Ideal.Gen in
/-- The kernel's final array is the reference's result. -/
theorem arrays_eq (m : (ℓ : Loc Cert.Kernel2Ideal.nD Cert.Kernel2Ideal.τ Cert.Kernel2Ideal.sig) → Buf (Elt Ideal) ℓ) (c : Dev Cert.Kernel2Ideal.nD)
    (r : Fin 32768) (j : Fin 2048) :
    (dats m 0 c).arrAt 6 cfg0.N (ix2 r j)
      = Cert.Reference2Ideal.Read.val_main_v49 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (ix2 r j) := by
  have hr := r.isLt
  let q : Fin 32 := ⟨r.val / 1024, by omega⟩
  let i : Fin 1024 := ⟨r.val % 1024, by omega⟩
  let b : Fin 2 := ⟨r.val / 16384, by omega⟩
  let p : Fin 16384 := ⟨r.val % 16384, by omega⟩
  have h1 : r = Cert.Kernel2Ideal.Hand.rowNo q i := Fin.ext (by show r.val = 1024 * (r.val / 1024) + r.val % 1024; omega)
  have h2 : r = Cert.Reference2Ideal.Hand.at' b p := Fin.ext (by show r.val = 16384 * (r.val / 16384) + r.val % 16384; omega)
  have hl := Cert.Kernel2Ideal.Hand.array_apply m c q i j
  have hR := Cert.Reference2Ideal.Hand.result_apply (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) b p j
  rw [← h1] at hl
  rw [← h2] at hR
  have hp (off : ℕ) (hoff : off + 2048 ≤ 12288) : Cert.Kernel2Ideal.Hand.part m c q off hoff
      = Cert.Reference2Ideal.Hand.part (m ((c.tc : Thread nD τ).loc main_arg1)) off hoff b := funext fun k => by
    unfold Cert.Kernel2Ideal.Hand.part Cert.Reference2Ideal.Hand.part
    refine congrArg (m ((c.tc : Thread nD τ).loc main_arg1)) (congrArg (ix3 · _ _) (Fin.ext ?_))
    show 1 + r.val / 1024 / 16 = 1 + r.val / 16384
    omega
  have hx : Cert.Kernel2Ideal.Hand.xrow m c q i = fun k => m ((c.tc : Thread nD τ).loc main_arg0) (ix2 r k) := funext fun k => by
    unfold Cert.Kernel2Ideal.Hand.xrow
    rw [← h1]
  rw [hl, hR, hx, hp, hp, hp]

open Cert.Kernel2Ideal Cert.Kernel2Ideal.Gen in
/-- **The MLP claim.** -/
theorem algebraic : Cert.algebraic_Kernel2Ideal_Reference2Ideal := by
  intro m g m' g' hpre heq
  refine ⟨fun c => (dats m 0 c).arrAt 6 cfg0.N, ?_, ?_⟩
  · refine (θ_run _ _ _).mono (fun r h c => ⟨(h.1 c).1 6, h.2.1 c⟩) (θ_run_and (run_main m g) (frame m g))
  · refine (θ_run _ _ _).mono (fun r h c => ⟨?_, (h c).2⟩) (Cert.Reference2Ideal.Value.run (F := Ideal) m' g')
    obtain ⟨e0, e1, e2, e3, e4, e5⟩ := heq c
    rw [(h c).1, Cert.Reference2Ideal.Read.val_main_v49_eq, e0, e1, e2, e3, e4, e5]
    funext i
    have hix : i = ix2 (i 0) (i 1) := by
      funext a
      match a with
      | ⟨0, _⟩ => rfl
      | ⟨1, _⟩ => rfl
    rw [hix]
    exact (arrays_eq m c (i 0) (i 1)).symm

end Cert.Mlp
-- ==== Proof.InProjBodyIdeal.lean ====
module

public import proofs.«01_k».proof.Proof.Gen.Kernel3Ideal.Launch
public import proofs.«01_k».proof.Proof.Gen.Kernel3Ideal.Skeleton
public import proofs.«01_k».proof.Proof.Gen.Kernel3Ideal.Points
public import proofs.«01_k».proof.Proof.Gen.Kernel3Ideal.Frame
public import Idealize.ShloMosaic.Lib.Pipeline.FrameBody
public import Idealize.ShloMosaic.Lib.VecWindow
public import Idealize.ShloMosaic.Lib.Pipeline.Value
public import Idealize.ShloMosaic.Lib.Pipeline.ValueKit.Tiles
public import Idealize.ShloMosaic.Lib.Tactic
public import Idealize.ShloMosaic.Lib.WordCmp

/-! # The input projection's body: what one grid point computes, and its triple

The thirteen points of a block of rows multiply the same normalised rows with the thirteen column blocks of the weight.
The first of them normalises the rows and keeps them in the scratch buffer; the first seven leave their product in the
first output's buffer, the other six leave the logistic function of theirs in the second's. The three triples below are
those three kinds of point. -/

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The normalised and modulated rows of a block, from its rows, its sequence's modulation and the gain. -/
def normed (x0 : Vec F S1024x2048 .f32) (x1 : Vec F S1x1x12288 .f32) (x2 : Vec F S1x2048 .f32) : Vec F S1024x2048 .bf16 :=
  k0_pay1 (View.ld x0 (Rect.unit (s := S1024x2048) ![0, 0] S1024x2048.size inb_S1024x2048_S1024x2048_0_0))
    (View.ld x2 (Rect.unit (s := S1x2048) ![0, 0] S1x2048.size inb_S1x2048_S1x2048_0_0))
    (View.ld x1 (Rect.unit (s := S1x1x12288) ![0, 0, 0] S1x1x2048.size inb_S1x1x12288_S1x1x2048_0_0_0))
    (View.ld x1 (Rect.unit (s := S1x1x12288) ![0, 0, 2048] S1x1x2048.size inb_S1x1x12288_S1x1x2048_0_0_2048))

/-- A column block of the weight, whole. -/
def wcol (x3 : Vec F S2048x1024 .bf16) : Vec F S2048x1024 .bf16 :=
  View.ld x3 (Rect.unit (s := S2048x1024) ![0, 0] S2048x1024.size inb_S2048x1024_S2048x1024_0_0)

/-- A block of the first output: the normalised rows times a column block of the weight. -/
def zOut (xs : Vec F S1024x2048 .bf16) (x3 : Vec F S2048x1024 .bf16) : Vec F S1024x1024 .f32 := k0_pay2 xs (wcol x3)

/-- A block of the second output: the logistic function of such a product. -/
def zmOut (xs : Vec F S1024x2048 .bf16) (x3 : Vec F S2048x1024 .bf16) : Vec F S1024x1024 .bf16 := k0_pay3 xs (wcol x3)

theorem zero2 : (![0, 0] : Fin 2 → ℕ) = fun _ => 0 := by funext a; fin_cases a <;> rfl

/-- Loading the whole scratch reads it. -/
theorem ld_scr (xs : Vec F S1024x2048 .bf16) :
    View.ld xs (Rect.unit (s := S1024x2048) ![0, 0] S1024x2048.size inb_S1024x2048_S1024x2048_0_0) = xs :=
  View.ld_unit_zero zero2 _ xs

/-- The grid coordinate's test for the first point of a block of rows. -/
abbrev cond1 (i : grid0.Coords) : Prop := (Scalar.cmpi .ne (Scalar.extui (Scalar.cmpi .eq (BitVec.ofNat 32 (i 1).val) 0#32)) 0#32) = 1#1

set_option maxHeartbeats 1600000 in
/-- The first point of a block of rows. -/
theorem sound_first (c : Dev nD) (E : Set ℕ) (i : grid0.Coords) (arg2 : Memref sig .tc .vmem S1024x2048 .f32) (harg2 : arg2.IsWhole) (arg3 : Memref sig .tc .vmem S1x1x12288 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x2048 .bf16) (harg8 : arg8.IsWhole)
    (hc1 : cond1 i) (hc2 : k0_cond2 i = 1#1) (hc3 : ¬k0_cond3 i = 1#1)
    (x0 : Vec F S1024x2048 .f32) (x1 : Vec F S1x1x12288 .f32) (x2 : Vec F S1x2048 .f32) (x3 : Vec F S2048x1024 .bf16) (X5 : Vec F S1024x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare X5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (zOut (normed x0 x1 x2) x3) ∗ owns (c : Thread nD τ) arg7 fullShare X5 ∗ owns (c : Thread nD τ) arg8 fullShare (normed x0 x1 x2)) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d8, %f8, -, H8⟩, Hk⟩
  subst hf0 hf1 hf2 hf3 hf5
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full arg6.view f4 inb_S1024x1024_S1024x1024_0_0 _ _).trans ?_
    exact congrArg (fun y => k0_pay2 y (wcol _)) (View.readCov_cons_toLoadRect _ _ _ _)
  isplitl [H5]
  · iexists f5; isplitr; · ipureintro; rfl
    iexact H5
  iexists _; isplitr
  swap; · iexact H8
  ipureintro
  exact View.read_writes_full arg8.view f8 inb_S1024x2048_S1024x2048_0_0 _ _

set_option maxHeartbeats 1600000 in
/-- Another point whose product goes to the first output. -/
theorem sound_z (c : Dev nD) (E : Set ℕ) (i : grid0.Coords) (arg2 : Memref sig .tc .vmem S1024x2048 .f32) (harg2 : arg2.IsWhole) (arg3 : Memref sig .tc .vmem S1x1x12288 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x2048 .bf16) (harg8 : arg8.IsWhole)
    (hc1 : ¬cond1 i) (hc2 : k0_cond2 i = 1#1) (hc3 : ¬k0_cond3 i = 1#1)
    (x3 : Vec F S2048x1024 .bf16) (xs : Vec F S1024x2048 .bf16) (K : PUnit → sProp 𝕄) :
    iprop(owns (c : Thread nD τ) arg5 fullShare x3 ∗ (∃ d, owns (c : Thread nD τ) arg6 fullShare d) ∗ owns (c : Thread nD τ) arg8 fullShare xs
        ∗ (iprop(owns (c : Thread nD τ) arg5 fullShare x3 ∗ owns (c : Thread nD τ) arg6 fullShare (zOut xs x3) ∗ owns (c : Thread nD τ) arg8 fullShare xs) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f3, %hf3, H3⟩, ⟨%d4, %f4, -, H4⟩, ⟨%f8, %hf8, H8⟩, Hk⟩
  subst hf3 hf8
  sl_exec (disch := first | sl_exact hc1 | sl_exact hc2 | sl_exact hc3)
  sl_step
  iapply Hk
  isplitl [H3]
  · iexists f3; isplitr; · ipureintro; rfl
    iexact H3
  isplitl [H4]
  · iexists _; isplitr
    swap; · iexact H4
    ipureintro
    refine (View.read_writes_full arg6.view f4 inb_S1024x1024_S1024x1024_0_0 _ _).trans ?_
    exact congrArg (fun y => k0_pay2 y (wcol _)) (ld_scr _)
  iexists f8; isplitr; · ipureintro; rfl
  iexact H8

set_option maxHeartbeats 1600000 in
/-- A point whose product goes through the logistic function to the second output. -/
theorem sound_zm (c : Dev nD) (E : Set ℕ) (i : grid0.Coords) (arg2 : Memref sig .tc .vmem S1024x2048 .f32) (harg2 : arg2.IsWhole) (arg3 : Memref sig .tc .vmem S1x1x12288 .f32) (harg3 : arg3.IsWhole) (arg4 : Memref sig .tc .vmem S1x2048 .f32) (harg4 : arg4.IsWhole) (arg5 : Memref sig .tc .vmem S2048x1024 .bf16) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x2048 .bf16) (harg8 : arg8.IsWhole)
    (hc1 : ¬cond1 i) (hc2 : ¬k0_cond2 i = 1#1) (hc3 : k0_cond3 i = 1#1)
    (x3 : Vec F S2048x1024 .bf16) (xs : Vec F S1024x2048 .bf16) (K : PUnit → sProp 𝕄) :
    iprop(owns (c : Thread nD τ) arg5 fullShare x3 ∗ (∃ d, owns (c : Thread nD τ) arg7 fullShare d) ∗ owns (c : Thread nD τ) arg8 fullShare xs
        ∗ (iprop(owns (c : Thread nD τ) arg5 fullShare x3 ∗ owns (c : Thread nD τ) arg7 fullShare (zmOut xs x3) ∗ owns (c : Thread nD τ) arg8 fullShare xs) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f3, %hf3, H3⟩, ⟨%d5, %f5, -, H5⟩, ⟨%f8, %hf8, H8⟩, Hk⟩
  subst hf3 hf8
  sl_exec (disch := first | sl_exact hc1 | sl_exact hc2 | sl_exact hc3)
  sl_step
  iapply Hk
  isplitl [H3]
  · iexists f3; isplitr; · ipureintro; rfl
    iexact H3
  isplitl [H5]
  · iexists _; isplitr
    swap; · iexact H5
    ipureintro
    refine (View.read_writes_full arg7.view f5 inb_S1024x1024_S1024x1024_0_0 _ _).trans ?_
    exact congrArg (fun y => k0_pay3 y (wcol _)) (ld_scr _)
  iexists f8; isplitr; · ipureintro; rfl
  iexact H8

end Cert.Kernel3Ideal.Hand
-- ==== Proof.InProjFrameIdeal.lean ====
module

public import proofs.«01_k».proof.Proof.InProjBodyIdeal
public import Idealize.ShloMosaic.Lib.Pipeline.TableIdle
public import Idealize.ShloMosaic.Lib.Claim
public import Idealize.ShloMosaic.Lib.Ring

/-! # The input projection's run

Point `t` of the grid is point `t % 13` of block of rows `t / 13`. The scratch holds, after any point of a block of rows,
the normalised rows of that block; the first output's buffer holds the product of the last of the first seven points up
to there, and is left alone by the other six. From this, the three triples of the body give the obligation at every
point, and the obligation the run: what every final state holds of the arrays, and the frame. -/

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which kind of point -/

theorem lt_N (t : Fin cfg0.N) : t.val < 416 := lt_of_lt_of_eq t.isLt N_0

theorem first_iff : ∀ t : Fin cfg0.N, cond1 (grid0.coords t) ↔ t.val % 13 = 0 := fun t => by
  have ht := lt_N t
  have e1 : (grid0.coords t 1).val = t.val / 1 % 13 := Pipeline.Grid.coords_val t 1 (by decide) rfl
  simp only [cond1, e1]
  word_cmp

theorem z_iff : ∀ t : Fin cfg0.N, k0_cond2 (grid0.coords t) = 1#1 ↔ t.val % 13 < 7 := fun t => by
  have ht := lt_N t
  have e1 : (grid0.coords t 1).val = t.val / 1 % 13 := Pipeline.Grid.coords_val t 1 (by decide) rfl
  simp only [k0_cond2, e1]
  word_cmp

theorem zm_iff : ∀ t : Fin cfg0.N, k0_cond3 (grid0.coords t) = 1#1 ↔ ¬t.val % 13 < 7 := fun t => by
  have ht := lt_N t
  have e1 : (grid0.coords t 1).val = t.val / 1 % 13 := Pipeline.Grid.coords_val t 1 (by decide) rfl
  simp only [k0_cond3, e1]
  word_cmp

theorem idle4 (t : Fin cfg0.N) : cfg0.idle 4 (cfg0.grid.coords t) = decide (¬t.val % 13 < 7) := by
  show (!(k0_cond2 (grid0.coords t) == 1#1)) = _
  by_cases h : t.val % 13 < 7
  · rw [(z_iff t).mpr h]; simp [h]
  · have := mt (z_iff t).mp h; simp [h, this]

theorem idle5 (t : Fin cfg0.N) : cfg0.idle 5 (cfg0.grid.coords t) = decide (t.val % 13 < 7) := by
  show (!(k0_cond3 (grid0.coords t) == 1#1)) = _
  by_cases h : t.val % 13 < 7
  · have := mt (zm_iff t).mp (not_not_intro h); simp [h, this]
  · rw [(zm_iff t).mpr h]; simp [h]

/-- No block of the first output overhangs its array: the blocks of rows stop short of the array's end. -/
theorem clip4 (i : grid0.Coords) (a) : win0_4.clip i a = none :=
  (by decide +kernel : ∀ (i : grid0.Coords) a, Pipeline.Clip.of (cc0_transform_4 i a) (S1024x1024.size a) (S33280x7168.size a) = none) i a

/-- The first output's block is written back at the first six points of a block of rows and at its last. -/
theorem flush4 : ∀ t : Fin cfg0.N, (cfg0.win 4).flush t = decide (t.val % 13 < 6 ∨ t.val % 13 = 12) := fun t =>
  ((cfg0.win 4).flush_eq_flushF t).trans ((by decide +kernel : ∀ t : Fin grid0.N, win0_4.flushF t = decide (t.val % 13 < 6 ∨ t.val % 13 = 12)) t)

/-- The second output's is written back at the last six. -/
theorem flush5 : ∀ t : Fin cfg0.N, (cfg0.win 5).flush t = decide (¬t.val % 13 < 7) := fun t =>
  ((cfg0.win 5).flush_eq_flushF t).trans ((by decide +kernel : ∀ t : Fin grid0.N, win0_5.flushF t = decide (¬t.val % 13 < 7)) t)

/-- After the first seven points the first output's buffer holds something stored and not yet written back. -/
theorem fresh4 (n : ℕ) (h : n ≤ cfg0.N) : cfg0.fresh 4 n = decide (n % 13 < 7) :=
  cfg0.fresh_tab 4 (fun n => decide (n % 13 < 7)) rfl (fun t => by
    rw [flush4, idle4, ← Bool.decide_and, ← Bool.decide_or, decide_eq_decide]; omega) n h

/-! ## What the buffers hold -/

variable (m : (ℓ : Loc nD τ sig) → Buf (Elt F) ℓ) (ρ : Dev nD → PrngReg)

/-- The first point of `t`'s block of rows. -/
def first (t : Fin cfg0.N) : Fin cfg0.N := ⟨13 * (t.val / 13), lt_of_le_of_lt (by omega) t.isLt⟩

/-- The last point of `t`'s block of rows up to `t` that stores into the first output's buffer. -/
def lastZ (t : Fin cfg0.N) : Fin cfg0.N := ⟨13 * (t.val / 13) + min (t.val % 13) 6, lt_of_le_of_lt (by omega) t.isLt⟩

/-- What the scratch holds after point `t`. -/
def rowsAt (c : Dev nD) (t : Fin cfg0.N) : Vec F S1024x2048 .bf16 :=
  normed (iblk m c 0 (first t)) (iblk m c 1 (first t)) (iblk m c 2 (first t))

theorem rowsAt_congr (c : Dev nD) {t u : Fin cfg0.N} (h : t.val / 13 = u.val / 13) : rowsAt m c t = rowsAt m c u := by
  unfold rowsAt
  rw [show first t = first u from Fin.ext (congrArg (13 * ·) h)]

theorem rowsAt_first (c : Dev nD) (t : Fin cfg0.N) (h : t.val % 13 = 0) :
    rowsAt m c t = normed (iblk m c 0 t) (iblk m c 1 t) (iblk m c 2 t) := by
  unfold rowsAt
  rw [show first t = t from Fin.ext (by show 13 * (t.val / 13) = t.val; omega)]

/-- What the first output's buffer holds after point `t`. -/
def zAt (c : Dev nD) (t : Fin cfg0.N) : Vec F S1024x1024 .f32 := zOut (rowsAt m c t) (iblk m c 3 (lastZ t))

theorem zAt_live (c : Dev nD) (t : Fin cfg0.N) (h : t.val % 13 < 7) : zAt m c t = zOut (rowsAt m c t) (iblk m c 3 t) := by
  unfold zAt
  rw [show lastZ t = t from Fin.ext (by show 13 * (t.val / 13) + min (t.val % 13) 6 = t.val; omega)]

theorem zAt_carry (c : Dev nD) {t u : Fin cfg0.N} (hu : u.val + 1 = t.val) (h : ¬t.val % 13 < 7) : zAt m c t = zAt m c u := by
  unfold zAt
  rw [rowsAt_congr m c (show t.val / 13 = u.val / 13 by omega),
    show lastZ t = lastZ u from Fin.ext (by
      show 13 * (t.val / 13) + min (t.val % 13) 6 = 13 * (u.val / 13) + min (u.val % 13) 6; omega)]

/-- What the second output's buffer holds after a point that stores into it. -/
def zmAt (c : Dev nD) (t : Fin cfg0.N) : Vec F S1024x1024 .bf16 := zmOut (rowsAt m c t) (iblk m c 3 t)

/-- The scratch buffer, whole. -/
abbrev scr : Memref sig .tc .vmem S1024x2048 .bf16 := Memref.whole cc0_scratch0

/-- The scratch at anything, and the generator register. -/
theorem inv_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

/-- The invariant before position `n`: nothing known of the scratch at the start, afterwards the rows of the block the
    point before belongs to. -/
def PhiS (c : Dev nD) : (n : ℕ) → n ≤ cfg0.N → sProp 𝕄
  | 0, _ => Pipeline.ΦA spec0 c
  | n + 1, hn => iprop(owns (c : Thread nD τ) scr fullShare (rowsAt m c ⟨n, hn⟩) ∗ (∃ r, prngReg c r))

theorem PhiS_pos (c : Dev nD) (n : ℕ) (h : n ≤ cfg0.N) (hz : n ≠ 0) :
    PhiS m c n h = iprop(owns (c : Thread nD τ) scr fullShare (rowsAt m c ⟨n - 1, by omega⟩) ∗ (∃ r, prngReg c r)) := by
  cases n with
  | zero => exact absurd rfl hz
  | succ n => rfl

/-- At any position the invariant gives the scratch at something. -/
theorem PhiS_any (c : Dev nD) (n : ℕ) (h : n ≤ cfg0.N) :
    PhiS m c n h ⊢ iprop(iprop((∃ d, owns (c : Thread nD τ) scr fullShare d)) ∗ (∃ r, prngReg c r)) := by
  cases n with
  | zero => rw [← inv_eq]; exact Idealize.SL.BI.Entails.refl _
  | succ n =>
    rw [PhiS_pos m c _ h (Nat.succ_ne_zero n)]
    iintro ⟨HS, Hg⟩
    isplitl [HS]; · iexists _; iexact HS
    iexact Hg

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => zAt m c t
    | ⟨5, _⟩ => zmAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = zAt m c t := by dsimp only [dats]
theorem after5 (c : Dev nD) (t : Fin cfg0.N) : (dats m 0 c).after 5 t = zmAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- At the last six points the first output's buffer is found as it is to be left. -/
theorem before4 (c : Dev nD) (t : Fin cfg0.N) (h : ¬t.val % 13 < 7) (d) : (dats m 0 c).before 4 t d = zAt m c t := by
  rw [Pipeline.Dat.before_out_traj (dats m 0 c) 4 rfl (fun i a => clip4 i a) (fun u hu hi _ => by
      rw [after4, after4]
      exact zAt_carry m c (by show u.val - 1 + 1 = u.val; omega) (of_decide_eq_true ((idle4 u).symm.trans hi))) t.val t rfl d,
    fresh4 t.val (Nat.le_of_lt t.isLt), if_neg (by simpa using h), after4]
  exact (zAt_carry m c (by show t.val - 1 + 1 = t.val; omega) h).symm

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t
    ∗ (dats m 0 c).leavesExact 5 t)

/-- A point that stores into the first output's buffer returns it at what it stored. -/
theorem leaves4_live (c : Dev nD) (t : Fin cfg0.N) (h : t.val % 13 < 7) :
    (dats m 0 c).leavesExact 4 t = owns (c : Thread nD τ) (st0_4 t) fullShare (zOut (rowsAt m c t) (iblk m c 3 t)) := by
  unfold Dat.leavesExact
  rw [idle4, decide_eq_false (not_not_intro h), after4, zAt_live m c t h]

/-- A point that does not finds it at what it is to return. -/
theorem leaves4_idle (c : Dev nD) (t : Fin cfg0.N) (h : ¬t.val % 13 < 7) :
    owns (c : Thread nD τ) (st0_4 t) fullShare (zAt m c t) ⊢ ((dats m 0 c).leavesExact 4 t : sProp 𝕄) := by
  unfold Dat.leavesExact
  rw [idle4, decide_eq_true h, after4]
  cases (cfg0.win 4).flush t
  · simp only [before4 m c t h]
    iintro H
    iexists fun _ => Classical.arbitrary _
    iexact H
  · exact Idealize.SL.BI.Entails.refl _

/-- A point that stores into the second output's buffer returns it at what it stored; -/
theorem leaves5_live (c : Dev nD) (t : Fin cfg0.N) (h : ¬t.val % 13 < 7) :
    (dats m 0 c).leavesExact 5 t = owns (c : Thread nD τ) (st0_5 t) fullShare (zmOut (rowsAt m c t) (iblk m c 3 t)) := by
  unfold Dat.leavesExact
  rw [idle5, decide_eq_false h, after5]
  rfl

/-- one that does not, as it found it. -/
theorem leaves5_idle (c : Dev nD) (t : Fin cfg0.N) (h : t.val % 13 < 7) (d) :
    owns (c : Thread nD τ) (st0_5 t) fullShare ((dats m 0 c).before 5 t d) ⊢ ((dats m 0 c).leavesExact 5 t : sProp 𝕄) := by
  rw [Dat.leavesExact_idle _ 5 t ((idle5 t).trans (decide_eq_true h)) ((flush5 t).trans (decide_eq_false (not_not_intro h)))]
  iintro H
  iexists d
  iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    after0, after1, after2, after3]
  rw [show (dats m 0 c).Φ t.succ = PhiS m c (t.val + 1) t.isLt from rfl, PhiS_pos m c (t.val + 1) _ (Nat.succ_ne_zero _),
    show (⟨t.val + 1 - 1, by omega⟩ : Fin cfg0.N) = t from rfl, Phi_castSucc]
  by_cases h1 : t.val % 13 = 0
  · have h2 : t.val % 13 < 7 := by omega
    rw [leaves4_live m c t h2, rowsAt_first m c t h1]
    iintro ⟨HP, Ho, ⟨%d0, H0⟩, ⟨%d1, H1⟩, ⟨%d2, H2⟩, ⟨%d3, H3⟩, ⟨%d4, H4⟩, ⟨%d5, H5⟩⟩
    ihave HP' := (PhiS_any m c t.val _) $$ HP
    icases HP' with ⟨HS, Hg⟩
    iapply (sound_first c Set.univ (grid0.coords t) _ _ _ _ _ _ _ _ _ _ _ _ _ _ ((first_iff t).mpr h1) ((z_iff t).mpr h2) (fun h => (zm_iff t).mp h h2)
      (iblk m c 0 t) (iblk m c 1 t) (iblk m c 2 t) (iblk m c 3 t) _ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5_idle m c t h2 d5); iexact H5
  · have hz : t.val ≠ 0 := by omega
    have hr : rowsAt m c ⟨t.val - 1, by omega⟩ = rowsAt m c t := rowsAt_congr m c (by show (t.val - 1) / 13 = t.val / 13; omega)
    rw [PhiS_pos m c t.val _ hz, hr]
    by_cases h2 : t.val % 13 < 7
    · rw [leaves4_live m c t h2]
      iintro ⟨⟨HS, Hg⟩, Ho, ⟨%d0, H0⟩, ⟨%d1, H1⟩, ⟨%d2, H2⟩, ⟨%d3, H3⟩, ⟨%d4, H4⟩, ⟨%d5, H5⟩⟩
      iapply (sound_z c Set.univ (grid0.coords t) _ (hstage0_0 ((cfg0.slots t 0).cast nbuf0_0)) _ (hstage0_1 ((cfg0.slots t 1).cast nbuf0_1)) _ (hstage0_2 ((cfg0.slots t 2).cast nbuf0_2)) _ _ _ _ _ (hstage0_5 ((cfg0.slots t 5).cast nbuf0_5)) _ _ (fun h => h1 ((first_iff t).mp h)) ((z_iff t).mpr h2) (fun h => (zm_iff t).mp h h2)
        (iblk m c 3 t) (rowsAt m c t) _)
      isplitl [H3]; · iexact H3
      isplitl [H4]; · iexists _; iexact H4
      isplitl [HS]; · iexact HS
      iintro ⟨H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iapply (leaves5_idle m c t h2 d5); iexact H5
    · rw [leaves5_live m c t h2]
      simp only [before4 m c t h2]
      iintro ⟨⟨HS, Hg⟩, Ho, ⟨%d0, H0⟩, ⟨%d1, H1⟩, ⟨%d2, H2⟩, ⟨%d3, H3⟩, ⟨%d4, H4⟩, ⟨%d5, H5⟩⟩
      iapply (sound_zm c Set.univ (grid0.coords t) _ (hstage0_0 ((cfg0.slots t 0).cast nbuf0_0)) _ (hstage0_1 ((cfg0.slots t 1).cast nbuf0_1)) _ (hstage0_2 ((cfg0.slots t 2).cast nbuf0_2)) _ _ _ (hstage0_4 ((cfg0.slots t 4).cast nbuf0_4)) _ _ _ _ (fun h => h1 ((first_iff t).mp h)) (fun h => h2 ((z_iff t).mp h)) ((zm_iff t).mpr h2)
        (iblk m c 3 t) (rowsAt m c t) _)
      isplitl [H3]; · iexact H3
      isplitl [H5]; · iexists _; iexact H5
      isplitl [HS]; · iexact HS
      iintro ⟨H3, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]
      · iapply (leaves4_idle m c t h2); iexact H4
      iexact H5

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

theorem hin (c : Dev nD) : Pipeline.ΦA spec0 c ⊢ (dats m 0 c).Φ 0 := by
  rw [show (dats m 0 c).Φ 0 = PhiS m c 0 (Nat.zero_le _) from rfl, PhiS]

theorem hout (c : Dev nD) : (dats m 0 c).Φ (Fin.last cfg0.N) ⊢ Pipeline.ΦA spec0 c := by
  rw [inv_eq, show (dats m 0 c).Φ (Fin.last cfg0.N) = PhiS m c cfg0.N (Nat.le_refl _) from rfl]
  exact PhiS_any m c _ _

-- the launch theorem's implicit arguments are found by unifying its conclusion with this one
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every final state has each array of the pipeline at what the library computes from the proof data. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel3Ideal.Hand
-- ==== Proof.InProjPay.lean ====
module

public import proofs.«01_k».proof.Proof.InProjFrameIdeal
public import proofs.«01_k».proof.Proof.MlpPay

/-! # The input projection's blocks, entry by entry

With exact arithmetic the scratch holds the modulated rows, the first output's block their products with the weight's
columns, and the second output's block the logistic function of such products, which the kernel computes from the
hyperbolic tangent: the two agree at every extended real, the infinities too. -/

@[expose] public section

set_option maxRecDepth 16384

noncomputable section

namespace Cert.Kernel3Ideal.Hand

open Cert.Kernel3Ideal Cert.Kernel3Ideal.Gen Cert.Rows
open Idealize.ShloMosaic Idealize.ShloMosaic.TcCoe Idealize.ShloMosaic.ValueIdx
open scoped BigOperators

/-! ## The logistic function -/

/-- One half. -/
theorem half_eq : Ideal.ofBits .f32 0x3F000000#32 = ((1 / 2 : ℝ) : EReal) := by
  simp [Ideal.ofBits, Ideal.ieee, -EReal.coe_mul]
  norm_num

theorem logistic_real (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [h1]
  have ha := Real.exp_pos (1 / 2 * r)
  have hb := Real.exp_pos (-(1 / 2 * r))
  set a := Real.exp (1 / 2 * r)
  set b := Real.exp (-(1 / 2 * r))
  have hab : a + b ≠ 0 := by positivity
  have hbb : 1 + b * b ≠ 0 := by positivity
  field_simp
  linear_combination (2 * b) * h2

/-- **Half the hyperbolic tangent of half the argument, plus a half, is the logistic function.** -/
theorem logistic_eq (x : EReal) :
    Ideal.ofBits .f32 0x3F000000#32 * Ideal.tanh (Ideal.ofBits .f32 0x3F000000#32 * x) + Ideal.ofBits .f32 0x3F000000#32 = Ideal.logistic x := by
  rw [half_eq]
  induction x using EReal.rec with
  | bot =>
    rw [EReal.coe_mul_bot_of_pos (by norm_num), Ideal.tanh_bot, Ideal.logistic_bot, ← EReal.coe_one, ← EReal.coe_neg, ← EReal.coe_mul, ← EReal.coe_add]
    norm_num
  | top =>
    rw [EReal.coe_mul_top_of_pos (by norm_num), Ideal.tanh_top, Ideal.logistic_top, ← EReal.coe_one, ← EReal.coe_mul, ← EReal.coe_add]
    norm_num
  | coe r =>
    rw [← EReal.coe_mul, Ideal.tanh_coe, ← EReal.coe_mul, ← EReal.coe_add, Ideal.logistic_coe, logistic_real]

/-! ## The blocks -/

/-- The scratch. -/
theorem pay1_apply (x0 : Vec Ideal S1024x2048 .f32) (x2 : Vec Ideal S1x2048 .f32) (sh sc : Vec Ideal S1x1x2048 .f32) (i : Fin 1024) (j : Fin 2048) :
    k0_pay1 (F := Ideal) x0 x2 sh sc (ix2 i j)
      = modulated (fun k => x0 (ix2 i k)) (fun k => x2 (ix2 0 k)) (fun k => sh (ix3 0 0 k)) (fun k => sc (ix3 0 0 k)) j :=
  Cert.Kernel2Ideal.Hand.pay1_apply x0 x2 sh sc i j

/-- The products. -/
theorem matmul_entry (xs : Vec Ideal S1024x2048 .bf16) (w : Vec Ideal S2048x1024 .bf16) (i j : Fin 1024) :
    matmul (F := Ideal) (φ₁ := .bf16) (φ₂ := .bf16) dot_S1024x2048_S2048x1024_S1024x1024_1_0_0_1_n_n none xs w (constant S1024x1024 .f32 0x00000000#32) (ix2 i j)
      = proj (fun k => xs (ix2 i k)) (fun k => w (ix2 k j)) := by
  refine (Ideal.matmul_plain_apply none xs w _ i j).trans ?_
  have h0 : (constant (F := Ideal) S1024x1024 .f32 0x00000000#32) (ix2 i j) = (0 : EReal) := Ideal.ofBits_zero_f32
  rw [h0, zero_add]
  rfl

/-- An entry of the first output's block. -/
theorem zOut_apply (xs : Vec Ideal S1024x2048 .bf16) (x3 : Vec Ideal S2048x1024 .bf16) (i j : Fin 1024) :
    zOut (F := Ideal) xs x3 (ix2 i j) = proj (fun k => xs (ix2 i k)) (fun k => x3 (ix2 k j)) := by
  have hw : wcol x3 = x3 := View.ld_unit_zero (S := S2048x1024) zero2 _ _
  unfold zOut
  rw [hw]
  exact matmul_entry xs x3 i j

/-- An entry of the second's. -/
theorem zmOut_apply (xs : Vec Ideal S1024x2048 .bf16) (x3 : Vec Ideal S2048x1024 .bf16) (i j : Fin 1024) :
    zmOut (F := Ideal) xs x3 (ix2 i j) = Ideal.logistic (proj (fun k => xs (ix2 i k)) (fun k => x3 (ix2 k j))) := by
  have hw : wcol x3 = x3 := View.ld_unit_zero (S := S2048x1024) zero2 _ _
  unfold zmOut
  rw [hw, ← logistic_eq, ← matmul_entry xs x3 i j]
  rfl

/-- An entry of the scratch. -/
theorem normed_apply (x0 : Vec Ideal S1024x2048 .f32) (x1 : Vec Ideal S1x1x12288 .f32) (x2 : Vec Ideal S1x2048 .f32) (i : Fin 1024) (j : Fin 2048) :
    normed (F := Ideal) x0 x1 x2 (ix2 i j)
      = modulated (fun k => x0 (ix2 i k)) (fun k => x2 (ix2 0 k)) (fun k => x1 (ix3 0 0 ⟨k.val, by have := k.isLt; omega⟩))
          (fun k => x1 (ix3 0 0 ⟨2048 + k.val, by have := k.isLt; omega⟩)) j := by
  unfold normed
  refine (pay1_apply _ _ _ _ i j).trans ?_
  congr 1
  · rw [View.ld_unit_zero (S := S1024x2048) zero2]
  · rw [View.ld_unit_zero (S := S1x2048) zero2]
  · refine funext fun k => View.ld_unit_apply_of (S := S1x1x12288) x1 _ _ _ _ (ix3 (0 : Fin 1) (0 : Fin 1) ⟨k.val, by have := k.isLt; omega⟩) fun a => ?_
    match a with
    | ⟨0, _⟩ => rfl
    | ⟨1, _⟩ => rfl
    | ⟨2, _⟩ => exact (Nat.zero_add _).symm
  · refine funext fun k => View.ld_unit_apply_of (S := S1x1x12288) x1 _ _ _ _ (ix3 (0 : Fin 1) (0 : Fin 1) ⟨2048 + k.val, by have := k.isLt; omega⟩) fun a => ?_
    match a with
    | ⟨0, _⟩ => rfl
    | ⟨1, _⟩ => rfl
    | ⟨2, _⟩ => rfl

end Cert.Kernel3Ideal.Hand
-- ==== Proof.InProjArray.lean ====
module

public import proofs.«01_k».proof.Proof.InProjPay
public import Idealize.ShloMosaic.Lib.Pipeline.ValueKit.Tiles
public import Idealize.ShloMosaic.Lib.StableHlo.Run

/-! # The input projection call's final arrays

Grid point `13 q + n` works on row block `q` (1024 rows) and on the weight's column block `n` (1024 columns). The first
output's column blocks 0 … 5 are written back at the points that compute them; its block 6, computed at `n = 6`, stays in
its buffer until the row block's last point writes it back. The second output's column block `n - 7` is written back at
the point that computes it. -/

@[expose] public section

set_option maxRecDepth 16384

noncomputable section

namespace Cert.Kernel3Ideal.Hand

open Cert.Kernel3Ideal Cert.Kernel3Ideal.Gen Cert.Rows
open Idealize.ShloMosaic Idealize.ShloMosaic.TcCoe Idealize.ShloMosaic.ValueIdx
open Idealize.SL.Sem
open scoped BigOperators

variable (m : (ℓ : Loc nD τ sig) → Buf (Elt Ideal) ℓ)

/-! ## Which block a point works on -/

theorem index0 : ∀ t : Fin cfg0.N, win0_0.index t 0 = t.val / 13 ∧ win0_0.index t 1 = 0 :=
  (by decide +kernel : ∀ t : Fin grid0.N, win0_0.index t 0 = t.val / 13 ∧ win0_0.index t 1 = 0)

theorem index1 : ∀ t : Fin cfg0.N, win0_1.index t 0 = 1 + t.val / 208 ∧ win0_1.index t 1 = 0 ∧ win0_1.index t 2 = 0 :=
  (by decide +kernel : ∀ t : Fin grid0.N, win0_1.index t 0 = 1 + t.val / 208 ∧ win0_1.index t 1 = 0 ∧ win0_1.index t 2 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = t.val % 13 :=
  (by decide +kernel : ∀ t : Fin grid0.N, win0_3.index t 0 = 0 ∧ win0_3.index t 1 = t.val % 13)

theorem index4 : ∀ t : Fin cfg0.N, win0_4.index t 0 = t.val / 13 ∧ win0_4.index t 1 = min (t.val % 13) 6 :=
  (by decide +kernel : ∀ t : Fin grid0.N, win0_4.index t 0 = t.val / 13 ∧ win0_4.index t 1 = min (t.val % 13) 6)

theorem index5 : ∀ t : Fin cfg0.N, win0_5.index t 0 = t.val / 13 ∧ win0_5.index t 1 = t.val % 13 - 7 :=
  (by decide +kernel : ∀ t : Fin grid0.N, win0_5.index t 0 = t.val / 13 ∧ win0_5.index t 1 = t.val % 13 - 7)

/-- A point that writes a block back writes all of it, -/
theorem xsize4 : ∀ t : Fin cfg0.N, ∀ a, (cfg0.win 4).xsize (cfg0.grid.coords t) a = (cfg0.win 4).size a := by decide +kernel

theorem xsize5 : ∀ t : Fin cfg0.N, ∀ a, (cfg0.win 5).xsize (cfg0.grid.coords t) a = (cfg0.win 5).size a := by decide +kernel

/-- and no two write the same block. -/
theorem disjoint4 : ∀ t t' : Fin cfg0.N, (cfg0.win 4).flush t = true → (cfg0.win 4).flush t' = true → t ≠ t' →
    Disjoint ((cfg0.win 4).blk t).view.set ((cfg0.win 4).blk t').view.set :=
  fun t t' hf hf' hne => (cfg0.win 4).disjoint_blk fun h => hne (Fin.ext (by
    have h0 := congrFun h 0
    have h1 := congrFun h 1
    rw [show (cfg0.win 4).index t 0 = _ from (index4 t).1, show (cfg0.win 4).index t' 0 = _ from (index4 t').1] at h0
    rw [show (cfg0.win 4).index t 1 = _ from (index4 t).2, show (cfg0.win 4).index t' 1 = _ from (index4 t').2] at h1
    have h2 := of_decide_eq_true ((flush4 t).symm.trans hf)
    have h3 := of_decide_eq_true ((flush4 t').symm.trans hf')
    omega))

theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (Fin.ext (by
    have h0 := congrFun h 0
    have h1 := congrFun h 1
    rw [show (cfg0.win 5).index t 0 = _ from (index5 t).1, show (cfg0.win 5).index t' 0 = _ from (index5 t').1] at h0
    rw [show (cfg0.win 5).index t 1 = _ from (index5 t).2, show (cfg0.win 5).index t' 1 = _ from (index5 t').2] at h1
    have h2 := of_decide_eq_true ((flush5 t).symm.trans hf)
    have h3 := of_decide_eq_true ((flush5 t').symm.trans hf')
    omega))

/-! ## The blocks read -/

/-- The gain, as the region finds it. -/
theorem V_main_v0 (c : Dev nD) : V m c main_v0 = shapeCast S1x2048 (m ((c : Thread nD τ).loc main_arg2)) shapeCasts_S2048_S1x2048 := by
  show StableHlo.after hostOps0 _ (Proc.devRef .tc main_v0) = _
  after_results
  rfl

theorem rows_in (c : Dev nD) (t : Fin cfg0.N) (i : Fin 1024) (k : Fin 2048) (r : Fin 32768) (hr : r.val = 1024 * (t.val / 13) + i.val) :
    iblk m c 0 t (ix2 i k) = m ((c : Thread nD τ).loc main_arg0) (ix2 r k) := by
  refine (congrArg (V m c main_arg0) ?_).trans (congrFun (V_main_arg0 m c) _)
  funext a
  match a with
  | ⟨0, _⟩ =>
    refine Fin.ext ?_
    show win0_0.index t 0 * 1024 + 1 * i.val = r.val
    rw [(index0 t).1, hr]; omega
  | ⟨1, _⟩ =>
    refine Fin.ext ?_
    show win0_0.index t 1 * 2048 + 1 * k.val = k.val
    rw [(index0 t).2]; omega

theorem mods_in (c : Dev nD) (t : Fin cfg0.N) (k : Fin 12288) (b : Fin 8) (hb : b.val = 1 + t.val / 208) :
    iblk m c 1 t (ix3 (0 : Fin 1) (0 : Fin 1) k) = m ((c : Thread nD τ).loc main_arg1) (ix3 b (0 : Fin 1) k) := by
  refine (congrArg (V m c main_arg1) ?_).trans (congrFun (V_main_arg1 m c) _)
  funext a
  match a with
  | ⟨0, _⟩ =>
    refine Fin.ext ?_
    show win0_1.index t 0 * 1 + 1 * 0 = b.val
    rw [(index1 t).1, hb]; omega
  | ⟨1, _⟩ =>
    refine Fin.ext ?_
    show win0_1.index t 1 * 1 + 1 * 0 = 0
    rw [(index1 t).2.1]
  | ⟨2, _⟩ =>
    refine Fin.ext ?_
    show win0_1.index t 2 * 12288 + 1 * k.val = k.val
    rw [(index1 t).2.2]; omega

theorem gain_in (c : Dev nD) (t : Fin cfg0.N) (k : Fin 2048) :
    iblk m c 2 t (ix2 (0 : Fin 1) k) = m ((c : Thread nD τ).loc main_arg2) (ix1 k) := by
  refine ((congrArg (V m c main_v0) ?_).trans (congrFun (V_main_v0 m c) (ix2 (0 : Fin 1) k))).trans (shapeCast_a_1a_apply _ _ 0 k)
  funext a
  match a with
  | ⟨0, _⟩ =>
    refine Fin.ext ?_
    show win0_2.index t 0 * 1 + 1 * 0 = 0
    rw [(index2 t).1]
  | ⟨1, _⟩ =>
    refine Fin.ext ?_
    show win0_2.index t 1 * 2048 + 1 * k.val = k.val
    rw [(index2 t).2]; omega

theorem weight_in (c : Dev nD) (t : Fin cfg0.N) (k : Fin 2048) (e : Fin 1024) (f : Fin 13312) (hf : f.val = 1024 * (t.val % 13) + e.val) :
    iblk m c 3 t (ix2 k e) = m ((c : Thread nD τ).loc main_arg3) (ix2 k f) := by
  refine (congrArg (V m c main_arg3) ?_).trans (congrFun (V_main_arg3 m c) _)
  funext a
  match a with
  | ⟨0, _⟩ =>
    refine Fin.ext ?_
    show win0_3.index t 0 * 2048 + 1 * k.val = k.val
    rw [(index3 t).1]; omega
  | ⟨1, _⟩ =>
    refine Fin.ext ?_
    show win0_3.index t 1 * 1024 + 1 * e.val = f.val
    rw [(index3 t).2, hf]; omega

/-! ## One row -/

/-- A part of sequence `b`'s modulation. -/
def part (c : Dev nD) (off : ℕ) (hoff : off + 2048 ≤ 12288) (b : Fin 2) (k : Fin 2048) : EReal :=
  m ((c : Thread nD τ).loc main_arg1) (ix3 (⟨1 + b.val, by have := b.isLt; omega⟩ : Fin 8) (0 : Fin 1) ⟨off + k.val, by have := k.isLt; omega⟩)

/-- Row `r`, normalised and modulated for its sequence, -/
def yrow (c : Dev nD) (r : Fin 32768) : Fin 2048 → EReal :=
  modulated (fun k => m ((c : Thread nD τ).loc main_arg0) (ix2 r k)) (fun k => m ((c : Thread nD τ).loc main_arg2) (ix1 k))
    (part m c 0 (by omega) ⟨r.val / 16384, by have := r.isLt; omega⟩) (part m c 2048 (by omega) ⟨r.val / 16384, by have := r.isLt; omega⟩)

/-- and its product with the weight's column `f`. -/
def prod (c : Dev nD) (r : Fin 32768) (f : Fin 13312) : EReal :=
  proj (yrow m c r) (fun k => m ((c : Thread nD τ).loc main_arg3) (ix2 k f))

/-- The scratch holds the modulated rows at every point of their block. -/
theorem rowsAt_apply (c : Dev nD) (t : Fin cfg0.N) (i : Fin 1024) (k : Fin 2048) (r : Fin 32768) (hr : r.val = 1024 * (t.val / 13) + i.val) :
    rowsAt m c t (ix2 i k) = yrow m c r k := by
  have hi := i.isLt
  have hu : (first t).val = 13 * (t.val / 13) := rfl
  unfold rowsAt yrow
  refine (normed_apply _ _ _ i k).trans ?_
  congr 1
  · exact funext fun l => rows_in m c (first t) i l r (by rw [hr, hu]; omega)
  · exact funext fun l => gain_in m c (first t) l
  · refine funext fun l => (mods_in m c (first t) _ (⟨1 + r.val / 16384, by have := r.isLt; omega⟩ : Fin 8) (by
      show 1 + r.val / 16384 = _; rw [hr, hu]; omega)).trans ?_
    unfold part
    exact congrArg (m ((c : Thread nD τ).loc main_arg1)) (congrArg (ix3 _ _) (Fin.ext (Nat.zero_add _).symm))
  · exact funext fun l => mods_in m c (first t) _ (⟨1 + r.val / 16384, by have := r.isLt; omega⟩ : Fin 8) (by
      show 1 + r.val / 16384 = _; rw [hr, hu]; omega)

/-- An entry of the first output's buffer. -/
theorem zAt_apply (c : Dev nD) (t : Fin cfg0.N) (i j : Fin 1024) (r : Fin 32768) (hr : r.val = 1024 * (t.val / 13) + i.val)
    (f : Fin 13312) (hf : f.val = 1024 * min (t.val % 13) 6 + j.val) : zAt m c t (ix2 i j) = prod m c r f := by
  unfold zAt
  refine (zOut_apply _ _ i j).trans (congrArg₂ proj (funext fun k => rowsAt_apply m c t i k r hr) (funext fun k => ?_))
  exact weight_in m c (lastZ t) k j f (by
    rw [hf]
    show _ = 1024 * ((13 * (t.val / 13) + min (t.val % 13) 6) % 13) + j.val
    omega)

/-- An entry of the second's. -/
theorem zmAt_apply (c : Dev nD) (t : Fin cfg0.N) (i j : Fin 1024) (r : Fin 32768) (hr : r.val = 1024 * (t.val / 13) + i.val)
    (f : Fin 13312) (hf : f.val = 1024 * (t.val % 13) + j.val) : zmAt m c t (ix2 i j) = Ideal.logistic (prod m c r f) := by
  unfold zmAt
  refine (zmOut_apply _ _ i j).trans (congrArg Ideal.logistic (congrArg₂ proj (funext fun k => rowsAt_apply m c t i k r hr) (funext fun k => ?_)))
  exact weight_in m c t k j f hf

/-! ## The final arrays -/

/-- The index of window 4's moved block at point `t`. -/
def spot4 (t : Fin cfg0.N) (i j : Fin 1024) : ((cfg0.win 4).xblock (cfg0.grid.coords t)).Idx := fun a => match a with
  | ⟨0, _⟩ => ⟨i.val, lt_of_lt_of_eq i.isLt (xsize4 t 0).symm⟩
  | ⟨1, _⟩ => ⟨j.val, lt_of_lt_of_eq j.isLt (xsize4 t 1).symm⟩

/-- The index of window 5's. -/
def spot5 (t : Fin cfg0.N) (i j : Fin 1024) : ((cfg0.win 5).xblock (cfg0.grid.coords t)).Idx := fun a => match a with
  | ⟨0, _⟩ => ⟨i.val, lt_of_lt_of_eq i.isLt (xsize5 t 0).symm⟩
  | ⟨1, _⟩ => ⟨j.val, lt_of_lt_of_eq j.isLt (xsize5 t 1).symm⟩

/-- **An entry of the first final array, in a row below 32768.** -/
theorem first_apply (c : Dev nD) (r : Fin 32768) (r' : Fin 33280) (hr' : r'.val = r.val) (e : Fin 7168) (f : Fin 13312) (hf : f.val = e.val) :
    (dats m 0 c).arrAt 4 cfg0.N (ix2 r' e) = prod m c r f := by
  have hr := r.isLt
  have he := e.isLt
  let t : Fin cfg0.N := ⟨13 * (r.val / 1024) + (if e.val / 1024 < 6 then e.val / 1024 else 12),
    lt_of_lt_of_eq (show _ < 416 by split <;> omega) N_0.symm⟩
  have htv : t.val = 13 * (r.val / 1024) + (if e.val / 1024 < 6 then e.val / 1024 else 12) := rfl
  have htq : t.val / 13 = r.val / 1024 := by rw [htv]; split <;> omega
  have htm : min (t.val % 13) 6 = e.val / 1024 := by rw [htv]; split <;> omega
  have htf : t.val % 13 < 6 ∨ t.val % 13 = 12 := by rw [htv]; split <;> omega
  let i : Fin 1024 := ⟨r.val % 1024, by omega⟩
  let j : Fin 1024 := ⟨e.val % 1024, by omega⟩
  have hw : (cfg0.win 4).flush t = true := (flush4 t).trans (decide_eq_true htf)
  have h := congrFun ((dats m 0 c).read_blk_arrAt_eq_flushed 4 disjoint4 cfg0.N t t.isLt hw) (spot4 t i j)
  have hs : ((cfg0.win 4).blk t).view.emb (spot4 t i j) = ix2 r' e := by
    funext a
    match a with
    | ⟨0, _⟩ =>
      refine Fin.ext ?_
      show win0_4.index t 0 * 1024 + 1 * (r.val % 1024) = r'.val
      rw [(index4 t).1, htq, hr']; omega
    | ⟨1, _⟩ =>
      refine Fin.ext ?_
      show win0_4.index t 1 * 1024 + 1 * (e.val % 1024) = e.val
      rw [(index4 t).2, htm]; omega
  have hx : (cfg0.win 4).xinj (cfg0.grid.coords t) (spot4 t i j) = ix2 i j := by
    funext a
    match a with
    | ⟨0, _⟩ => rfl
    | ⟨1, _⟩ => rfl
  refine (congrArg ((dats m 0 c).arrAt 4 cfg0.N) hs.symm).trans (h.trans ?_)
  show (dats m 0 c).after 4 t ((cfg0.win 4).xinj (cfg0.grid.coords t) (spot4 t i j)) = _
  rw [after4, hx]
  refine zAt_apply m c t i j r ?_ f ?_
  · rw [htq]; show r.val = 1024 * (r.val / 1024) + r.val % 1024; omega
  · rw [htm, hf]; show e.val = 1024 * (e.val / 1024) + e.val % 1024; omega

/-- **An entry of the second, in a row below 32768.** -/
theorem second_apply (c : Dev nD) (r : Fin 32768) (r' : Fin 33280) (hr' : r'.val = r.val) (e : Fin 6144) (f : Fin 13312)
    (hf : f.val = 7168 + e.val) : (dats m 0 c).arrAt 5 cfg0.N (ix2 r' e) = Ideal.logistic (prod m c r f) := by
  have hr := r.isLt
  have he := e.isLt
  let t : Fin cfg0.N := ⟨13 * (r.val / 1024) + (7 + e.val / 1024), lt_of_lt_of_eq (show _ < 416 by omega) N_0.symm⟩
  have htv : t.val = 13 * (r.val / 1024) + (7 + e.val / 1024) := rfl
  have htq : t.val / 13 = r.val / 1024 := by omega
  have htm : t.val % 13 = 7 + e.val / 1024 := by omega
  let i : Fin 1024 := ⟨r.val % 1024, by omega⟩
  let j : Fin 1024 := ⟨e.val % 1024, by omega⟩
  have hw : (cfg0.win 5).flush t = true := (flush5 t).trans (decide_eq_true (by omega))
  have h := congrFun ((dats m 0 c).read_blk_arrAt_eq_flushed 5 disjoint5 cfg0.N t t.isLt hw) (spot5 t i j)
  have hs : ((cfg0.win 5).blk t).view.emb (spot5 t i j) = ix2 r' e := by
    funext a
    match a with
    | ⟨0, _⟩ =>
      refine Fin.ext ?_
      show win0_5.index t 0 * 1024 + 1 * (r.val % 1024) = r'.val
      rw [(index5 t).1, htq, hr']; omega
    | ⟨1, _⟩ =>
      refine Fin.ext ?_
      show win0_5.index t 1 * 1024 + 1 * (e.val % 1024) = e.val
      rw [(index5 t).2, htm]; omega
  have hx : (cfg0.win 5).xinj (cfg0.grid.coords t) (spot5 t i j) = ix2 i j := by
    funext a
    match a with
    | ⟨0, _⟩ => rfl
    | ⟨1, _⟩ => rfl
  refine (congrArg ((dats m 0 c).arrAt 5 cfg0.N) hs.symm).trans (h.trans ?_)
  show (dats m 0 c).after 5 t ((cfg0.win 5).xinj (cfg0.grid.coords t) (spot5 t i j)) = _
  rw [after5, hx]
  refine zmAt_apply m c t i j r ?_ f ?_
  · rw [htq]; show r.val = 1024 * (r.val / 1024) + r.val % 1024; omega
  · rw [htm, hf]; show 7168 + e.val = 1024 * (7 + e.val / 1024) + e.val % 1024; omega

end Cert.Kernel3Ideal.Hand
-- ==== Proof.InProjReference.lean ====
module

public import proofs.«01_k».proof.Proof.MlpReference
public import proofs.«01_k».proof.Proof.Gen.Reference3Ideal.Run
public import proofs.«01_k».proof.Proof.Gen.Reference3Ideal.Read
public import Idealize.ShloMosaic.Lib.KernelVsHost
public import Idealize.ShloMosaic.Lib.IdealHost

/-! # What the input projection's reference computes

Row `r` of its first result is row `r`, normalised and modulated for sequence `r / 16384`, times the weight's first 7168
columns; row `r` of the second is the logistic function of the same row's product with the other columns. The
normalisation is the MLP reference's, operation by operation, so its entries are read there. -/

@[expose] public section

set_option maxRecDepth 16384

noncomputable section

namespace Cert.Reference3Ideal.Hand

open Cert.Reference3Ideal Cert.Reference3Ideal.Gen Cert.Reference3Ideal.Read Cert.Rows
open Cert.Reference2Ideal.Hand (part at')
open Idealize.ShloMosaic Idealize.ShloMosaic.ValueIdx
open scoped BigOperators

variable (x0 : (⟨S32768x2048, .f32⟩ : BufTy).Contents (Elt Ideal)) (x1 : (⟨S8x1x12288, .f32⟩ : BufTy).Contents (Elt Ideal))
  (x2 : (⟨S2048, .f32⟩ : BufTy).Contents (Elt Ideal)) (x3 : (⟨S2048x13312, .bf16⟩ : BufTy).Contents (Elt Ideal))

/-- A sequence's rows. -/
theorem input_apply (b : Fin 2) (i : Fin 16384) (j : Fin 2048) : val_main_v7 (F := Ideal) x0 (ix3 b i j) = x0 (ix2 (at' b i) j) :=
  (congrFun (show val_main_v7 (F := Ideal) x0 = Cert.Reference2Ideal.Read.val_main_v0 (F := Ideal) x0 from rfl) _).trans
    (Cert.Reference2Ideal.Hand.input_apply x0 b i j)

/-- The factor of the normalisation. -/
theorem factor_apply (b : Fin 2) (i : Fin 16384) (j : Fin 2048) :
    val_main_v16 (F := Ideal) x0 (ix3 b i j)
      = Ideal.rsqrt (Ideal.div (∑ k, x0 (ix2 (at' b i) k) * x0 (ix2 (at' b i) k)) (Ideal.ofBits .f32 0x45000000#32)
        + Ideal.ofBits .f32 0x358637BD#32) :=
  (congrFun (show val_main_v16 (F := Ideal) x0 = Cert.Reference2Ideal.Read.val_main_v16 (F := Ideal) x0 from rfl) _).trans
    (Cert.Reference2Ideal.Hand.factor_apply x0 b i j)

/-- The shift, -/
theorem shift_apply (b : Fin 2) (i : Fin 16384) (j : Fin 2048) :
    val_main_v25 (F := Ideal) x1 (ix3 b i j) = part x1 0 (by omega) b j := by
  rw [val_main_v25_apply, val_main_v1_apply, val_main_v0_apply]
  refine congrArg x1 (funext fun a => Fin.ext ?_)
  match a with
  | ⟨0, _⟩ => rfl
  | ⟨1, _⟩ => rfl
  | ⟨2, _⟩ => exact (Nat.zero_add _).symm

/-- and one plus the scale. -/
theorem scale_apply (b : Fin 2) (i : Fin 16384) (j : Fin 2048) :
    val_main_v23 (F := Ideal) x1 (ix3 b i j) = Ideal.ofBits .f32 0x3F800000#32 + part x1 2048 (by omega) b j := by
  rw [val_main_v23_apply, val_main_v22_apply, val_main_v21_apply, val_main_v2_apply, val_main_v0_apply]
  refine congrArg (Ideal.ofBits .f32 0x3F800000#32 + ·) (congrArg x1 (funext fun a => Fin.ext ?_))
  match a with
  | ⟨0, _⟩ => rfl
  | ⟨1, _⟩ => rfl
  | ⟨2, _⟩ => rfl

/-- The modulated rows. -/
theorem rows_apply (b : Fin 2) (i : Fin 16384) (j : Fin 2048) :
    val_main_v26 (F := Ideal) x0 x1 x2 (ix3 b i j)
      = modulated (fun k => x0 (ix2 (at' b i) k)) (fun k => x2 (ix1 k)) (part x1 0 (by omega) b) (part x1 2048 (by omega) b) j := by
  rw [val_main_v26_apply, val_main_v24_apply, val_main_v20_apply, val_main_v17_apply, input_apply, factor_apply, shift_apply,
    scale_apply, val_main_v19_apply, val_main_v18_apply]
  have hx : x2 (idx_main_v18 (idx_main_v19 (ix3 b i j))) = x2 (ix1 j) := congrArg x2 (funext fun a => by
    match a with
    | ⟨0, _⟩ => rfl)
  rw [hx]
  rfl

/-- An entry of the product: row `16384 b + i`, column `e`. -/
theorem product_apply (b : Fin 2) (i : Fin 16384) (e : Fin 13312) :
    val_main_v29 (F := Ideal) x0 x1 x2 x3 (ix2 (at' b i) e)
      = proj (modulated (fun k => x0 (ix2 (at' b i) k)) (fun k => x2 (ix1 k)) (part x1 0 (by omega) b) (part x1 2048 (by omega) b))
        (fun k => x3 (ix2 k e)) := by
  have hb := b.isLt
  have hi := i.isLt
  have he := e.isLt
  have hx : idx_main_v29 (ix2 (at' b i) e) = ix3 b i e := by
    refine funext fun a => Fin.ext ?_
    match a with
    | ⟨0, _⟩ =>
      show ((16384 * b.val + i.val) * 13312 + e.val) / 218103808 = b.val
      omega
    | ⟨1, _⟩ =>
      show ((16384 * b.val + i.val) * 13312 + e.val) / 13312 % 16384 = i.val
      omega
    | ⟨2, _⟩ =>
      show ((16384 * b.val + i.val) * 13312 + e.val) % 13312 = e.val
      omega
  rw [val_main_v29_apply, hx, val_main_v28_apply]
  refine Finset.sum_congr rfl fun k _ => ?_
  rw [show lidx_main_v28 (ix3 b i e) k = ix3 b i k from by
    funext a
    match a with
    | ⟨0, _⟩ => rfl
    | ⟨1, _⟩ => rfl
    | ⟨2, _⟩ => rfl, rows_apply]
  refine congrArg (modulated _ _ _ _ k * ·) (congrArg x3 (funext fun a => ?_))
  match a with
  | ⟨0, _⟩ => rfl
  | ⟨1, _⟩ => rfl

/-- **An entry of the first result, in a row below 32768.** -/
theorem first_apply (b : Fin 2) (i : Fin 16384) (e : Fin 7168) (r : Fin 33280) (hr : r.val = (at' b i).val) (f : Fin 13312) (hf : f.val = e.val) :
    val_main_v39 (F := Ideal) x0 x1 x2 x3 (ix2 r e)
      = proj (modulated (fun k => x0 (ix2 (at' b i) k)) (fun k => x2 (ix1 k)) (part x1 0 (by omega) b) (part x1 2048 (by omega) b))
        (fun k => x3 (ix2 k f)) := by
  unfold val_main_v39
  refine (pad_apply_of_inside _ _ _ _ _ _ _ _ (ix2 (at' b i) e) fun a => ?_).trans ?_
  · match a with
    | ⟨0, _⟩ => exact hr.trans (by show (at' b i).val = 0 + (at' b i).val * 1; omega)
    | ⟨1, _⟩ => show e.val = 0 + e.val * 1; omega
  · rw [val_main_v38_apply, ← product_apply]
    refine congrArg _ (funext fun a => Fin.ext ?_)
    match a with
    | ⟨0, _⟩ => rfl
    | ⟨1, _⟩ => exact hf.symm

/-- **An entry of the second, in a row below 32768.** -/
theorem second_apply (b : Fin 2) (i : Fin 16384) (e : Fin 6144) (r : Fin 33280) (hr : r.val = (at' b i).val) (f : Fin 13312) (hf : f.val = 7168 + e.val) :
    val_main_v40 (F := Ideal) x0 x1 x2 x3 (ix2 r e)
      = Ideal.logistic (proj (modulated (fun k => x0 (ix2 (at' b i) k)) (fun k => x2 (ix1 k)) (part x1 0 (by omega) b) (part x1 2048 (by omega) b))
        (fun k => x3 (ix2 k f))) := by
  unfold val_main_v40
  refine (pad_apply_of_inside _ _ _ _ _ _ _ _ (ix2 (at' b i) e) fun a => ?_).trans ?_
  · match a with
    | ⟨0, _⟩ => exact hr.trans (by show (at' b i).val = 0 + (at' b i).val * 1; omega)
    | ⟨1, _⟩ => show e.val = 0 + e.val * 1; omega
  · have h30 : val_main_v30 (F := Ideal) x0 x1 x2 x3 (ix2 (at' b i) e) = val_main_v29 (F := Ideal) x0 x1 x2 x3 (ix2 (at' b i) f) := by
      rw [val_main_v30_apply]
      refine congrArg _ (funext fun a => Fin.ext ?_)
      match a with
      | ⟨0, _⟩ => rfl
      | ⟨1, _⟩ => exact hf.symm
    have h1 : Ideal.ofBits .f32 0x3F800000#32 = (1 : EReal) := Ideal.ofBits_one_f32
    rw [val_main_v37_apply, val_main_v36_apply, val_main_v34_apply, val_main_v32_apply, val_main_v31_apply, h30, ← product_apply]
    show Ideal.div (Ideal.ofBits .f32 0x3F800000#32) (Ideal.ofBits .f32 0x3F800000#32 + Ideal.exp (-_)) = Ideal.div 1 (1 + Ideal.exp (-_))
    rw [h1]

end Cert.Reference3Ideal.Hand
-- ==== Proof.InProjClaim.lean ====
module

public import proofs.«01_k».proof.Defs
public import proofs.«01_k».proof.Proof.InProjArray
public import proofs.«01_k».proof.Proof.InProjReference
public import proofs.«01_k».proof.Proof.Gen.On_latent_rows3
public import Idealize.ShloMosaic.Lib.WordCmp

/-! # The input projection call and its reference agree

In every row below 32768, which are the rows the call writes, an entry of either result is the same function of one row
of `x`, its sequence's modulation, the gain and one column of the weight. No precondition is needed. -/

@[expose] public section

set_option maxRecDepth 16384

noncomputable section

namespace Cert.InProj

open Idealize.ShloMosaic Idealize.ShloMosaic.TcCoe Idealize.ShloMosaic.ValueIdx
open Idealize.SL.Sem
open scoped BigOperators

/-- A row number compared with 32768 as the masks do. -/
theorem row_lt (n : ℕ) (hn : n < 33280) (h : IntOp.cmpi .slt (BitVec.ofNat 32 n) (BitVec.ofNat 32 32768) = 1#1) : n < 32768 := by
  rw [WordCmp.cmpi_slt_ofNat (by omega) (by omega)] at h
  by_contra hc
  simp [hc] at h

section
variable (x0 : FVec Ideal On_latent_rows3.S32768x2048 .f32) (x1 : FVec Ideal On_latent_rows3.S8x1x12288 .f32)
  (x2 : FVec Ideal On_latent_rows3.S2048 .f32) (x3 : FVec Ideal On_latent_rows3.S2048x13312 .bf16)

/-- The first mask is set at the rows below 32768, -/
theorem mask_first (i : (⟨2, ![33280, 7168]⟩ : Shape).Idx) (h : (Cert.On_latent_rows3.fn (F := Ideal) x0 x1 x2 x3).1 i = 1#1) :
    (i 0).val < 32768 :=
  row_lt (i 0).val (i 0).isLt h

/-- and so is the second. -/
theorem mask_second (i : (⟨2, ![33280, 6144]⟩ : Shape).Idx) (h : (Cert.On_latent_rows3.fn (F := Ideal) x0 x1 x2 x3).2 i = 1#1) :
    (i 0).val < 32768 :=
  row_lt (i 0).val (i 0).isLt h

end

section
open Cert.Kernel3Ideal Cert.Kernel3Ideal.Gen
variable (m : (ℓ : Loc Cert.Kernel3Ideal.nD Cert.Kernel3Ideal.τ Cert.Kernel3Ideal.sig) → Buf (Elt Ideal) ℓ) (c : Dev Cert.Kernel3Ideal.nD)

/-- A row below 32768 of the first final array is the reference's, -/
theorem first_eq (r : Fin 33280) (e : Fin 7168) (hr : r.val < 32768) :
    (Cert.Kernel3Ideal.Hand.dats m 0 c).arrAt 4 cfg0.N (ix2 r e)
      = Cert.Reference3Ideal.Read.val_main_v39 (F := Ideal) (m ((c.tc : Thread nD τ).loc main_arg0)) (m ((c.tc : Thread nD τ).loc main_arg1))
          (m ((c.tc : Thread nD τ).loc main_arg2)) (m ((c.tc : Thread nD τ).loc main_arg3)) (ix2 r e) := by
  have he := e.isLt
  let b : Fin 2 := ⟨r.val / 16384, by omega⟩
  let p : Fin 16384 := ⟨r.val % 16384, by omega⟩
  have hp : (⟨r.val, hr⟩ : Fin 32768) = Cert.Reference2Ideal.Hand.at' b p :=
    Fin.ext (by show r.val = 16384 * (r.val / 16384) + r.val % 16384; omega)
  rw [Cert.Kernel3Ideal.Hand.first_apply m c ⟨r.val, hr⟩ r rfl e ⟨e.val, by omega⟩ rfl,
    Cert.Reference3Ideal.Hand.first_apply _ _ _ _ b p e r (congrArg Fin.val hp) ⟨e.val, by omega⟩ rfl, ← hp]
  rfl

/-- and so is one of the second. -/
theorem second_eq (r : Fin 33280) (e : Fin 6144) (hr : r.val < 32768) :
    (Cert.Kernel3Ideal.Hand.dats m 0 c).arrAt 5 cfg0.N (ix2 r e)
      = Cert.Reference3Ideal.Read.val_main_v40 (F := Ideal) (m ((c.tc : Thread nD τ).loc main_arg0)) (m ((c.tc : Thread nD τ).loc main_arg1))
          (m ((c.tc : Thread nD τ).loc main_arg2)) (m ((c.tc : Thread nD τ).loc main_arg3)) (ix2 r e) := by
  have he := e.isLt
  let b : Fin 2 := ⟨r.val / 16384, by omega⟩
  let p : Fin 16384 := ⟨r.val % 16384, by omega⟩
  have hp : (⟨r.val, hr⟩ : Fin 32768) = Cert.Reference2Ideal.Hand.at' b p :=
    Fin.ext (by show r.val = 16384 * (r.val / 16384) + r.val % 16384; omega)
  rw [Cert.Kernel3Ideal.Hand.second_apply m c ⟨r.val, hr⟩ r rfl e ⟨7168 + e.val, by omega⟩ rfl,
    Cert.Reference3Ideal.Hand.second_apply _ _ _ _ b p e r (congrArg Fin.val hp) ⟨7168 + e.val, by omega⟩ rfl, ← hp]
  rfl

end

/-- An index of a two-axis array is its two coordinates. -/
theorem pair_eq {a b : ℕ} (i : (⟨2, ![a, b]⟩ : Shape).Idx) : i = ix2 (i 0) (i 1) := by
  funext d
  match d with
  | ⟨0, _⟩ => rfl
  | ⟨1, _⟩ => rfl

open Cert.Kernel3Ideal Cert.Kernel3Ideal.Gen in
/-- **The input projection claim.** -/
theorem algebraic : Cert.algebraic_Kernel3Ideal_Reference3Ideal_on_latent_rows3 := by
  intro m g m' g' hpre heq
  refine ⟨fun c => (Cert.Kernel3Ideal.Hand.dats m 0 c).arrAt 4 cfg0.N, fun c => (Cert.Kernel3Ideal.Hand.dats m 0 c).arrAt 5 cfg0.N, ?_, ?_⟩
  · refine (θ_run _ _ _).mono (fun r h c => ⟨fun i _ => congrFun ((h.1 c).1 4) i, fun i _ => congrFun ((h.1 c).1 5) i, h.2.1 c⟩)
      (θ_run_and (Cert.Kernel3Ideal.Hand.run_main m g) (Cert.Kernel3Ideal.Hand.frame m g))
  · refine (θ_run _ _ _).mono (fun r h c => ⟨fun i hi => ?_, fun i hi => ?_, (h c).2.2⟩) (Cert.Reference3Ideal.Value.run (F := Ideal) m' g')
    · obtain ⟨e0, e1, e2, e3⟩ := heq c
      have hrow := mask_first _ _ _ _ i hi
      rw [(h c).1, Cert.Reference3Ideal.Read.val_main_v39_eq, e0, e1, e2, e3, pair_eq i]
      exact (first_eq m c (i 0) (i 1) hrow).symm
    · obtain ⟨e0, e1, e2, e3⟩ := heq c
      have hrow := mask_second _ _ _ _ i hi
      rw [(h c).2.1, Cert.Reference3Ideal.Read.val_main_v40_eq, e0, e1, e2, e3, pair_eq i]
      exact (second_eq m c (i 0) (i 1) hrow).symm

end Cert.InProj
-- ==== Proof.MergeArray.lean ====
module

public import proofs.«01_k».proof.Proof.Gen.Kernel4Ideal.Value
public import Idealize.ShloMosaic.Lib.MatmulPlain
public import Idealize.ShloMosaic.Lib.ValueLayout
public import Idealize.ShloMosaic.Lib.Pipeline.Value
public import Idealize.ShloMosaic.Lib.Pipeline.ValueKit.Tiles

/-! # The merge call's final array

Grid point `64 n + q` works on row block `q` (512 rows) and column block `n` (1024 columns): it writes the sum over the
three branches of the gate times the branch's product with its weight. -/

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.ValueIdx
open Idealize.SL.Sem
open scoped BigOperators

variable (m : (ℓ : Loc nD τ sig) → Buf (Elt Ideal) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- One branch's product, entry by entry. -/
theorem product_apply (y : Vec Ideal S512x1024 .bf16) (w : Vec Ideal S1x1024x1024 .bf16) (i : Fin 512) (j : Fin 1024) :
    matmul (F := Ideal) (φ₁ := .bf16) (φ₂ := .bf16) dot_S512x1024_S1024x1024_S512x1024_1_0_0_1_n_n none y
      (shapeCast S1024x1024 w shapeCasts_S1x1024x1024_S1024x1024) (constant S512x1024 .f32 0x00000000#32) (ix2 i j)
      = ∑ k : Fin 1024, y (ix2 i k) * w (ix3 0 k j) := by
  refine (Ideal.matmul_plain_apply none y _ _ i j).trans ?_
  have h0 : (constant (F := Ideal) S512x1024 .f32 0x00000000#32) (ix2 i j) = (0 : EReal) := Ideal.ofBits_zero_f32
  rw [h0, zero_add]
  exact Finset.sum_congr rfl fun k _ => congrArg (y (ix2 i k) * ·) (shapeCast_1ab_ab_apply w _ k j)

/-- The block the body leaves, entry by entry. -/
theorem block_apply (x0 x1 x2 x3 x4 x5 : Vec Ideal S512x1024 .bf16) (x6 x7 x8 : Vec Ideal S1x1024x1024 .bf16) (i : Fin 512) (j : Fin 1024) :
    out0_9 x0 x1 x2 x3 x4 x5 x6 x7 x8 (ix2 i j)
      = x3 (ix2 i j) * (∑ k : Fin 1024, x0 (ix2 i k) * x6 (ix3 0 k j)) + x4 (ix2 i j) * (∑ k : Fin 1024, x1 (ix2 i k) * x7 (ix3 0 k j))
        + x5 (ix2 i j) * ∑ k : Fin 1024, x2 (ix2 i k) * x8 (ix3 0 k j) := by
  have h : out0_9 x0 x1 x2 x3 x4 x5 x6 x7 x8 = k0_pay1 x3 x0 x6 x4 x1 x7 x5 x2 x8 := by
    unfold out0_9
    rw [View.canon_unit_zero zeros2]
    simp only [View.ld_unit_zero (S := S512x1024) zeros2, View.ld_unit_zero (S := S1x1024x1024) zeros3]
  rw [h]
  unfold k0_pay1
  exact congrArg₂ (· + ·) (congrArg₂ (· + ·) (congrArg (x3 (ix2 i j) * ·) (product_apply x0 x6 i j)) (congrArg (x4 (ix2 i j) * ·) (product_apply x1 x7 i j)))
    (congrArg (x5 (ix2 i j) * ·) (product_apply x2 x8 i j))

/-! ## Which block a point works on -/

theorem index0 : ∀ t : Fin cfg0.N, win0_0.index t 0 = t.val % 64 ∧ win0_0.index t 1 = 0 :=
  (by decide +kernel : ∀ t : Fin grid0.N, win0_0.index t 0 = t.val % 64 ∧ win0_0.index t 1 = 0)

theorem index1 : ∀ t : Fin cfg0.N, win0_1.index t 0 = t.val % 64 ∧ win0_1.index t 1 = 0 :=
  (by decide +kernel : ∀ t : Fin grid0.N, win0_1.index t 0 = t.val % 64 ∧ win0_1.index t 1 = 0)

theorem index2 : ∀ t : Fin cfg0.N, win0_2.index t 0 = t.val % 64 ∧ win0_2.index t 1 = 0 :=
  (by decide +kernel : ∀ t : Fin grid0.N, win0_2.index t 0 = t.val % 64 ∧ win0_2.index t 1 = 0)

theorem index3 : ∀ t : Fin cfg0.N, win0_3.index t 0 = t.val % 64 ∧ win0_3.index t 1 = t.val / 64 :=
  (by decide +kernel : ∀ t : Fin grid0.N, win0_3.index t 0 = t.val % 64 ∧ win0_3.index t 1 = t.val / 64)

theorem index4 : ∀ t : Fin cfg0.N, win0_4.index t 0 = t.val % 64 ∧ win0_4.index t 1 = 2 + t.val / 64 :=
  (by decide +kernel : ∀ t : Fin grid0.N, win0_4.index t 0 = t.val % 64 ∧ win0_4.index t 1 = 2 + t.val / 64)

theorem index5 : ∀ t : Fin cfg0.N, win0_5.index t 0 = t.val % 64 ∧ win0_5.index t 1 = 4 + t.val / 64 :=
  (by decide +kernel : ∀ t : Fin grid0.N, win0_5.index t 0 = t.val % 64 ∧ win0_5.index t 1 = 4 + t.val / 64)

theorem index6 : ∀ t : Fin cfg0.N, win0_6.index t 0 = 0 ∧ win0_6.index t 1 = 0 ∧ win0_6.index t 2 = t.val / 64 :=
  (by decide +kernel : ∀ t : Fin grid0.N, win0_6.index t 0 = 0 ∧ win0_6.index t 1 = 0 ∧ win0_6.index t 2 = t.val / 64)

theorem index7 : ∀ t : Fin cfg0.N, win0_7.index t 0 = 1 ∧ win0_7.index t 1 = 0 ∧ win0_7.index t 2 = t.val / 64 :=
  (by decide +kernel : ∀ t : Fin grid0.N, win0_7.index t 0 = 1 ∧ win0_7.index t 1 = 0 ∧ win0_7.index t 2 = t.val / 64)

theorem index8 : ∀ t : Fin cfg0.N, win0_8.index t 0 = 2 ∧ win0_8.index t 1 = 0 ∧ win0_8.index t 2 = t.val / 64 :=
  (by decide +kernel : ∀ t : Fin grid0.N, win0_8.index t 0 = 2 ∧ win0_8.index t 1 = 0 ∧ win0_8.index t 2 = t.val / 64)

theorem index9 : ∀ t : Fin cfg0.N, win0_9.index t 0 = t.val % 64 ∧ win0_9.index t 1 = t.val / 64 :=
  (by decide +kernel : ∀ t : Fin grid0.N, win0_9.index t 0 = t.val % 64 ∧ win0_9.index t 1 = t.val / 64)

/-- Every point writes its block back, -/
theorem flush9 : ∀ t : Fin cfg0.N, (cfg0.win 9).flush t = true :=
  (by decide +kernel : ∀ t : Fin grid0.N, win0_9.flush t = true)

/-- all of it. -/
theorem xsize9 : ∀ t : Fin cfg0.N, ∀ a, (cfg0.win 9).xsize (cfg0.grid.coords t) a = (cfg0.win 9).size a := by decide +kernel

/-! ## The blocks read -/

/-- Where entry `(i, k)` of a block of `r0 × r1` entries lies, for the block's two indices. -/
theorem spot_eq {a b : ℕ} {x y : Shape.Idx (⟨2, ![a, b]⟩ : Shape)} (h0 : (x 0).val = (y 0).val) (h1 : (x 1).val = (y 1).val) : x = y := by
  funext d
  match d with
  | ⟨0, _⟩ => exact Fin.ext h0
  | ⟨1, _⟩ => exact Fin.ext h1

theorem spot3_eq {a b e : ℕ} {x y : Shape.Idx (⟨3, ![a, b, e]⟩ : Shape)} (h0 : (x 0).val = (y 0).val) (h1 : (x 1).val = (y 1).val)
    (h2 : (x 2).val = (y 2).val) : x = y := by
  funext d
  match d with
  | ⟨0, _⟩ => exact Fin.ext h0
  | ⟨1, _⟩ => exact Fin.ext h1
  | ⟨2, _⟩ => exact Fin.ext h2

section
variable (c : Dev nD) (t : Fin cfg0.N)

theorem first_in (i : Fin 512) (k : Fin 1024) (r : Fin 33280) (hr : r.val = 512 * (t.val % 64) + i.val) :
    iblk m c 0 t (ix2 i k) = m ((c : Thread nD τ).loc main_arg0) (ix2 r k) := by
  refine (congrArg (V m c main_arg0) (spot_eq ?_ ?_)).trans (congrFun (V_main_arg0 m c) _)
  · show win0_0.index t 0 * 512 + 1 * i.val = r.val
    rw [(index0 t).1, hr]; omega
  · show win0_0.index t 1 * 1024 + 1 * k.val = k.val
    rw [(index0 t).2]; omega

theorem second_in (i : Fin 512) (k : Fin 1024) (r : Fin 32768) (hr : r.val = 512 * (t.val % 64) + i.val) :
    iblk m c 1 t (ix2 i k) = m ((c : Thread nD τ).loc main_arg1) (ix2 r k) := by
  refine (congrArg (V m c main_arg1) (spot_eq ?_ ?_)).trans (congrFun (V_main_arg1 m c) _)
  · show win0_1.index t 0 * 512 + 1 * i.val = r.val
    rw [(index1 t).1, hr]; omega
  · show win0_1.index t 1 * 1024 + 1 * k.val = k.val
    rw [(index1 t).2]; omega

theorem third_in (i : Fin 512) (k : Fin 1024) (r : Fin 32768) (hr : r.val = 512 * (t.val % 64) + i.val) :
    iblk m c 2 t (ix2 i k) = m ((c : Thread nD τ).loc main_arg2) (ix2 r k) := by
  refine (congrArg (V m c main_arg2) (spot_eq ?_ ?_)).trans (congrFun (V_main_arg2 m c) _)
  · show win0_2.index t 0 * 512 + 1 * i.val = r.val
    rw [(index2 t).1, hr]; omega
  · show win0_2.index t 1 * 1024 + 1 * k.val = k.val
    rw [(index2 t).2]; omega

theorem gate0_in (i : Fin 512) (j : Fin 1024) (r : Fin 33280) (hr : r.val = 512 * (t.val % 64) + i.val) (l : Fin 6144)
    (hl : l.val = 1024 * (t.val / 64) + j.val) : iblk m c 3 t (ix2 i j) = m ((c : Thread nD τ).loc main_arg3) (ix2 r l) := by
  refine (congrArg (V m c main_arg3) (spot_eq ?_ ?_)).trans (congrFun (V_main_arg3 m c) _)
  · show win0_3.index t 0 * 512 + 1 * i.val = r.val
    rw [(index3 t).1, hr]; omega
  · show win0_3.index t 1 * 1024 + 1 * j.val = l.val
    rw [(index3 t).2, hl]; omega

theorem gate1_in (i : Fin 512) (j : Fin 1024) (r : Fin 33280) (hr : r.val = 512 * (t.val % 64) + i.val) (l : Fin 6144)
    (hl : l.val = 2048 + 1024 * (t.val / 64) + j.val) : iblk m c 4 t (ix2 i j) = m ((c : Thread nD τ).loc main_arg3) (ix2 r l) := by
  refine (congrArg (V m c main_arg3) (spot_eq ?_ ?_)).trans (congrFun (V_main_arg3 m c) _)
  · show win0_4.index t 0 * 512 + 1 * i.val = r.val
    rw [(index4 t).1, hr]; omega
  · show win0_4.index t 1 * 1024 + 1 * j.val = l.val
    rw [(index4 t).2, hl]; omega

theorem gate2_in (i : Fin 512) (j : Fin 1024) (r : Fin 33280) (hr : r.val = 512 * (t.val % 64) + i.val) (l : Fin 6144)
    (hl : l.val = 4096 + 1024 * (t.val / 64) + j.val) : iblk m c 5 t (ix2 i j) = m ((c : Thread nD τ).loc main_arg3) (ix2 r l) := by
  refine (congrArg (V m c main_arg3) (spot_eq ?_ ?_)).trans (congrFun (V_main_arg3 m c) _)
  · show win0_5.index t 0 * 512 + 1 * i.val = r.val
    rw [(index5 t).1, hr]; omega
  · show win0_5.index t 1 * 1024 + 1 * j.val = l.val
    rw [(index5 t).2, hl]; omega

theorem weight0_in (k j : Fin 1024) (l : Fin 2048) (hl : l.val = 1024 * (t.val / 64) + j.val) :
    iblk m c 6 t (ix3 (0 : Fin 1) k j) = m ((c : Thread nD τ).loc main_arg4) (ix3 (0 : Fin 3) k l) := by
  refine (congrArg (V m c main_arg4) (spot3_eq ?_ ?_ ?_)).trans (congrFun (V_main_arg4 m c) _)
  · show win0_6.index t 0 * 1 + 1 * 0 = 0
    rw [(index6 t).1]
  · show win0_6.index t 1 * 1024 + 1 * k.val = k.val
    rw [(index6 t).2.1]; omega
  · show win0_6.index t 2 * 1024 + 1 * j.val = l.val
    rw [(index6 t).2.2, hl]; omega

theorem weight1_in (k j : Fin 1024) (l : Fin 2048) (hl : l.val = 1024 * (t.val / 64) + j.val) :
    iblk m c 7 t (ix3 (0 : Fin 1) k j) = m ((c : Thread nD τ).loc main_arg4) (ix3 (1 : Fin 3) k l) := by
  refine (congrArg (V m c main_arg4) (spot3_eq ?_ ?_ ?_)).trans (congrFun (V_main_arg4 m c) _)
  · show win0_7.index t 0 * 1 + 1 * 0 = 1
    rw [(index7 t).1]
  · show win0_7.index t 1 * 1024 + 1 * k.val = k.val
    rw [(index7 t).2.1]; omega
  · show win0_7.index t 2 * 1024 + 1 * j.val = l.val
    rw [(index7 t).2.2, hl]; omega

theorem weight2_in (k j : Fin 1024) (l : Fin 2048) (hl : l.val = 1024 * (t.val / 64) + j.val) :
    iblk m c 8 t (ix3 (0 : Fin 1) k j) = m ((c : Thread nD τ).loc main_arg4) (ix3 (2 : Fin 3) k l) := by
  refine (congrArg (V m c main_arg4) (spot3_eq ?_ ?_ ?_)).trans (congrFun (V_main_arg4 m c) _)
  · show win0_8.index t 0 * 1 + 1 * 0 = 2
    rw [(index8 t).1]
  · show win0_8.index t 1 * 1024 + 1 * k.val = k.val
    rw [(index8 t).2.1]; omega
  · show win0_8.index t 2 * 1024 + 1 * j.val = l.val
    rw [(index8 t).2.2, hl]; omega

end

/-! ## The final array -/

/-- The index of window 9's moved block at point `t`. -/
def spot (t : Fin cfg0.N) (i : Fin 512) (j : Fin 1024) : ((cfg0.win 9).xblock (cfg0.grid.coords t)).Idx := fun a => match a with
  | ⟨0, _⟩ => ⟨i.val, lt_of_lt_of_eq i.isLt (xsize9 t 0).symm⟩
  | ⟨1, _⟩ => ⟨j.val, lt_of_lt_of_eq j.isLt (xsize9 t 1).symm⟩

/-- The gate of branch `e` (the gates of the three branches lie side by side). -/
def gate (g : (⟨S33280x6144, .bf16⟩ : BufTy).Contents (Elt Ideal)) (e : Fin 3) (r : Fin 32768) (l : Fin 2048) : EReal :=
  g (ix2 (⟨r.val, by have := r.isLt; omega⟩ : Fin 33280) (⟨2048 * e.val + l.val, by have := e.isLt; have := l.isLt; omega⟩ : Fin 6144))

/-- A row times a column. -/
def dot {n : ℕ} (x y : Fin n → EReal) : EReal := ∑ k, x k * y k

/-- **An entry of the final array.** -/
theorem array_apply (c : Dev nD) (q : Fin 64) (n : Fin 2) (i : Fin 512) (j : Fin 1024) (r : Fin 32768) (hr : r.val = 512 * q.val + i.val)
    (l : Fin 2048) (hl : l.val = 1024 * n.val + j.val) :
    (dats m 0 c).arrAt 9 cfg0.N (ix2 r l)
      = gate (m ((c : Thread nD τ).loc main_arg3)) 0 r l * dot (fun k : Fin 1024 => m ((c : Thread nD τ).loc main_arg0) (ix2 (⟨r.val, by have := r.isLt; omega⟩ : Fin 33280) k)) (fun k => m ((c : Thread nD τ).loc main_arg4) (ix3 (0 : Fin 3) k l))
        + gate (m ((c : Thread nD τ).loc main_arg3)) 1 r l * dot (fun k : Fin 1024 => m ((c : Thread nD τ).loc main_arg1) (ix2 r k)) (fun k => m ((c : Thread nD τ).loc main_arg4) (ix3 (1 : Fin 3) k l))
        + gate (m ((c : Thread nD τ).loc main_arg3)) 2 r l * dot (fun k : Fin 1024 => m ((c : Thread nD τ).loc main_arg2) (ix2 r k)) (fun k => m ((c : Thread nD τ).loc main_arg4) (ix3 (2 : Fin 3) k l)) := by
  have hq := q.isLt
  have hn := n.isLt
  let t : Fin cfg0.N := ⟨64 * n.val + q.val, lt_of_lt_of_eq (show 64 * n.val + q.val < 128 by omega) (N_0).symm⟩
  have hd : t.val / 64 = n.val := by show (64 * n.val + q.val) / 64 = _; omega
  have hm : t.val % 64 = q.val := by show (64 * n.val + q.val) % 64 = _; omega
  have h := congrFun (Cert.Kernel4Ideal.Value.blocks9 m c t (flush9 t)) (spot t i j)
  have he : ((cfg0.win 9).blk t).view.emb (spot t i j) = ix2 r l := by
    refine spot_eq ?_ ?_
    · show win0_9.index t 0 * 512 + 1 * i.val = r.val
      rw [(index9 t).1, hm, hr]; omega
    · show win0_9.index t 1 * 1024 + 1 * j.val = l.val
      rw [(index9 t).2, hd, hl]; omega
  have hx : (cfg0.win 9).xinj (cfg0.grid.coords t) (spot t i j) = ix2 i j := spot_eq rfl rfl
  refine (congrArg ((dats m 0 c).arrAt 9 cfg0.N) he.symm).trans (h.trans ?_)
  show (dats m 0 c).after 9 t ((cfg0.win 9).xinj (cfg0.grid.coords t) (spot t i j)) = _
  rw [after0_9, hx]
  refine (block_apply _ _ _ _ _ _ _ _ _ i j).trans ?_
  have hr' : r.val = 512 * (t.val % 64) + i.val := by rw [hm, hr]
  have hl' : l.val = 1024 * (t.val / 64) + j.val := by rw [hd, hl]
  refine congrArg₂ (· + ·) (congrArg₂ (· + ·) (congrArg₂ (· * ·) ?_ (Finset.sum_congr rfl fun k _ => ?_))
    (congrArg₂ (· * ·) ?_ (Finset.sum_congr rfl fun k _ => ?_))) (congrArg₂ (· * ·) ?_ (Finset.sum_congr rfl fun k _ => ?_))
  · exact gate0_in m c t i j _ hr' _ (by show 2048 * 0 + l.val = _; omega)
  · exact congrArg₂ (fun a b : EReal => a * b) (first_in m c t i k ⟨r.val, by have := r.isLt; omega⟩ hr') (weight0_in m c t k j l hl')
  · exact gate1_in m c t i j _ hr' _ (by show 2048 * 1 + l.val = _; omega)
  · exact congrArg₂ (fun a b : EReal => a * b) (second_in m c t i k r hr') (weight1_in m c t k j l hl')
  · exact gate2_in m c t i j _ hr' _ (by show 2048 * 2 + l.val = _; omega)
  · exact congrArg₂ (fun a b : EReal => a * b) (third_in m c t i k r hr') (weight2_in m c t k j l hl')

end Cert.Kernel4Ideal.Hand
-- ==== Proof.MergeClaim.lean ====
module

public import proofs.«01_k».proof.Defs
public import proofs.«01_k».proof.Proof.MergeArray
public import proofs.«01_k».proof.Proof.Gen.Reference4Ideal.Run
public import proofs.«01_k».proof.Proof.Gen.Reference4Ideal.Read

/-! # The merge call and its reference agree

Each entry of both results is the sum over the three branches of the branch's gate times the row's product with the column
of the branch's weight. No precondition is needed. -/

@[expose] public section

set_option maxRecDepth 16384

noncomputable section

namespace Cert.Merge

open Idealize.ShloMosaic Idealize.ShloMosaic.TcCoe Idealize.ShloMosaic.ValueIdx
open Idealize.SL.Sem
open scoped BigOperators

section
open Cert.Reference4Ideal Cert.Reference4Ideal.Gen Cert.Reference4Ideal.Read
open Cert.Kernel4Ideal.Hand (gate spot_eq spot3_eq)

variable (x0 : (⟨S33280x1024, .bf16⟩ : BufTy).Contents (Elt Ideal)) (x1 x2 : (⟨S32768x1024, .bf16⟩ : BufTy).Contents (Elt Ideal))
  (x3 : (⟨S33280x6144, .bf16⟩ : BufTy).Contents (Elt Ideal)) (x4 : (⟨S3x1024x2048, .bf16⟩ : BufTy).Contents (Elt Ideal))

/-- The gates, cut into the three branches. -/
theorem gates_apply (r : Fin 32768) (e : Fin 3) (j : Fin 2048) : val_main_v2 (F := Ideal) x3 (ix3 r e j) = gate x3 e r j := by
  have hr := r.isLt
  have he := e.isLt
  have hj := j.isLt
  rw [val_main_v2_apply, val_main_v1_apply, val_main_v0_apply]
  refine congrArg x3 (spot_eq ?_ ?_)
  · show ((r.val * 3 + e.val) * 2048 + j.val) / 6144 = r.val
    omega
  · show ((r.val * 3 + e.val) * 2048 + j.val) % 6144 = 2048 * e.val + j.val
    omega

theorem gate0_apply (r : Fin 32768) (j : Fin 2048) : val_main_v9 (F := Ideal) x3 (ix2 r j) = gate x3 0 r j := by
  have hj := j.isLt
  rw [val_main_v9_apply, val_main_v8_apply, ← gates_apply]
  refine congrArg (val_main_v2 (F := Ideal) x3) (spot3_eq ?_ rfl ?_)
  · show (r.val * 2048 + j.val) / 2048 = r.val
    omega
  · show (r.val * 2048 + j.val) % 2048 = j.val
    omega

theorem gate1_apply (r : Fin 32768) (j : Fin 2048) : val_main_v15 (F := Ideal) x3 (ix2 r j) = gate x3 1 r j := by
  have hj := j.isLt
  rw [val_main_v15_apply, val_main_v14_apply, ← gates_apply]
  refine congrArg (val_main_v2 (F := Ideal) x3) (spot3_eq ?_ rfl ?_)
  · show (r.val * 2048 + j.val) / 2048 = r.val
    omega
  · show (r.val * 2048 + j.val) % 2048 = j.val
    omega

theorem gate2_apply (r : Fin 32768) (j : Fin 2048) : val_main_v22 (F := Ideal) x3 (ix2 r j) = gate x3 2 r j := by
  have hj := j.isLt
  rw [val_main_v22_apply, val_main_v21_apply, ← gates_apply]
  refine congrArg (val_main_v2 (F := Ideal) x3) (spot3_eq ?_ rfl ?_)
  · show (r.val * 2048 + j.val) / 2048 = r.val
    omega
  · show (r.val * 2048 + j.val) % 2048 = j.val
    omega

/-- The weights of the three branches. -/
theorem weight0_apply (k : Fin 1024) (j : Fin 2048) : val_main_v11 (F := Ideal) x4 (ix2 k j) = x4 (ix3 0 k j) := by
  have hk := k.isLt
  have hj := j.isLt
  rw [val_main_v11_apply, val_main_v10_apply, val_main_v7_apply]
  refine congrArg x4 (spot3_eq rfl ?_ ?_)
  · show (k.val * 2048 + j.val) / 2048 % 1024 = k.val
    omega
  · show (k.val * 2048 + j.val) % 2048 = j.val
    omega

theorem weight1_apply (k : Fin 1024) (j : Fin 2048) : val_main_v17 (F := Ideal) x4 (ix2 k j) = x4 (ix3 1 k j) := by
  have hk := k.isLt
  have hj := j.isLt
  rw [val_main_v17_apply, val_main_v16_apply, val_main_v7_apply]
  refine congrArg x4 (spot3_eq rfl ?_ ?_)
  · show (k.val * 2048 + j.val) / 2048 % 1024 = k.val
    omega
  · show (k.val * 2048 + j.val) % 2048 = j.val
    omega

theorem weight2_apply (k : Fin 1024) (j : Fin 2048) : val_main_v24 (F := Ideal) x4 (ix2 k j) = x4 (ix3 2 k j) := by
  have hk := k.isLt
  have hj := j.isLt
  rw [val_main_v24_apply, val_main_v23_apply, val_main_v7_apply]
  refine congrArg x4 (spot3_eq rfl ?_ ?_)
  · show (k.val * 2048 + j.val) / 2048 % 1024 = k.val
    omega
  · show (k.val * 2048 + j.val) % 2048 = j.val
    omega

/-- The three products. -/
theorem product0_apply (r : Fin 32768) (j : Fin 2048) : val_main_v12 (F := Ideal) x0 x4 (ix2 r j)
    = ∑ k : Fin 1024, x0 (ix2 (⟨r.val, by have := r.isLt; omega⟩ : Fin 33280) k) * x4 (ix3 0 k j) := by
  rw [val_main_v12_apply]
  refine Finset.sum_congr rfl fun k _ => congrArg₂ (fun a b : EReal => a * b) ?_ ?_
  · rw [val_main_v4_apply, val_main_v3_apply]
    exact congrArg x0 (spot_eq rfl rfl)
  · exact (congrArg (val_main_v11 (F := Ideal) x4) (spot_eq rfl rfl)).trans (weight0_apply x4 k j)

theorem product1_apply (r : Fin 32768) (j : Fin 2048) : val_main_v18 (F := Ideal) x1 x4 (ix2 r j)
    = ∑ k : Fin 1024, x1 (ix2 r k) * x4 (ix3 1 k j) := by
  rw [val_main_v18_apply]
  refine Finset.sum_congr rfl fun k _ => congrArg₂ (fun a b : EReal => a * b) ?_ ?_
  · exact congrArg x1 (spot_eq rfl rfl)
  · exact (congrArg (val_main_v17 (F := Ideal) x4) (spot_eq rfl rfl)).trans (weight1_apply x4 k j)

theorem product2_apply (r : Fin 32768) (j : Fin 2048) : val_main_v25 (F := Ideal) x2 x4 (ix2 r j)
    = ∑ k : Fin 1024, x2 (ix2 r k) * x4 (ix3 2 k j) := by
  rw [val_main_v25_apply]
  refine Finset.sum_congr rfl fun k _ => congrArg₂ (fun a b : EReal => a * b) ?_ ?_
  · exact congrArg x2 (spot_eq rfl rfl)
  · exact (congrArg (val_main_v24 (F := Ideal) x4) (spot_eq rfl rfl)).trans (weight2_apply x4 k j)

/-- An entry of the reference's result. -/
theorem result_apply (r : Fin 32768) (j : Fin 2048) :
    val_main_v28 (F := Ideal) x0 x1 x2 x3 x4 (ix2 r j)
      = gate x3 0 r j * (∑ k : Fin 1024, x0 (ix2 (⟨r.val, by have := r.isLt; omega⟩ : Fin 33280) k) * x4 (ix3 0 k j))
        + gate x3 1 r j * (∑ k : Fin 1024, x1 (ix2 r k) * x4 (ix3 1 k j)) + gate x3 2 r j * ∑ k : Fin 1024, x2 (ix2 r k) * x4 (ix3 2 k j) := by
  rw [val_main_v28_apply, val_main_v27_apply, val_main_v20_apply, val_main_v13_apply, val_main_v19_apply, val_main_v26_apply,
    gate0_apply, gate1_apply, gate2_apply, product0_apply, product1_apply, product2_apply]
  rfl

end

open Cert.Kernel4Ideal Cert.Kernel4Ideal.Gen in
/-- The kernel's final array is the reference's result. -/
theorem arrays_eq (m : (ℓ : Loc Cert.Kernel4Ideal.nD Cert.Kernel4Ideal.τ Cert.Kernel4Ideal.sig) → Buf (Elt Ideal) ℓ) (c : Dev Cert.Kernel4Ideal.nD)
    (r : Fin 32768) (j : Fin 2048) :
    (dats m 0 c).arrAt 9 cfg0.N (ix2 r j)
      = Cert.Reference4Ideal.Read.val_main_v28 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (ix2 r j) := by
  have hr := r.isLt
  have hj := j.isLt
  have hl := Cert.Kernel4Ideal.Hand.array_apply m c ⟨r.val / 512, by omega⟩ ⟨j.val / 1024, by omega⟩ ⟨r.val % 512, by omega⟩ ⟨j.val % 1024, by omega⟩
    r (by show r.val = 512 * (r.val / 512) + r.val % 512; omega) j (by show j.val = 1024 * (j.val / 1024) + j.val % 1024; omega)
  have hR := result_apply (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) r j
  exact hl.trans hR.symm

open Cert.Kernel4Ideal Cert.Kernel4Ideal.Gen in
/-- **The merge claim.** -/
theorem algebraic : Cert.algebraic_Kernel4Ideal_Reference4Ideal := by
  intro m g m' g' hpre heq
  refine ⟨fun c => (dats m 0 c).arrAt 9 cfg0.N, ?_, ?_⟩
  · exact Cert.Kernel4Ideal.Value.run_blocks m g
  · refine (θ_run _ _ _).mono (fun r h c => ⟨?_, (h c).2⟩) (Cert.Reference4Ideal.Value.run (F := Ideal) m' g')
    obtain ⟨e0, e1, e2, e3, e4⟩ := heq c
    rw [(h c).1, Cert.Reference4Ideal.Read.val_main_v28_eq, e0, e1, e2, e3, e4]
    funext i
    have hix : i = ix2 (i 0) (i 1) := by
      funext a
      match a with
      | ⟨0, _⟩ => rfl
      | ⟨1, _⟩ => rfl
    rw [hix]
    exact (arrays_eq m c (i 0) (i 1)).symm

end Cert.Merge
-- ==== Proof.OutProjArray.lean ====
module

public import proofs.«01_k».proof.Proof.Gen.Kernel5Ideal.Value
public import Idealize.ShloMosaic.Lib.MatmulPlain
public import Idealize.ShloMosaic.Lib.ValueLayout
public import Idealize.ShloMosaic.Lib.Pipeline.Value
public import Idealize.ShloMosaic.Lib.Pipeline.ValueKit.Tiles

/-! # The output projection call's final array

Grid point `2 q + n` works on row block `q` (1024 rows) and column block `n` (1024 columns): it writes the rows of `x` plus
the gate times the rows' product with the weight. -/

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.ValueIdx
open Idealize.SL.Sem
open scoped BigOperators

variable (m : (ℓ : Loc nD τ sig) → Buf (Elt Ideal) ℓ)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The block the body leaves, entry by entry. -/
theorem block_apply (x0 : Vec Ideal S1024x2048 .bf16) (x1 : Vec Ideal S2048x1024 .bf16) (x2 : Vec Ideal S1024x1024 .f32)
    (x3 : Vec Ideal S1x1x1024 .f32) (i j : Fin 1024) :
    out0_4 x0 x1 x2 x3 (ix2 i j) = x2 (ix2 i j) + x3 (ix3 0 0 j) * ∑ k : Fin 2048, x0 (ix2 i k) * x1 (ix2 k j) := by
  have h : out0_4 x0 x1 x2 x3 = k0_pay1 x2 x3 x0 x1 := by
    unfold out0_4
    rw [View.canon_unit_zero zeros2]
    simp only [View.ld_unit_zero (S := S1024x1024) zeros2, View.ld_unit_zero (S := S1x1x1024) zeros3, View.ld_unit_zero (S := S1024x2048) zeros2,
      View.ld_unit_zero (S := S2048x1024) zeros2]
  rw [h]
  unfold k0_pay1
  refine congrArg (x2 (ix2 i j) + ·) (congrArg₂ (· * ·) ((broadcastTo_1b_ab_apply _ _ i j).trans (shapeCast_1ab_ab_apply _ _ 0 j)) ?_)
  refine (Ideal.matmul_plain_apply none x0 x1 _ i j).trans ?_
  have h0 : (constant (F := Ideal) S1024x1024 .f32 0x00000000#32) (ix2 i j) = (0 : EReal) := Ideal.ofBits_zero_f32
  rw [h0, zero_add]

/-! ## Which block a point works on -/

theorem index0 : ∀ t : Fin cfg0.N, win0_0.index t 0 = t.val / 2 ∧ win0_0.index t 1 = 0 :=
  (by decide +kernel : ∀ t : Fin grid0.N, win0_0.index t 0 = t.val / 2 ∧ win0_0.index t 1 = 0)

theorem index1 : ∀ t : Fin cfg0.N, win0_1.index t 0 = 0 ∧ win0_1.index t 1 = t.val % 2 :=
  (by decide +kernel : ∀ t : Fin grid0.N, win0_1.index t 0 = 0 ∧ win0_1.index t 1 = t.val % 2)

theorem index2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

theorem index3 : ∀ t : Fin cfg0.N, win0_3.index t 0 = 1 + t.val / 32 ∧ win0_3.index t 1 = 0 ∧ win0_3.index t 2 = 4 + t.val % 2 :=
  (by decide +kernel : ∀ t : Fin grid0.N, win0_3.index t 0 = 1 + t.val / 32 ∧ win0_3.index t 1 = 0 ∧ win0_3.index t 2 = 4 + t.val % 2)

theorem index4 : ∀ t : Fin cfg0.N, win0_4.index t 0 = t.val / 2 ∧ win0_4.index t 1 = t.val % 2 :=
  (by decide +kernel : ∀ t : Fin grid0.N, win0_4.index t 0 = t.val / 2 ∧ win0_4.index t 1 = t.val % 2)

/-- Every point writes its block back, -/
theorem flush4 : ∀ t : Fin cfg0.N, (cfg0.win 4).flush t = true :=
  (by decide +kernel : ∀ t : Fin grid0.N, win0_4.flush t = true)

/-- all of it. -/
theorem xsize4 : ∀ t : Fin cfg0.N, ∀ a, (cfg0.win 4).xsize (cfg0.grid.coords t) a = (cfg0.win 4).size a := by decide +kernel

/-! ## The blocks read -/

section
variable (c : Dev nD) (t : Fin cfg0.N)

theorem left_in (i : Fin 1024) (k : Fin 2048) (r : Fin 32768) (hr : r.val = 1024 * (t.val / 2) + i.val) :
    iblk m c 0 t (ix2 i k) = m ((c : Thread nD τ).loc main_arg1) (ix2 r k) := by
  refine (congrArg (V m c main_arg1) ?_).trans (congrFun (V_main_arg1 m c) _)
  funext a
  match a with
  | ⟨0, _⟩ =>
    refine Fin.ext ?_
    show win0_0.index t 0 * 1024 + 1 * i.val = r.val
    rw [(index0 t).1, hr]; omega
  | ⟨1, _⟩ =>
    refine Fin.ext ?_
    show win0_0.index t 1 * 2048 + 1 * k.val = k.val
    rw [(index0 t).2]; omega

theorem weight_in (k : Fin 2048) (j : Fin 1024) (l : Fin 2048) (hl : l.val = 1024 * (t.val % 2) + j.val) :
    iblk m c 1 t (ix2 k j) = m ((c : Thread nD τ).loc main_arg2) (ix2 k l) := by
  refine (congrArg (V m c main_arg2) ?_).trans (congrFun (V_main_arg2 m c) _)
  funext a
  match a with
  | ⟨0, _⟩ =>
    refine Fin.ext ?_
    show win0_1.index t 0 * 2048 + 1 * k.val = k.val
    rw [(index1 t).1]; omega
  | ⟨1, _⟩ =>
    refine Fin.ext ?_
    show win0_1.index t 1 * 1024 + 1 * j.val = l.val
    rw [(index1 t).2, hl]; omega

theorem residual_in (i j : Fin 1024) (r : Fin 32768) (hr : r.val = 1024 * (t.val / 2) + i.val) (l : Fin 2048)
    (hl : l.val = 1024 * (t.val % 2) + j.val) :
    iblk m c 2 t (ix2 i j) = m ((c : Thread nD τ).loc main_arg0) (ix2 r l) := by
  refine (congrArg (V m c main_arg0) ?_).trans (congrFun (V_main_arg0 m c) _)
  funext a
  match a with
  | ⟨0, _⟩ =>
    refine Fin.ext ?_
    show win0_2.index t 0 * 1024 + 1 * i.val = r.val
    rw [(index2 t).1, hr]; omega
  | ⟨1, _⟩ =>
    refine Fin.ext ?_
    show win0_2.index t 1 * 1024 + 1 * j.val = l.val
    rw [(index2 t).2, hl]; omega

theorem gate_in (j : Fin 1024) (b : Fin 8) (hb : b.val = 1 + t.val / 32) (l : Fin 12288) (hl : l.val = 4096 + 1024 * (t.val % 2) + j.val) :
    iblk m c 3 t (ix3 (0 : Fin 1) (0 : Fin 1) j) = m ((c : Thread nD τ).loc main_arg3) (ix3 b (0 : Fin 1) l) := by
  refine (congrArg (V m c main_arg3) ?_).trans (congrFun (V_main_arg3 m c) _)
  funext a
  match a with
  | ⟨0, _⟩ =>
    refine Fin.ext ?_
    show win0_3.index t 0 * 1 + 1 * 0 = b.val
    rw [(index3 t).1, hb]; omega
  | ⟨1, _⟩ =>
    refine Fin.ext ?_
    show win0_3.index t 1 * 1 + 1 * 0 = 0
    rw [(index3 t).2.1]
  | ⟨2, _⟩ =>
    refine Fin.ext ?_
    show win0_3.index t 2 * 1024 + 1 * j.val = l.val
    rw [(index3 t).2.2, hl]; omega

end

/-! ## The final array -/

/-- The index of window 4's moved block at point `t`. -/
def spot (t : Fin cfg0.N) (i j : Fin 1024) : ((cfg0.win 4).xblock (cfg0.grid.coords t)).Idx := fun a => match a with
  | ⟨0, _⟩ => ⟨i.val, lt_of_lt_of_eq i.isLt (xsize4 t 0).symm⟩
  | ⟨1, _⟩ => ⟨j.val, lt_of_lt_of_eq j.isLt (xsize4 t 1).symm⟩

/-- A row times a column. -/
def dot {n : ℕ} (x y : Fin n → EReal) : EReal := ∑ k, x k * y k

/-- The gate of sequence `b`: the third part of its modulation. -/
def gate (x : (⟨S8x1x12288, .f32⟩ : BufTy).Contents (Elt Ideal)) (b : Fin 2) (l : Fin 2048) : EReal :=
  x (ix3 (⟨1 + b.val, by have := b.isLt; omega⟩ : Fin 8) (0 : Fin 1) (⟨4096 + l.val, by have := l.isLt; omega⟩ : Fin 12288))

/-- A row of the output, from a row of `x`, the gate and the product. -/
def mixed (x g y : EReal) : EReal := x + g * y

/-- **An entry of the final array.** -/
theorem array_apply (c : Dev nD) (q : Fin 32) (n : Fin 2) (i j : Fin 1024) (r : Fin 32768) (hr : r.val = 1024 * q.val + i.val)
    (l : Fin 2048) (hl : l.val = 1024 * n.val + j.val) (b : Fin 2) (hb : b.val = q.val / 16) :
    (dats m 0 c).arrAt 4 cfg0.N (ix2 r l)
      = mixed (m ((c : Thread nD τ).loc main_arg0) (ix2 r l)) (gate (m ((c : Thread nD τ).loc main_arg3)) b l)
        (dot (fun k : Fin 2048 => m ((c : Thread nD τ).loc main_arg1) (ix2 r k)) fun k => m ((c : Thread nD τ).loc main_arg2) (ix2 k l)) := by
  have hq := q.isLt
  have hn := n.isLt
  let t : Fin cfg0.N := ⟨2 * q.val + n.val, lt_of_lt_of_eq (show 2 * q.val + n.val < 64 by omega) (N_0).symm⟩
  have hd : t.val / 2 = q.val := by show (2 * q.val + n.val) / 2 = _; omega
  have hm : t.val % 2 = n.val := by show (2 * q.val + n.val) % 2 = _; omega
  have h := congrFun (Cert.Kernel5Ideal.Value.blocks4 m c t (flush4 t)) (spot t i j)
  have he : ((cfg0.win 4).blk t).view.emb (spot t i j) = ix2 r l := by
    funext a
    match a with
    | ⟨0, _⟩ =>
      refine Fin.ext ?_
      show win0_4.index t 0 * 1024 + 1 * i.val = r.val
      rw [(index4 t).1, hd, hr]; omega
    | ⟨1, _⟩ =>
      refine Fin.ext ?_
      show win0_4.index t 1 * 1024 + 1 * j.val = l.val
      rw [(index4 t).2, hm, hl]; omega
  have hx : (cfg0.win 4).xinj (cfg0.grid.coords t) (spot t i j) = ix2 i j := by
    funext a
    match a with
    | ⟨0, _⟩ => rfl
    | ⟨1, _⟩ => rfl
  refine (congrArg ((dats m 0 c).arrAt 4 cfg0.N) he.symm).trans (h.trans ?_)
  show (dats m 0 c).after 4 t ((cfg0.win 4).xinj (cfg0.grid.coords t) (spot t i j)) = _
  rw [after0_4, hx]
  refine (block_apply _ _ _ _ i j).trans ?_
  refine congrArg₂ (fun a b : EReal => a + b) (residual_in m c t i j r (by rw [hd, hr]) l (by rw [hm, hl]))
    (congrArg₂ (fun a b : EReal => a * b) (gate_in m c t j _ (by show 1 + b.val = _; omega) _ (by show 4096 + l.val = _; omega)) (Finset.sum_congr rfl fun k _ => ?_))
  exact congrArg₂ (fun a b : EReal => a * b) (left_in m c t i k r (by rw [hd, hr])) (weight_in m c t k j l (by rw [hm, hl]))

end Cert.Kernel5Ideal.Hand
-- ==== Proof.OutProjClaim.lean ====
module

public import proofs.«01_k».proof.Defs
public import proofs.«01_k».proof.Proof.OutProjArray
public import proofs.«01_k».proof.Proof.Gen.Reference5Ideal.Run
public import proofs.«01_k».proof.Proof.Gen.Reference5Ideal.Read

/-! # The output projection call and its reference agree

Each entry of both results is the entry of `x` plus the gate of its sequence times the row's product with the weight's
column. No precondition is needed. -/

@[expose] public section

set_option maxRecDepth 16384

noncomputable section

namespace Cert.OutProj

open Idealize.ShloMosaic Idealize.ShloMosaic.TcCoe Idealize.ShloMosaic.ValueIdx
open Idealize.SL.Sem
open scoped BigOperators

section
open Cert.Reference5Ideal Cert.Reference5Ideal.Gen Cert.Reference5Ideal.Read

/-- An entry of the reference's result: row `16384 b + p`, column `j`. -/
theorem result_apply (x0 : (⟨S32768x2048, .f32⟩ : BufTy).Contents (Elt Ideal)) (x1 : (⟨S32768x2048, .bf16⟩ : BufTy).Contents (Elt Ideal))
    (x2 : (⟨S2048x2048, .bf16⟩ : BufTy).Contents (Elt Ideal)) (x3 : (⟨S8x1x12288, .f32⟩ : BufTy).Contents (Elt Ideal))
    (b : Fin 2) (p : Fin 16384) (j : Fin 2048) (r : Fin 32768) (hr : r.val = 16384 * b.val + p.val) :
    val_main_v15 (F := Ideal) x0 x1 x2 x3 (ix2 r j)
      = x0 (ix2 r j) + x3 (ix3 (⟨1 + b.val, by have := b.isLt; omega⟩ : Fin 8) (0 : Fin 1) ⟨4096 + j.val, by have := j.isLt; omega⟩)
        * ∑ k : Fin 2048, x1 (ix2 r k) * x2 (ix2 k j) := by
  have hb := b.isLt
  have hp := p.isLt
  have hj := j.isLt
  have hx : idx_main_v15 (ix2 r j) = ix3 b p j := by
    refine funext fun a => Fin.ext ?_
    match a with
    | ⟨0, _⟩ =>
      show (r.val * 2048 + j.val) / 33554432 = b.val
      omega
    | ⟨1, _⟩ =>
      show (r.val * 2048 + j.val) / 2048 % 16384 = p.val
      omega
    | ⟨2, _⟩ =>
      show (r.val * 2048 + j.val) % 2048 = j.val
      omega
  have h11 : idx_main_v11 (ix3 b p j) = ix2 r j := by
    refine funext fun a => Fin.ext ?_
    match a with
    | ⟨0, _⟩ =>
      show ((b.val * 16384 + p.val) * 2048 + j.val) / 2048 = r.val
      omega
    | ⟨1, _⟩ =>
      show ((b.val * 16384 + p.val) * 2048 + j.val) % 2048 = j.val
      omega
  have h10 : idx_main_v10 (ix3 b p j) = ix2 r j := h11
  rw [val_main_v15_apply, hx, val_main_v14_apply, val_main_v11_apply, h11, val_main_v13_apply, val_main_v10_apply, h10, val_main_v9_apply,
    val_main_v12_apply, val_main_v3_apply, val_main_v0_apply]
  refine congrArg (x0 (ix2 r j) + ·) (congrArg₂ (· * ·) (congrArg x3 (funext fun a => ?_)) (Finset.sum_congr rfl fun k _ => ?_))
  · match a with
    | ⟨0, _⟩ => rfl
    | ⟨1, _⟩ => rfl
    | ⟨2, _⟩ => rfl
  · refine congrArg₂ (· * ·) (congrArg x1 (funext fun a => ?_)) (congrArg x2 (funext fun a => ?_))
    · match a with
      | ⟨0, _⟩ => rfl
      | ⟨1, _⟩ => rfl
    · match a with
      | ⟨0, _⟩ => rfl
      | ⟨1, _⟩ => rfl

end

open Cert.Kernel5Ideal Cert.Kernel5Ideal.Gen in
/-- The kernel's final array is the reference's result. -/
theorem arrays_eq (m : (ℓ : Loc Cert.Kernel5Ideal.nD Cert.Kernel5Ideal.τ Cert.Kernel5Ideal.sig) → Buf (Elt Ideal) ℓ) (c : Dev Cert.Kernel5Ideal.nD)
    (r : Fin 32768) (j : Fin 2048) :
    (dats m 0 c).arrAt 4 cfg0.N (ix2 r j)
      = Cert.Reference5Ideal.Read.val_main_v15 (F := Ideal) (m ((c.tc : Thread nD τ).loc main_arg0)) (m ((c.tc : Thread nD τ).loc main_arg1))
          (m ((c.tc : Thread nD τ).loc main_arg2)) (m ((c.tc : Thread nD τ).loc main_arg3)) (ix2 r j) := by
  have hr := r.isLt
  have hj := j.isLt
  have hl := Cert.Kernel5Ideal.Hand.array_apply m c ⟨r.val / 1024, by omega⟩ ⟨j.val / 1024, by omega⟩ ⟨r.val % 1024, by omega⟩ ⟨j.val % 1024, by omega⟩
    r (by show r.val = 1024 * (r.val / 1024) + r.val % 1024; omega) j (by show j.val = 1024 * (j.val / 1024) + j.val % 1024; omega)
    ⟨r.val / 16384, by omega⟩ (by show r.val / 16384 = r.val / 1024 / 16; omega)
  have hR := result_apply (m ((c.tc : Thread nD τ).loc main_arg0)) (m ((c.tc : Thread nD τ).loc main_arg1))
    (m ((c.tc : Thread nD τ).loc main_arg2)) (m ((c.tc : Thread nD τ).loc main_arg3)) ⟨r.val / 16384, by omega⟩ ⟨r.val % 16384, by omega⟩ j r
    (by show r.val = 16384 * (r.val / 16384) + r.val % 16384; omega)
  exact hl.trans hR.symm

open Cert.Kernel5Ideal Cert.Kernel5Ideal.Gen in
/-- **The output projection claim.** -/
theorem algebraic : Cert.algebraic_Kernel5Ideal_Reference5Ideal := by
  intro m g m' g' hpre heq
  refine ⟨fun c => (dats m 0 c).arrAt 4 cfg0.N, ?_, ?_⟩
  · exact Cert.Kernel5Ideal.Value.run_blocks m g
  · refine (θ_run _ _ _).mono (fun r h c => ⟨?_, (h c).2⟩) (Cert.Reference5Ideal.Value.run (F := Ideal) m' g')
    obtain ⟨e0, e1, e2, e3⟩ := heq c
    rw [(h c).1, Cert.Reference5Ideal.Read.val_main_v15_eq, e0, e1, e2, e3]
    funext i
    have hix : i = ix2 (i 0) (i 1) := by
      funext a
      match a with
      | ⟨0, _⟩ => rfl
      | ⟨1, _⟩ => rfl
    rw [hix]
    exact (arrays_eq m c (i 0) (i 1)).symm

end Cert.OutProj
-- ==== Proof.Mlp1BodyIdeal.lean ====
module

public import proofs.«01_k».proof.Proof.Gen.Kernel6Ideal.Launch
public import proofs.«01_k».proof.Proof.Gen.Kernel6Ideal.Skeleton
public import proofs.«01_k».proof.Proof.Gen.Kernel6Ideal.Points
public import proofs.«01_k».proof.Proof.Gen.Kernel6Ideal.Frame
public import Idealize.ShloMosaic.Lib.Pipeline.FrameBody
public import Idealize.ShloMosaic.Lib.VecWindow
public import Idealize.ShloMosaic.Lib.Pipeline.Value
public import Idealize.ShloMosaic.Lib.Pipeline.ValueKit.Tiles
public import Idealize.ShloMosaic.Lib.Tactic
public import Idealize.ShloMosaic.Lib.WordCmp

/-! # The first layer's MLP: what one grid point computes, and its triple

The sixteen points of a block of rows each add to the output block the product of one slice of 512 hidden columns. The
first normalises and modulates the rows, keeps them in the scratch buffer and starts the output block at zero; the last
adds the gated sum to the rows. The three triples below are those three kinds of point. -/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem zero2 : (![0, 0] : Fin 2 → ℕ) = fun _ => 0 := by funext a; fin_cases a <;> rfl

/-- 2048 columns of a block of the modulation, from `off`. -/
abbrev modAt (off : ℕ) (x1 : Vec F S1x1x12288 .f32) (h : ∀ a, (![0, 0, off] : Fin 3 → ℕ) a + S1x1x2048.size a ≤ S1x1x12288.size a) :
    Vec F S1x1x2048 .f32 := View.ld x1 (Rect.unit (s := S1x1x12288) ![0, 0, off] S1x1x2048.size h)

/-- The normalised and modulated rows of a block, from its rows, its sequence's modulation and the gain. -/
def normed (x0 : Vec F S1024x2048 .f32) (x1 : Vec F S1x1x12288 .f32) (x2 : Vec F S1x2048 .f32) : Vec F S1024x2048 .bf16 :=
  k0_pay1 x0 x2 (modAt 6144 x1 inb_S1x1x12288_S1x1x2048_0_0_6144) (modAt 8192 x1 inb_S1x1x12288_S1x1x2048_0_0_8192)

/-- The output block with one slice of hidden columns added. -/
def added (xs : Vec F S1024x2048 .bf16) (x3 : Vec F S2048x512 .bf16) (xo : Vec F S1024x2048 .f32) (x4 : Vec F S512x2048 .bf16) : Vec F S1024x2048 .f32 :=
  k0_pay3 xs x3 xo x4

/-- The rows with the gated sum added. -/
def finished (x0 : Vec F S1024x2048 .f32) (x1 : Vec F S1x1x12288 .f32) (acc : Vec F S1024x2048 .f32) : Vec F S1024x2048 .f32 :=
  k0_pay4 x0 (modAt 10240 x1 inb_S1x1x12288_S1x1x2048_0_0_10240) acc

/-- The grid coordinate's test for the first point of a block of rows, -/
abbrev cond1 (i : grid0.Coords) : Prop := (Scalar.cmpi .ne (Scalar.extui (Scalar.cmpi .eq (BitVec.ofNat 32 (i 1).val) 0#32)) 0#32) = 1#1

/-- and for the last. -/
abbrev cond2 (i : grid0.Coords) : Prop := (Scalar.cmpi .ne (Scalar.extui (Scalar.cmpi .eq (BitVec.ofNat 32 (i 1).val) 15#32)) 0#32) = 1#1

set_option maxHeartbeats 1600000 in
/-- The first point of a block of rows. -/
theorem sound_first (c : Dev nD) (E : Set ℕ) (i : grid0.Coords) (arg2 : Memref sig .tc .vmem S1024x2048 .f32) (harg2 : arg2.IsWhole) (arg3 : Memref sig .tc .vmem S1x1x12288 .f32) (harg3 : arg3.IsWhole) (arg4 : Memref sig .tc .vmem S1x2048 .f32) (harg4 : arg4.IsWhole)
    (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole) (arg9 : Memref sig .tc .vmem S1024x2048 .bf16) (harg9 : arg9.IsWhole)
    (hc1 : cond1 i) (hc2 : ¬cond2 i)
    (x0 : Vec F S1024x2048 .f32) (x1 : Vec F S1x1x12288 .f32) (x2 : Vec F S1x2048 .f32) (x3 : Vec F S2048x512 .bf16) (x4 : Vec F S512x2048 .bf16) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ (∃ d, owns (c : Thread nD τ) arg8 fullShare d)
        ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare (added (normed x0 x1 x2) x3 (k0_pay2 (F := F)) x4) ∗ owns (c : Thread nD τ) arg9 fullShare (normed x0 x1 x2)) -∗ K ⟨⟩))
      ⊢ wp frame (wpE (defs₀ (F := F)) Variants.none c none) E (cc0_mlp i arg2 harg2 arg3 harg3 arg4 harg4 arg5 harg5 arg6 harg6 arg7 harg7 arg8 harg8 arg9 harg9) K := by
  simp only [cc0_mlp_eq_skeleton]; unfold cc0_mlp_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d8, %f8, -, H8⟩, Hk⟩
  subst hf0 hf1 hf2 hf3 hf4
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (View.read_writes_full arg8.view f6 inb_S1024x2048_S1024x2048_0_0 _ _).trans ?_
    sl_unfold_words
    simp only [View.readCov_cons_toLoadRect, View.readAt_eq_ld, View.ld_unit_zero (S := S1024x2048) zero2,
       View.ld_unit_zero (S := S1x2048) zero2, View.ld_unit_zero (S := S2048x512) zero2, View.ld_unit_zero (S := S512x2048) zero2]
    rfl
  iexists _; isplitr
  swap; · iexact H8
  ipureintro
  refine (View.read_writes_full arg9.view f8 inb_S1024x2048_S1024x2048_0_0 _ _).trans ?_
  sl_unfold_words
  simp only [View.readCov_cons_toLoadRect, View.readAt_eq_ld, View.ld_unit_zero (S := S1024x2048) zero2,
       View.ld_unit_zero (S := S1x2048) zero2, View.ld_unit_zero (S := S2048x512) zero2, View.ld_unit_zero (S := S512x2048) zero2]
  rfl

set_option maxHeartbeats 1600000 in
/-- A point between. -/
theorem sound_middle (c : Dev nD) (E : Set ℕ) (i : grid0.Coords) (arg2 : Memref sig .tc .vmem S1024x2048 .f32) (harg2 : arg2.IsWhole) (arg3 : Memref sig .tc .vmem S1x1x12288 .f32) (harg3 : arg3.IsWhole) (arg4 : Memref sig .tc .vmem S1x2048 .f32) (harg4 : arg4.IsWhole)
    (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole) (arg9 : Memref sig .tc .vmem S1024x2048 .bf16) (harg9 : arg9.IsWhole)
    (hc1 : ¬cond1 i) (hc2 : ¬cond2 i)
    (x3 : Vec F S2048x512 .bf16) (x4 : Vec F S512x2048 .bf16) (xo : Vec F S1024x2048 .f32) (xs : Vec F S1024x2048 .bf16) (K : PUnit → sProp 𝕄) :
    iprop(owns (c : Thread nD τ) arg5 fullShare x3
        ∗ owns (c : Thread nD τ) arg6 fullShare x4
        ∗ owns (c : Thread nD τ) arg8 fullShare xo
        ∗ owns (c : Thread nD τ) arg9 fullShare xs
        ∗ (iprop(owns (c : Thread nD τ) arg5 fullShare x3 ∗ owns (c : Thread nD τ) arg6 fullShare x4 ∗ owns (c : Thread nD τ) arg8 fullShare (added xs x3 xo x4) ∗ owns (c : Thread nD τ) arg9 fullShare xs) -∗ K ⟨⟩))
      ⊢ wp frame (wpE (defs₀ (F := F)) Variants.none c none) E (cc0_mlp i arg2 harg2 arg3 harg3 arg4 harg4 arg5 harg5 arg6 harg6 arg7 harg7 arg8 harg8 arg9 harg9) K := by
  simp only [cc0_mlp_eq_skeleton]; unfold cc0_mlp_skel
  unfold owns
  iintro ⟨⟨%f3, %hf3, H3⟩, ⟨%f4, %hf4, H4⟩, ⟨%f6, %hf6, H6⟩, ⟨%f8, %hf8, H8⟩, Hk⟩
  subst hf3 hf4 hf6 hf8
  sl_exec (disch := first | sl_exact hc1 | sl_exact hc2)
  sl_step
  iapply Hk
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (View.read_writes_full arg8.view f6 inb_S1024x2048_S1024x2048_0_0 _ _).trans ?_
    sl_unfold_words
    simp only [View.readCov_cons_toLoadRect, View.readAt_eq_ld, View.ld_unit_zero (S := S1024x2048) zero2,
       View.ld_unit_zero (S := S1x2048) zero2, View.ld_unit_zero (S := S2048x512) zero2, View.ld_unit_zero (S := S512x2048) zero2]
    rfl
  iexists f8; isplitr; · ipureintro; rfl
  iexact H8

set_option maxHeartbeats 1600000 in
/-- The last point. -/
theorem sound_last (c : Dev nD) (E : Set ℕ) (i : grid0.Coords) (arg2 : Memref sig .tc .vmem S1024x2048 .f32) (harg2 : arg2.IsWhole) (arg3 : Memref sig .tc .vmem S1x1x12288 .f32) (harg3 : arg3.IsWhole) (arg4 : Memref sig .tc .vmem S1x2048 .f32) (harg4 : arg4.IsWhole)
    (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole)
    (arg8 : Memref sig .tc .vmem S1024x2048 .f32) (harg8 : arg8.IsWhole) (arg9 : Memref sig .tc .vmem S1024x2048 .bf16) (harg9 : arg9.IsWhole)
    (hc1 : ¬cond1 i) (hc2 : cond2 i)
    (x0 : Vec F S1024x2048 .f32) (x1 : Vec F S1x1x12288 .f32) (x3 : Vec F S2048x512 .bf16) (x4 : Vec F S512x2048 .bf16) (xo : Vec F S1024x2048 .f32) (xs : Vec F S1024x2048 .bf16) (K : PUnit → sProp 𝕄) :
    iprop(owns (c : Thread nD τ) arg2 fullShare x0
        ∗ owns (c : Thread nD τ) arg3 fullShare x1
        ∗ owns (c : Thread nD τ) arg5 fullShare x3
        ∗ owns (c : Thread nD τ) arg6 fullShare x4
        ∗ owns (c : Thread nD τ) arg8 fullShare xo
        ∗ owns (c : Thread nD τ) arg9 fullShare xs
        ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg8 fullShare (finished x0 x1 (added xs x3 xo x4)) ∗ owns (c : Thread nD τ) arg9 fullShare xs) -∗ K ⟨⟩))
      ⊢ wp frame (wpE (defs₀ (F := F)) Variants.none c none) E (cc0_mlp i arg2 harg2 arg3 harg3 arg4 harg4 arg5 harg5 arg6 harg6 arg7 harg7 arg8 harg8 arg9 harg9) K := by
  simp only [cc0_mlp_eq_skeleton]; unfold cc0_mlp_skel
  unfold owns
  iintro ⟨⟨%f0, %hf0, H0⟩, ⟨%f1, %hf1, H1⟩, ⟨%f3, %hf3, H3⟩, ⟨%f4, %hf4, H4⟩, ⟨%f6, %hf6, H6⟩, ⟨%f8, %hf8, H8⟩, Hk⟩
  subst hf0 hf1 hf3 hf4 hf6 hf8
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  isplitl [H4]
  · iexists f4; isplitr; · ipureintro; rfl
    iexact H4
  isplitl [H6]
  · iexists _; isplitr
    swap; · iexact H6
    ipureintro
    refine (View.read_writes_full arg8.view f6 inb_S1024x2048_S1024x2048_0_0 _ _).trans ?_
    sl_unfold_words
    simp only [View.readCov_cons_toLoadRect, View.readAt_eq_ld, View.ld_unit_zero (S := S1024x2048) zero2,
       View.ld_unit_zero (S := S1x2048) zero2, View.ld_unit_zero (S := S2048x512) zero2, View.ld_unit_zero (S := S512x2048) zero2]
    rfl
  iexists f8; isplitr; · ipureintro; rfl
  iexact H8

end Cert.Kernel6Ideal.Hand
-- ==== Proof.Mlp1FrameIdeal.lean ====
module

public import proofs.«01_k».proof.Proof.Mlp1BodyIdeal
public import Idealize.ShloMosaic.Lib.Claim
public import Idealize.ShloMosaic.Lib.Ring

/-! # The first layer's MLP: its run

Point `t` of the grid is point `t % 16` of block of rows `t / 16`. The scratch holds, after any point of a block of rows,
the modulated rows of that block; the output's buffer holds the sum over the slices of hidden columns so far, and after
the last point the rows with the gated sum added. From this, the three triples of the body give the obligation at every
point, and the obligation the run: what every final state holds of the arrays, and the frame. -/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which kind of point -/

theorem lt_N (t : Fin cfg0.N) : t.val < 512 := lt_of_lt_of_eq t.isLt N_0

theorem first_iff : ∀ t : Fin cfg0.N, cond1 (grid0.coords t) ↔ t.val % 16 = 0 := fun t => by
  have ht := lt_N t
  have e1 : (grid0.coords t 1).val = t.val / 1 % 16 := Pipeline.Grid.coords_val t 1 (by decide) rfl
  simp only [cond1, e1]
  word_cmp

theorem last_iff : ∀ t : Fin cfg0.N, cond2 (grid0.coords t) ↔ t.val % 16 = 15 := fun t => by
  have ht := lt_N t
  have e1 : (grid0.coords t 1).val = t.val / 1 % 16 := Pipeline.Grid.coords_val t 1 (by decide) rfl
  simp only [cond2, e1]
  word_cmp

/-- No block of the output overhangs its array: the blocks of rows stop short of the array's end. -/
theorem clip6 (i : cfg0.grid.Coords) (a) : (cfg0.win 6).clip i a = none :=
  (by decide +kernel : ∀ (i : grid0.Coords) a, Pipeline.Clip.of (cc0_transform_6 i a) (S1024x2048.size a) (S33280x2048.size a) = none) i a

/-! ## What the buffers hold -/

variable (m : (ℓ : Loc nD τ sig) → Buf (Elt F) ℓ) (ρ : Dev nD → PrngReg)

/-- The first point of `t`'s block of rows. -/
def first (t : Fin cfg0.N) : Fin cfg0.N := ⟨16 * (t.val / 16), lt_of_le_of_lt (by omega) t.isLt⟩

/-- What the scratch holds after point `t`. -/
def rowsAt (c : Dev nD) (t : Fin cfg0.N) : Vec F S1024x2048 .bf16 :=
  normed (X0_0 m c (first t)) (iblk m c 1 (first t)) (iblk m c 2 (first t))

theorem rowsAt_congr (c : Dev nD) {t u : Fin cfg0.N} (h : t.val / 16 = u.val / 16) : rowsAt m c t = rowsAt m c u := by
  unfold rowsAt
  rw [show first t = first u from Fin.ext (congrArg (16 * ·) h)]

theorem rowsAt_first (c : Dev nD) (t : Fin cfg0.N) (h : t.val % 16 = 0) :
    rowsAt m c t = normed (X0_0 m c t) (iblk m c 1 t) (iblk m c 2 t) := by
  unfold rowsAt
  rw [show first t = t from Fin.ext (by show 16 * (t.val / 16) = t.val; omega)]

/-- The sum over the slices of hidden columns up to point `n`. -/
def accAt (c : Dev nD) : (n : ℕ) → n < cfg0.N → Vec F S1024x2048 .f32
  | 0, h => added (rowsAt m c ⟨0, h⟩) (iblk m c 3 ⟨0, h⟩) (k0_pay2 (F := F)) (iblk m c 4 ⟨0, h⟩)
  | n + 1, h => added (rowsAt m c ⟨n + 1, h⟩) (iblk m c 3 ⟨n + 1, h⟩)
      (if (n + 1) % 16 = 0 then k0_pay2 (F := F) else accAt c n (Nat.lt_of_succ_lt h)) (iblk m c 4 ⟨n + 1, h⟩)

theorem accAt_first (c : Dev nD) (t : Fin cfg0.N) (h : t.val % 16 = 0) :
    accAt m c t.val t.isLt = added (rowsAt m c t) (iblk m c 3 t) (k0_pay2 (F := F)) (iblk m c 4 t) := by
  obtain ⟨n, hn⟩ := t
  cases n with
  | zero => rfl
  | succ n =>
    show added _ _ (if (n + 1) % 16 = 0 then _ else _) _ = _
    rw [if_pos h]

theorem accAt_next (c : Dev nD) (t : Fin cfg0.N) (h : ¬t.val % 16 = 0) :
    accAt m c t.val t.isLt = added (rowsAt m c t) (iblk m c 3 t) (accAt m c (t.val - 1) (lt_of_le_of_lt (Nat.sub_le _ _) t.isLt)) (iblk m c 4 t) := by
  obtain ⟨n, hn⟩ := t
  cases n with
  | zero => exact absurd rfl h
  | succ n =>
    show added _ _ (if (n + 1) % 16 = 0 then _ else _) _ = _
    rw [if_neg h]
    rfl

/-- What the output's buffer holds after point `t`. -/
def outAt (c : Dev nD) (t : Fin cfg0.N) : Vec F S1024x2048 .f32 :=
  if t.val % 16 = 15 then finished (X0_0 m c t) (iblk m c 1 t) (accAt m c t.val t.isLt) else accAt m c t.val t.isLt

/-- The scratch buffer, whole. -/
abbrev scr : Memref sig .tc .vmem S1024x2048 .bf16 := Memref.whole cc0_scratch0

/-- The scratch at anything, and the generator register. -/
theorem inv_eq (c : Dev nD) : (Pipeline.ΦA spec0 c : sProp 𝕄)
    = iprop(iprop((∃ d, owns (c : Thread nD τ) scr fullShare d)) ∗ (∃ r, prngReg c r)) := by
  unfold Pipeline.ΦA; rw [scopedRest0_eq]; simp only [scr, owns_whole]; try rfl

/-- The invariant before position `n`: nothing known of the scratch at the start, afterwards the rows of the block the
    point before belongs to. -/
def PhiS (c : Dev nD) : (n : ℕ) → n ≤ cfg0.N → sProp 𝕄
  | 0, _ => Pipeline.ΦA spec0 c
  | n + 1, hn => iprop(owns (c : Thread nD τ) scr fullShare (rowsAt m c ⟨n, hn⟩) ∗ (∃ r, prngReg c r))

theorem PhiS_pos (c : Dev nD) (n : ℕ) (h : n ≤ cfg0.N) (hz : n ≠ 0) :
    PhiS m c n h = iprop(owns (c : Thread nD τ) scr fullShare (rowsAt m c ⟨n - 1, by omega⟩) ∗ (∃ r, prngReg c r)) := by
  cases n with
  | zero => exact absurd rfl hz
  | succ n => rfl

/-- At any position the invariant gives the scratch at something. -/
theorem PhiS_any (c : Dev nD) (n : ℕ) (h : n ≤ cfg0.N) :
    PhiS m c n h ⊢ iprop(iprop((∃ d, owns (c : Thread nD τ) scr fullShare d)) ∗ (∃ r, prngReg c r)) := by
  cases n with
  | zero => rw [← inv_eq]; exact Idealize.SL.BI.Entails.refl _
  | succ n =>
    rw [PhiS_pos m c _ h (Nat.succ_ne_zero n)]
    iintro ⟨HS, Hg⟩
    isplitl [HS]; · iexists _; iexact HS
    iexact Hg

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = X0_0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- But at the first point of a block of rows, the output's buffer is found as the point before left it. -/
theorem before6 (c : Dev nD) (t : Fin cfg0.N) (h : ¬t.val % 16 = 0) (d) :
    (dats m 0 c).before 6 t d = accAt m c (t.val - 1) (lt_of_le_of_lt (Nat.sub_le _ _) t.isLt) := by
  rw [Dat.before_out_kept _ 6 rfl t (by omega) (Bool.eq_false_iff.mpr fun h => by have := (flush0_6 _).mp h; dsimp only at this; omega)
    (fun _ => rfl) (fun i a => clip6 i a), after6]
  unfold outAt
  exact if_neg (by show ¬(t.val - 1) % 16 = 15; omega)

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6]
  rw [show (dats m 0 c).Φ t.succ = PhiS m c (t.val + 1) t.isLt from rfl, PhiS_pos m c (t.val + 1) _ (Nat.succ_ne_zero _),
    show (⟨t.val + 1 - 1, by omega⟩ : Fin cfg0.N) = t from rfl, Phi_castSucc]
  unfold outAt
  by_cases h1 : t.val % 16 = 0
  · have h2 : ¬t.val % 16 = 15 := by omega
    rw [if_neg h2, accAt_first m c t h1, rowsAt_first m c t h1]
    iintro ⟨HP, Ho, ⟨%d0, H0⟩, ⟨%d1, H1⟩, ⟨%d2, H2⟩, ⟨%d3, H3⟩, ⟨%d4, H4⟩, ⟨%d5, H5⟩, ⟨%d6, H6⟩⟩
    ihave HP' := (PhiS_any m c t.val _) $$ HP
    icases HP' with ⟨HS, Hg⟩
    iapply (sound_first c Set.univ (grid0.coords t) _ _ _ _ _ _ _ _ _ _ _ (hstage0_5 ((cfg0.slots t 5).cast nbuf0_5)) _ _ _ _ ((first_iff t).mpr h1) (fun h => h2 ((last_iff t).mp h))
      (X0_0 m c t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H6]; · iexists _; iexact H6
    isplitl [HS]; · iexact HS
    iintro ⟨H0, H1, H2, H3, H4, H6, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := by omega
    have hr : rowsAt m c ⟨t.val - 1, by omega⟩ = rowsAt m c t := rowsAt_congr m c (by show (t.val - 1) / 16 = t.val / 16; omega)
    rw [PhiS_pos m c t.val _ hz, hr, accAt_next m c t h1]
    simp only [before6 m c t h1]
    by_cases h2 : t.val % 16 = 15
    · rw [if_pos h2]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (sound_last c Set.univ (grid0.coords t) _ _ _ _ _ (hstage0_2 ((cfg0.slots t 2).cast nbuf0_2)) _ _ _ _ _ (hstage0_5 ((cfg0.slots t 5).cast nbuf0_5)) _ _ _ _ (fun h => h1 ((first_iff t).mp h)) ((last_iff t).mpr h2)
        (X0_0 m c t) (iblk m c 1 t) (iblk m c 3 t) (iblk m c 4 t) _ (rowsAt m c t) _)
      isplitl [H0]; · iexact H0
      isplitl [H1]; · iexact H1
      isplitl [H3]; · iexact H3
      isplitl [H4]; · iexact H4
      isplitl [H6]; · iexact H6
      isplitl [HS]; · iexact HS
      iintro ⟨H0, H1, H3, H4, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [if_neg h2]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply (sound_middle c Set.univ (grid0.coords t) _ (hstage0_0 ((cfg0.slots t 0).cast nbuf0_0)) _ (hstage0_1 ((cfg0.slots t 1).cast nbuf0_1)) _ (hstage0_2 ((cfg0.slots t 2).cast nbuf0_2)) _ _ _ _ _ (hstage0_5 ((cfg0.slots t 5).cast nbuf0_5)) _ _ _ _ (fun h => h1 ((first_iff t).mp h)) (fun h => h2 ((last_iff t).mp h))
        (iblk m c 3 t) (iblk m c 4 t) _ (rowsAt m c t) _)
      isplitl [H3]; · iexact H3
      isplitl [H4]; · iexact H4
      isplitl [H6]; · iexact H6
      isplitl [HS]; · iexact HS
      iintro ⟨H3, H4, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

theorem hin (c : Dev nD) : Pipeline.ΦA spec0 c ⊢ (dats m 0 c).Φ 0 := by
  rw [show (dats m 0 c).Φ 0 = PhiS m c 0 (Nat.zero_le _) from rfl, PhiS]

theorem hout (c : Dev nD) : (dats m 0 c).Φ (Fin.last cfg0.N) ⊢ Pipeline.ΦA spec0 c := by
  rw [inv_eq, show (dats m 0 c).Φ (Fin.last cfg0.N) = PhiS m c cfg0.N (Nat.le_refl _) from rfl]
  exact PhiS_any m c _ _

-- the launch theorem's implicit arguments are found by unifying its conclusion with this one
set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every final state has each array of the pipeline at what the library computes from the proof data. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel6Ideal.Hand
-- ==== Proof.Mlp1Array.lean ====
module

public import proofs.«01_k».proof.Proof.MlpPay
public import proofs.«01_k».proof.Proof.Mlp1FrameIdeal
public import Idealize.ShloMosaic.Lib.Pipeline.ValueKit.Tiles
public import Idealize.ShloMosaic.Lib.StableHlo.Run

/-! # The final array of the first layer's MLP call

Grid point `16 q + s` works on row block `q` and on the hidden columns `512 s …`, as in the last layer's call. The arrays
have 33280 rows, of which the 32 row blocks are the first 32768. A payload that is the last layer's, entry for entry, is
read by that call's lemma. -/

@[expose] public section

set_option maxRecDepth 16384

noncomputable section

namespace Cert.Kernel6Ideal.Hand

open Cert.Kernel6Ideal Cert.Kernel6Ideal.Gen Cert.Rows
open Idealize.ShloMosaic Idealize.ShloMosaic.TcCoe Idealize.ShloMosaic.ValueIdx
open Idealize.SL.Sem
open scoped BigOperators

variable (m : (ℓ : Loc nD τ sig) → Buf (Elt Ideal) ℓ)

/-! ## Which block a point works on -/

theorem index0 : ∀ t : Fin cfg0.N, win0_0.index t 0 = t.val / 16 ∧ win0_0.index t 1 = 0 :=
  (by decide +kernel : ∀ t : Fin grid0.N, win0_0.index t 0 = t.val / 16 ∧ win0_0.index t 1 = 0)

theorem index1 : ∀ t : Fin cfg0.N, win0_1.index t 0 = 1 + t.val / 256 ∧ win0_1.index t 1 = 0 ∧ win0_1.index t 2 = 0 :=
  (by decide +kernel : ∀ t : Fin grid0.N, win0_1.index t 0 = 1 + t.val / 256 ∧ win0_1.index t 1 = 0 ∧ win0_1.index t 2 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = 0 ∧ win0_3.index t 1 = t.val % 16 :=
  (by decide +kernel : ∀ t : Fin grid0.N, win0_3.index t 0 = 0 ∧ win0_3.index t 1 = t.val % 16)

theorem index4 : ∀ t : Fin cfg0.N, win0_4.index t 0 = t.val % 16 ∧ win0_4.index t 1 = 0 :=
  (by decide +kernel : ∀ t : Fin grid0.N, win0_4.index t 0 = t.val % 16 ∧ win0_4.index t 1 = 0)

theorem index5 : ∀ t : Fin cfg0.N, win0_5.index t 0 = 0 ∧ win0_5.index t 1 = 0 :=
  (by decide +kernel : ∀ t : Fin grid0.N, win0_5.index t 0 = 0 ∧ win0_5.index t 1 = 0)

theorem index6 : ∀ t : Fin cfg0.N, win0_6.index t 0 = t.val / 16 ∧ win0_6.index t 1 = 0 :=
  (by decide +kernel : ∀ t : Fin grid0.N, win0_6.index t 0 = t.val / 16 ∧ win0_6.index t 1 = 0)

/-- A point that writes the block back writes all of it, -/
theorem xsize6 : ∀ t : Fin cfg0.N, ∀ a, (cfg0.win 6).xsize (cfg0.grid.coords t) a = (cfg0.win 6).size a := by decide +kernel

/-- and no two row blocks overlap. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne (Fin.ext (by
    have h0 := congrFun h 0
    rw [show (cfg0.win 6).index t 0 = _ from (index6 t).1, show (cfg0.win 6).index t' 0 = _ from (index6 t').1] at h0
    have h1 := (flush0_6 t).1 hf
    have h2 := (flush0_6 t').1 hf'
    omega))

/-! ## The blocks read -/

/-- The gain, as the region finds it. -/
theorem V_main_v0 (c : Dev nD) : V m c main_v0 = shapeCast S1x2048 (m ((c : Thread nD τ).loc main_arg2)) shapeCasts_S2048_S1x2048 := by
  show StableHlo.after hostOps0 _ (Proc.devRef .tc main_v0) = _
  after_results
  rfl

theorem rows_in (c : Dev nD) (t : Fin cfg0.N) (i : Fin 1024) (k : Fin 2048) (r : Fin 33280) (hr : r.val = 1024 * (t.val / 16) + i.val) :
    X0_0 m c t (ix2 i k) = m ((c : Thread nD τ).loc main_arg0) (ix2 r k) := by
  unfold X0_0 Pipeline.Window.fill
  rw [dif_pos (moved0_0 t (ix2 i k))]
  refine (congrArg (V m c main_arg0) ?_).trans (congrFun (V_main_arg0 m c) _)
  funext a
  match a with
  | ⟨0, _⟩ =>
    refine Fin.ext ?_
    show win0_0.index t 0 * 1024 + 1 * i.val = r.val
    rw [(index0 t).1, hr]; omega
  | ⟨1, _⟩ =>
    refine Fin.ext ?_
    show win0_0.index t 1 * 2048 + 1 * k.val = k.val
    rw [(index0 t).2]; omega

theorem mods_in (c : Dev nD) (t : Fin cfg0.N) (k : Fin 12288) (b : Fin 8) (hb : b.val = 1 + t.val / 256) :
    iblk m c 1 t (ix3 (0 : Fin 1) (0 : Fin 1) k) = m ((c : Thread nD τ).loc main_arg1) (ix3 b (0 : Fin 1) k) := by
  refine (congrArg (V m c main_arg1) ?_).trans (congrFun (V_main_arg1 m c) _)
  funext a
  match a with
  | ⟨0, _⟩ =>
    refine Fin.ext ?_
    show win0_1.index t 0 * 1 + 1 * 0 = b.val
    rw [(index1 t).1, hb]; omega
  | ⟨1, _⟩ =>
    refine Fin.ext ?_
    show win0_1.index t 1 * 1 + 1 * 0 = 0
    rw [(index1 t).2.1]
  | ⟨2, _⟩ =>
    refine Fin.ext ?_
    show win0_1.index t 2 * 12288 + 1 * k.val = k.val
    rw [(index1 t).2.2]; omega

theorem gain_in (c : Dev nD) (t : Fin cfg0.N) (k : Fin 2048) :
    iblk m c 2 t (ix2 (0 : Fin 1) k) = m ((c : Thread nD τ).loc main_arg2) (ix1 k) := by
  refine ((congrArg (V m c main_v0) ?_).trans (congrFun (V_main_v0 m c) (ix2 (0 : Fin 1) k))).trans (shapeCast_a_1a_apply _ _ 0 k)
  funext a
  match a with
  | ⟨0, _⟩ =>
    refine Fin.ext ?_
    show win0_2.index t 0 * 1 + 1 * 0 = 0
    rw [(index2 t).1]
  | ⟨1, _⟩ =>
    refine Fin.ext ?_
    show win0_2.index t 1 * 2048 + 1 * k.val = k.val
    rw [(index2 t).2]; omega

theorem up_in (c : Dev nD) (t : Fin cfg0.N) (k : Fin 2048) (e : Fin 512) (f : Fin 8192) (hf : f.val = 512 * (t.val % 16) + e.val) :
    iblk m c 3 t (ix2 k e) = m ((c : Thread nD τ).loc main_arg3) (ix2 k f) := by
  refine (congrArg (V m c main_arg3) ?_).trans (congrFun (V_main_arg3 m c) _)
  funext a
  match a with
  | ⟨0, _⟩ =>
    refine Fin.ext ?_
    show win0_3.index t 0 * 2048 + 1 * k.val = k.val
    rw [(index3 t).1]; omega
  | ⟨1, _⟩ =>
    refine Fin.ext ?_
    show win0_3.index t 1 * 512 + 1 * e.val = f.val
    rw [(index3 t).2, hf]; omega

theorem down_in (c : Dev nD) (t : Fin cfg0.N) (e : Fin 512) (k : Fin 2048) (f : Fin 8192) (hf : f.val = 512 * (t.val % 16) + e.val) :
    iblk m c 4 t (ix2 e k) = m ((c : Thread nD τ).loc main_arg4) (ix2 f k) := by
  refine (congrArg (V m c main_arg4) ?_).trans (congrFun (V_main_arg4 m c) _)
  funext a
  match a with
  | ⟨0, _⟩ =>
    refine Fin.ext ?_
    show win0_4.index t 0 * 512 + 1 * e.val = f.val
    rw [(index4 t).1, hf]; omega
  | ⟨1, _⟩ =>
    refine Fin.ext ?_
    show win0_4.index t 1 * 2048 + 1 * k.val = k.val
    rw [(index4 t).2]; omega

/-! ## One row -/

section
variable (c : Dev nD) (q : Fin 32) (i : Fin 1024)

/-- The row's place in the arrays, -/
abbrev rowNo : Fin 33280 := ⟨1024 * q.val + i.val, by have := q.isLt; have := i.isLt; omega⟩

/-- its entries, -/
def xrow (k : Fin 2048) : EReal := m ((c : Thread nD τ).loc main_arg0) (ix2 (rowNo q i) k)

/-- a part of its sequence's modulation, -/
def part (off : ℕ) (hoff : off + 2048 ≤ 12288) (k : Fin 2048) : EReal :=
  m ((c : Thread nD τ).loc main_arg1) (ix3 (⟨1 + q.val / 16, by have := q.isLt; omega⟩ : Fin 8) (0 : Fin 1) ⟨off + k.val, by have := k.isLt; omega⟩)

/-- the modulated row, -/
def yrow : Fin 2048 → EReal :=
  modulated (xrow m c q i) (fun k => m ((c : Thread nD τ).loc main_arg2) (ix1 k)) (part m c q 6144 (by omega)) (part m c q 8192 (by omega))

/-- and hidden unit `e`'s share of the row's output `j`. -/
def share (j : Fin 2048) (e : ℕ) : EReal :=
  Cert.Rows.share (yrow m c q i) (fun l e => m ((c : Thread nD τ).loc main_arg3) (ix2 l e)) (fun e k => m ((c : Thread nD τ).loc main_arg4) (ix2 e k)) j e

variable (t : Fin cfg0.N) (ht : t.val / 16 = q.val)

include ht

/-- A modulation vector read from the block. -/
theorem modAt_apply (off : ℕ) (hoff : off + 2048 ≤ 12288) (h : ∀ a, (![0, 0, off] : Fin 3 → ℕ) a + S1x1x2048.size a ≤ S1x1x12288.size a) (k : Fin 2048) :
    modAt off (iblk m c 1 t) h (ix3 (0 : Fin 1) (0 : Fin 1) k) = part m c q off hoff k := by
  refine (View.ld_unit_apply_of (S := S1x1x12288) (iblk m c 1 t) _ _ h _ (ix3 (0 : Fin 1) (0 : Fin 1) ⟨off + k.val, by have := k.isLt; omega⟩) fun a => ?_).trans ?_
  · match a with
    | ⟨0, _⟩ => rfl
    | ⟨1, _⟩ => rfl
    | ⟨2, _⟩ => rfl
  · exact mods_in m c t _ _ (by show 1 + q.val / 16 = _; omega)

theorem xrow_apply (k : Fin 2048) : X0_0 m c t (ix2 i k) = xrow m c q i k := rows_in m c t i k _ (by show 1024 * q.val + i.val = _; rw [ht])

omit ht in
/-- The scratch, at every point of the row block. -/
theorem rowsAt_apply (ht : t.val / 16 = q.val) (k : Fin 2048) : rowsAt m c t (ix2 i k) = yrow m c q i k := by
  have hu : (first t).val / 16 = q.val := by show 16 * (t.val / 16) / 16 = q.val; omega
  unfold rowsAt normed yrow
  refine (Cert.Kernel2Ideal.Hand.pay1_apply _ _ _ _ i k).trans ?_
  congr 1
  · exact funext fun k => xrow_apply m c q i (first t) hu k
  · exact funext fun k => gain_in m c (first t) k
  · exact funext fun k => modAt_apply m c q (first t) hu 6144 (by omega) _ k
  · exact funext fun k => modAt_apply m c q (first t) hu 8192 (by omega) _ k

/-- A step's addition: the shares of its 512 hidden units. -/
theorem step_apply (xo : Vec Ideal S1024x2048 .f32) (j : Fin 2048)
    (hxo : xo (ix2 i j) = ∑ e ∈ Finset.range (512 * (t.val % 16)), share m c q i j e) :
    added (F := Ideal) (rowsAt m c t) (iblk m c 3 t) xo (iblk m c 4 t) (ix2 i j)
      = ∑ e ∈ Finset.range (512 * (t.val % 16 + 1)), share m c q i j e := by
  unfold added
  refine (Cert.Kernel2Ideal.Hand.pay3_apply _ _ _ _ i j).trans ?_
  rw [hxo, show (fun k => rowsAt m c t (ix2 i k)) = yrow m c q i from funext fun k => rowsAt_apply m c q i t ht k]
  exact sum_share_slice _ _ _ j _ (Nat.mod_lt _ (by omega)) (fun l e => iblk m c 3 t (ix2 l e)) (fun e => iblk m c 4 t (ix2 e j))
    (fun l e => up_in m c t l e _ rfl) (fun e => down_in m c t e j _ rfl)

end

/-- The output block before its last point's gate. -/
theorem accAt_apply (c : Dev nD) (q : Fin 32) (s : ℕ) (hs : s < 16) (n : ℕ) (hn : n < cfg0.N) (he : n = 16 * q.val + s) (i : Fin 1024)
    (j : Fin 2048) : accAt m c n hn (ix2 i j) = ∑ e ∈ Finset.range (512 * (s + 1)), share m c q i j e := by
  induction s generalizing n with
  | zero =>
    let t : Fin cfg0.N := ⟨n, hn⟩
    have h0 : t.val % 16 = 0 := by show n % 16 = 0; omega
    have ht : t.val / 16 = q.val := by show n / 16 = _; omega
    refine (congrFun (accAt_first m c t h0) _).trans ((step_apply m c q i t ht _ j ?_).trans (by rw [h0]))
    rw [h0]
    exact Cert.Kernel2Ideal.Hand.pay2_apply i j
  | succ s ih =>
    let t : Fin cfg0.N := ⟨n, hn⟩
    have hm : t.val % 16 = s + 1 := by show n % 16 = _; omega
    have ht : t.val / 16 = q.val := by show n / 16 = _; omega
    refine (congrFun (accAt_next m c t (by omega)) _).trans ((step_apply m c q i t ht _ j ?_).trans (by rw [hm]))
    rw [hm]
    exact ih (by omega) (n - 1) (lt_of_le_of_lt (Nat.sub_le _ _) hn) (by omega)

/-- The last point's block. -/
theorem finished_apply (x0 : Vec Ideal S1024x2048 .f32) (x1 : Vec Ideal S1x1x12288 .f32) (acc : Vec Ideal S1024x2048 .f32) (i : Fin 1024) (j : Fin 2048) :
    finished (F := Ideal) x0 x1 acc (ix2 i j)
      = x0 (ix2 i j) + modAt 10240 x1 inb_S1x1x12288_S1x1x2048_0_0_10240 (ix3 (0 : Fin 1) (0 : Fin 1) j) * acc (ix2 i j) := by
  unfold finished k0_pay4
  simp only [shapeCast_self]
  refine congrArg (x0 (ix2 i j) + ·) (congrArg (· * acc (ix2 i j)) ((broadcastTo_1b_ab_apply _ _ i j).trans ?_))
  exact shapeCast_1ab_ab_apply _ _ 0 j

/-- What the last step leaves: the row with its gated sum. -/
theorem outAt_apply (c : Dev nD) (q : Fin 32) (t : Fin cfg0.N) (he : t.val = 16 * q.val + 15) (i : Fin 1024) (j : Fin 2048) :
    outAt m c t (ix2 i j)
      = residual (xrow m c q i) (fun k => m ((c : Thread nD τ).loc main_arg2) (ix1 k)) (part m c q 6144 (by omega)) (part m c q 8192 (by omega))
        (part m c q 10240 (by omega)) (fun k e => m ((c : Thread nD τ).loc main_arg3) (ix2 k e)) (fun e k => m ((c : Thread nD τ).loc main_arg4) (ix2 e k)) j := by
  have ht : t.val / 16 = q.val := by omega
  unfold outAt
  rw [if_pos (show t.val % 16 = 15 by omega)]
  refine (finished_apply _ _ _ i j).trans ?_
  refine congrArg₂ (· + ·) (xrow_apply m c q i t ht j) (congrArg₂ (· * ·) (modAt_apply m c q t ht 10240 (by omega) _ j) ?_)
  exact (accAt_apply m c q 15 (by omega) t.val t.isLt he i j).trans (sum_share _ _ _ j)

/-! ## The final array -/

/-- The index of window 6's moved block at point `t`. -/
def spot (t : Fin cfg0.N) (i : Fin 1024) (j : Fin 2048) : ((cfg0.win 6).xblock (cfg0.grid.coords t)).Idx := fun a => match a with
  | ⟨0, _⟩ => ⟨i.val, lt_of_lt_of_eq i.isLt (xsize6 t 0).symm⟩
  | ⟨1, _⟩ => ⟨j.val, lt_of_lt_of_eq j.isLt (xsize6 t 1).symm⟩

/-- **An entry of the final array, in a row below 32768.** -/
theorem array_apply (c : Dev nD) (q : Fin 32) (i : Fin 1024) (j : Fin 2048) :
    (dats m 0 c).arrAt 6 cfg0.N (ix2 (rowNo q i) j)
      = residual (xrow m c q i) (fun k => m ((c : Thread nD τ).loc main_arg2) (ix1 k)) (part m c q 6144 (by omega)) (part m c q 8192 (by omega))
        (part m c q 10240 (by omega)) (fun k e => m ((c : Thread nD τ).loc main_arg3) (ix2 k e)) (fun e k => m ((c : Thread nD τ).loc main_arg4) (ix2 e k)) j := by
  let t : Fin cfg0.N := ⟨16 * q.val + 15, lt_of_lt_of_eq (show 16 * q.val + 15 < 512 by have := q.isLt; omega) (N_0).symm⟩
  have hf : (cfg0.win 6).flush t = true := (flush0_6 t).2 (by show (16 * q.val + 15) % 16 = 15; omega)
  have h := congrFun ((dats m 0 c).read_blk_arrAt_eq_flushed 6 disjoint6 cfg0.N t t.isLt hf) (spot t i j)
  have he : ((cfg0.win 6).blk t).view.emb (spot t i j) = ix2 (rowNo q i) j := by
    funext a
    match a with
    | ⟨0, _⟩ =>
      refine Fin.ext ?_
      show win0_6.index t 0 * 1024 + 1 * i.val = 1024 * q.val + i.val
      rw [(index6 t).1, show t.val / 16 = q.val by show (16 * q.val + 15) / 16 = _; omega]; omega
    | ⟨1, _⟩ =>
      refine Fin.ext ?_
      show win0_6.index t 1 * 2048 + 1 * j.val = j.val
      rw [(index6 t).2]; omega
  have hx : (cfg0.win 6).xinj (cfg0.grid.coords t) (spot t i j) = ix2 i j := by
    funext a
    match a with
    | ⟨0, _⟩ => rfl
    | ⟨1, _⟩ => rfl
  refine (congrArg ((dats m 0 c).arrAt 6 cfg0.N) he.symm).trans (h.trans ?_)
  show (dats m 0 c).after 6 t ((cfg0.win 6).xinj (cfg0.grid.coords t) (spot t i j)) = _
  rw [after6, hx]
  exact outAt_apply m c q t rfl i j

end Cert.Kernel6Ideal.Hand
-- ==== Proof.Mlp1Reference.lean ====
module

public import proofs.«01_k».proof.Proof.MlpReference
public import proofs.«01_k».proof.Proof.Gen.Reference6Ideal.Run
public import proofs.«01_k».proof.Proof.Gen.Reference6Ideal.Read
public import Idealize.ShloMosaic.Lib.KernelVsHost

/-! # The first layer's MLP reference, entry by entry

On the latent tokens' rows it is the last layer's reference before its final normalisation, taken of the first 32768 rows
of the array. -/

@[expose] public section

set_option maxRecDepth 16384

noncomputable section

namespace Cert.Reference6Ideal.Hand

open Cert.Reference6Ideal Cert.Reference6Ideal.Read Cert.Rows
open Cert.Reference2Ideal.Hand (at' part)
open Idealize.ShloMosaic Idealize.ShloMosaic.ValueIdx
open scoped BigOperators

variable (x0 : FVec Ideal S33280x2048 .f32) (x1 : FVec Ideal S8x1x12288 .f32) (x2 : FVec Ideal S2048 .f32)
  (x3 : FVec Ideal S2048x8192 .bf16) (x4 : FVec Ideal S8192x2048 .bf16)

/-- The latent tokens' rows. -/
theorem latent_apply (b : Fin 2) (i : Fin 16384) (j : Fin 2048) (r : Fin 33280) (hr : r.val = (at' b i).val) :
    val_main_v0 (F := Ideal) x0 (ix2 (at' b i) j) = x0 (ix2 r j) := by
  rw [val_main_v0_apply]
  refine congrArg x0 (funext fun a => Fin.ext ?_)
  match a with
  | ⟨0, _⟩ => exact hr.symm
  | ⟨1, _⟩ => rfl

/-- **An entry of the result, in a row below 32768.** -/
theorem result_apply (b : Fin 2) (i : Fin 16384) (j : Fin 2048) (r : Fin 33280) (hr : r.val = (at' b i).val) :
    val_main_v38 (F := Ideal) x0 x1 x2 x3 x4 (ix2 r j)
      = residual (fun k => x0 (ix2 r k)) (fun k => x2 (ix1 k)) (part x1 6144 (by omega) b) (part x1 8192 (by omega) b)
        (part x1 10240 (by omega) b) (fun k e => x3 (ix2 k e)) (fun e k => x4 (ix2 e k)) j := by
  have hb := b.isLt
  have hi := i.isLt
  have hj := j.isLt
  have hx : idx_main_v37 (ix2 (at' b i) j) = ix3 b i j := by
    refine funext fun a => Fin.ext ?_
    match a with
    | ⟨0, _⟩ =>
      show ((16384 * b.val + i.val) * 2048 + j.val) / 33554432 = b.val
      omega
    | ⟨1, _⟩ =>
      show ((16384 * b.val + i.val) * 2048 + j.val) / 2048 % 16384 = i.val
      omega
    | ⟨2, _⟩ =>
      show ((16384 * b.val + i.val) * 2048 + j.val) % 2048 = j.val
      omega
  unfold val_main_v38
  refine (pad_apply_of_inside _ _ _ _ _ _ _ _ (ix2 (at' b i) j) fun a => ?_).trans ?_
  · match a with
    | ⟨0, _⟩ => exact hr.trans (by show (at' b i).val = 0 + (at' b i).val * 1; omega)
    | ⟨1, _⟩ => show j.val = 0 + j.val * 1; omega
  · rw [val_main_v37_apply, hx,
      show val_main_v36 (F := Ideal) x0 x1 x2 x3 x4
        = Cert.Reference2Ideal.Read.val_main_v35 (F := Ideal) (val_main_v0 (F := Ideal) x0) x1 x2 x3 x4 from rfl,
      Cert.Reference2Ideal.Hand.residual_apply]
    simp only [latent_apply x0 b i _ r hr]
    rfl

end Cert.Reference6Ideal.Hand
-- ==== Proof.Mlp1Claim.lean ====
module

public import proofs.«01_k».proof.Defs
public import proofs.«01_k».proof.Proof.Mlp1Array
public import proofs.«01_k».proof.Proof.Mlp1Reference
public import proofs.«01_k».proof.Proof.InProjClaim
public import proofs.«01_k».proof.Proof.Gen.On_latent_rows6

/-! # The first layer's MLP call and its reference agree

In every row below 32768, which are the rows the call writes, an entry of the result is the same function of one row, its
sequence's modulation, the gain and the weights. No precondition is needed. -/

@[expose] public section

set_option maxRecDepth 16384

noncomputable section

namespace Cert.Mlp1

open Idealize.ShloMosaic Idealize.ShloMosaic.TcCoe Idealize.ShloMosaic.ValueIdx
open Idealize.SL.Sem
open scoped BigOperators

section
variable (x0 : FVec Ideal On_latent_rows6.S33280x2048 .f32) (x1 : FVec Ideal On_latent_rows6.S8x1x12288 .f32)
  (x2 : FVec Ideal On_latent_rows6.S2048 .f32) (x3 : FVec Ideal On_latent_rows6.S2048x8192 .bf16)
  (x4 : FVec Ideal On_latent_rows6.S8192x2048 .bf16) (x5 : FVec Ideal On_latent_rows6.S2048 .f32)

/-- The mask is set at the rows below 32768. -/
theorem mask_row (i : (⟨2, ![33280, 2048]⟩ : Shape).Idx) (h : Cert.On_latent_rows6.fn (F := Ideal) x0 x1 x2 x3 x4 x5 i = 1#1) :
    (i 0).val < 32768 :=
  Cert.InProj.row_lt (i 0).val (i 0).isLt h

end

open Cert.Kernel6Ideal Cert.Kernel6Ideal.Gen in
/-- A row below 32768 of the kernel's final array is the reference's. -/
theorem arrays_eq (m : (ℓ : Loc Cert.Kernel6Ideal.nD Cert.Kernel6Ideal.τ Cert.Kernel6Ideal.sig) → Buf (Elt Ideal) ℓ) (c : Dev Cert.Kernel6Ideal.nD)
    (r : Fin 33280) (j : Fin 2048) (hr : r.val < 32768) :
    (Cert.Kernel6Ideal.Hand.dats m 0 c).arrAt 6 cfg0.N (ix2 r j)
      = Cert.Reference6Ideal.Read.val_main_v38 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) (ix2 r j) := by
  let q : Fin 32 := ⟨r.val / 1024, by omega⟩
  let i : Fin 1024 := ⟨r.val % 1024, by omega⟩
  let b : Fin 2 := ⟨r.val / 16384, by omega⟩
  let p : Fin 16384 := ⟨r.val % 16384, by omega⟩
  have h1 : r = Cert.Kernel6Ideal.Hand.rowNo q i := Fin.ext (by show r.val = 1024 * (r.val / 1024) + r.val % 1024; omega)
  have h2 : r.val = (Cert.Reference2Ideal.Hand.at' b p).val := by show r.val = 16384 * (r.val / 16384) + r.val % 16384; omega
  have hl := Cert.Kernel6Ideal.Hand.array_apply m c q i j
  have hR := Cert.Reference6Ideal.Hand.result_apply (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) b p j r h2
  rw [← h1] at hl
  have hp (off : ℕ) (hoff : off + 2048 ≤ 12288) : Cert.Kernel6Ideal.Hand.part m c q off hoff
      = Cert.Reference2Ideal.Hand.part (m ((c.tc : Thread nD τ).loc main_arg1)) off hoff b := funext fun k => by
    unfold Cert.Kernel6Ideal.Hand.part Cert.Reference2Ideal.Hand.part
    refine congrArg (m ((c.tc : Thread nD τ).loc main_arg1)) (congrArg (ix3 · _ _) (Fin.ext ?_))
    show 1 + r.val / 1024 / 16 = 1 + r.val / 16384
    omega
  have hx : Cert.Kernel6Ideal.Hand.xrow m c q i = fun k => m ((c.tc : Thread nD τ).loc main_arg0) (ix2 r k) := funext fun k => by
    unfold Cert.Kernel6Ideal.Hand.xrow
    rw [← h1]
  rw [hl, hR, hx, hp, hp, hp]

open Cert.Kernel6Ideal Cert.Kernel6Ideal.Gen in
/-- **The claim of the first layer's MLP.** -/
theorem algebraic : Cert.algebraic_Kernel6Ideal_Reference6Ideal_on_latent_rows6 := by
  intro m g m' g' hpre heq
  refine ⟨fun c => (Cert.Kernel6Ideal.Hand.dats m 0 c).arrAt 6 cfg0.N, ?_, ?_⟩
  · refine (θ_run _ _ _).mono (fun r h c => ⟨fun i _ => congrFun ((h.1 c).1 6) i, h.2.1 c⟩)
      (θ_run_and (Cert.Kernel6Ideal.Hand.run_main m g) (Cert.Kernel6Ideal.Hand.frame m g))
  · refine (θ_run _ _ _).mono (fun r h c => ⟨fun i hi => ?_, (h c).2⟩) (Cert.Reference6Ideal.Value.run (F := Ideal) m' g')
    obtain ⟨e0, e1, e2, e3, e4, e5⟩ := heq c
    have hrow := mask_row _ _ _ _ _ _ i hi
    rw [(h c).1, Cert.Reference6Ideal.Read.val_main_v38_eq, e0, e1, e2, e3, e4, Cert.InProj.pair_eq i]
    exact (arrays_eq m c (i 0) (i 1) hrow).symm

end Cert.Mlp1
-- ==== Proof.lean ====
/- The claim.

Each program's run ends with its arguments unchanged and its semaphores at zero; each idealization rewrites nothing; and
each call leaves, with exact arithmetic, what its reference leaves. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.AttnFrame
public import proofs.«01_k».proof.Proof.AttnClaim
public import proofs.«01_k».proof.Proof.Gen.Kernel2.Frame
public import proofs.«01_k».proof.Proof.Gen.Kernel2Ideal.Frame
public import proofs.«01_k».proof.Proof.Gen.Reference2Ideal.Run
public import proofs.«01_k».proof.Proof.MlpClaim
public import proofs.«01_k».proof.Proof.Gen.Kernel3.Frame
public import proofs.«01_k».proof.Proof.Gen.Kernel3Ideal.Frame
public import proofs.«01_k».proof.Proof.Gen.Reference3Ideal.Run
public import proofs.«01_k».proof.Proof.InProjFrame
public import proofs.«01_k».proof.Proof.InProjClaim
public import proofs.«01_k».proof.Proof.Gen.Kernel4.Frame
public import proofs.«01_k».proof.Proof.Gen.Kernel4Ideal.Frame
public import proofs.«01_k».proof.Proof.Gen.Reference4Ideal.Run
public import proofs.«01_k».proof.Proof.MergeClaim
public import proofs.«01_k».proof.Proof.Gen.Kernel5.Frame
public import proofs.«01_k».proof.Proof.Gen.Kernel5Ideal.Frame
public import proofs.«01_k».proof.Proof.Gen.Reference5Ideal.Run
public import proofs.«01_k».proof.Proof.OutProjClaim
public import proofs.«01_k».proof.Proof.Gen.Kernel6.Frame
public import proofs.«01_k».proof.Proof.Gen.Kernel6Ideal.Frame
public import proofs.«01_k».proof.Proof.Gen.Reference6Ideal.Run
public import proofs.«01_k».proof.Proof.Mlp1Frame
public import proofs.«01_k».proof.Proof.Mlp1Claim
public import Idealize.ShloMosaic.Adequacy
public import Idealize.ShloMosaic.Init
public import Idealize.ShloMosaic.Lib.Quiescent

@[expose] public section

noncomputable section

namespace Cert.Proof

open Idealize.ShloMosaic Idealize.SL.Sem

theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Pre_finite.Gen.facts,
  Cert.On_latent_rows.Gen.facts,
  Cert.On_latent_rows3.Gen.facts,
  Cert.On_latent_rows6.Gen.facts,
  fun m ρ _ => Cert.Kernel.Hand.frame m ρ,
  fun m ρ _ => Cert.KernelIdeal.Hand.frame m ρ,
  fun m ρ _ => Cert.KernelIdeal.Hand.frame m ρ,
  fun m ρ _ => (θ_run _ _ _).mono (fun r h => ⟨fun c => (h c).2, sem_eq_zero_of_no_sems (by decide) r.2⟩)
    (Cert.ReferenceIdeal.Value.run m ρ),
  fun m ρ _ => (θ_run _ _ _).mono (fun r h => ⟨fun c => (h c).2, sem_eq_zero_of_no_sems (by decide) r.2⟩)
    (Cert.ReferenceIdeal.Value.run m ρ),
  fun m ρ _ => Cert.Kernel2.Gen.frame m ρ,
  fun m ρ _ => Cert.Kernel2Ideal.Gen.frame m ρ,
  fun m ρ _ => (θ_run _ _ _).mono (fun r h => ⟨fun c => (h c).2, sem_eq_zero_of_no_sems (by decide) r.2⟩)
    (Cert.Reference2Ideal.Value.run m ρ),
  fun m ρ _ => Cert.Kernel3.Hand.frame m ρ,
  fun m ρ _ => Cert.Kernel3Ideal.Hand.frame m ρ,
  fun m ρ _ => (θ_run _ _ _).mono (fun r h => ⟨fun c => (h c).2.2, sem_eq_zero_of_no_sems (by decide) r.2⟩)
    (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2, sem_eq_zero_of_no_sems (by decide) r.2⟩)
    (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2, sem_eq_zero_of_no_sems (by decide) r.2⟩)
    (Cert.Reference5Ideal.Value.run m ρ),
  fun m ρ _ => Cert.Kernel6.Hand.frame m ρ,
  fun m ρ _ => Cert.Kernel6Ideal.Hand.frame m ρ,
  fun m ρ _ => (θ_run _ _ _).mono (fun r h => ⟨fun c => (h c).2, sem_eq_zero_of_no_sems (by decide) r.2⟩)
    (Cert.Reference6Ideal.Value.run m ρ),
  trivial,
  Cert.Attn.algebraic,
  trivial,
  Cert.Mlp.algebraic,
  trivial,
  Cert.InProj.algebraic,
  trivial,
  Cert.Merge.algebraic,
  trivial,
  Cert.OutProj.algebraic,
  trivial,
  Cert.Mlp1.algebraic⟩

end Cert.Proof

end
